-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E16C740#32 (((Real.sqrt 96)⁻¹ * (Real.log 2)⁻¹ : ℝ) : EReal)

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v81) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v19)) (v4 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v19) = v3 c
          ∧ r.2.mem ((c.tc : Thread Cert.Kernel6Ideal.nD Cert.Kernel6Ideal.τ).loc Cert.Kernel6Ideal.main_v20) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_v29) = v3 c
          ∧ r.2.mem ((c.tc : Thread Cert.Reference6Ideal.nD Cert.Reference6Ideal.τ).loc Cert.Reference6Ideal.main_v31) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v63) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_v48) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_rows (hKernelIdeal := hKernelIdeal) (hReferenceIdeal := hReferenceIdeal) (hPre_finite_rows := hPre_finite_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_rows.lean ====
abbrev S17408x1024 : Shape := ⟨2, ![17408, 1024]⟩
abbrev S4x4096x16x288 : Shape := ⟨4, ![4, 4096, 16, 288]⟩
abbrev S4x4096x288 : Shape := ⟨3, ![4, 4096, 288]⟩
abbrev S256x2048 : Shape := ⟨2, ![256, 2048]⟩
abbrev S1024x1024 : Shape := ⟨2, ![1024, 1024]⟩
abbrev S_ : Shape := ⟨0, ![]⟩
abbrev S4x4096x1x288 : Shape := ⟨4, ![4, 4096, 1, 288]⟩

class Facts : Prop where
  bcast_S_S4x4096x16x288 : S_.BroadcastsInDim S4x4096x16x288 (![] : Fin 0 → Fin S4x4096x16x288.rank)
  bcast_S4x4096x288_S4x4096x1x288_0_1_3 : S4x4096x288.BroadcastsInDim S4x4096x1x288 (![0, 1, 3] : Fin 3 → Fin S4x4096x1x288.rank)
  bcast_S_S4x4096x1x288 : S_.BroadcastsInDim S4x4096x1x288 (![] : Fin 0 → Fin S4x4096x1x288.rank)
  bcast_S4x4096x1x288_S4x4096x16x288_0_1_2_3 : S4x4096x1x288.BroadcastsInDim S4x4096x16x288 (![0, 1, 2, 3] : Fin 4 → Fin S4x4096x16x288.rank)

variable [Facts]

def fn {F : FTy → Type} [FloatOps F] (main_arg0 : FVec F S17408x1024 .f32) (main_arg1 : FVec F S4x4096x16x288 .f32) (main_arg2 : FVec F S4x4096x288 .f32) (main_arg3 : FVec F S256x2048 .f32) (main_arg4 : FVec F S1024x1024 .f32) : IVec S4x4096x16x288 1 :=
  let main_v0 : FVec F S4x4096x16x288 .f32 := Host.absf main_arg1
  let main_cst : FVec F S_ .f32 := constant S_ .f32 0x7F800000#32
  let main_v1 : FVec F S4x4096x16x288 .f32 := broadcastInDim S4x4096x16x288 ![] bcast_S_S4x4096x16x288 main_cst
  let main_v2 : IVec S4x4096x16x288 1 := cmpf .olt main_v0 main_v1
  let main_v3 : FVec F S4x4096x288 .f32 := Host.absf main_arg2
  let main_v4 : FVec F S4x4096x1x288 .f32 := broadcastInDim S4x4096x1x288 ![0, 1, 3] bcast_S4x4096x288_S4x4096x1x288_0_1_3 main_v3
  let main_cst_0 : FVec F S_ .f32 := constant S_ .f32 0x7F800000#32
  let main_v5 : FVec F S4x4096x1x288 .f32 := broadcastInDim S4x4096x1x288 ![] bcast_S_S4x4096x1x288 main_cst_0
  let main_v6 : IVec S4x4096x1x288 1 := cmpf .olt main_v4 main_v5
  let main_v7 : IVec S4x4096x16x288 1 := broadcastInDim S4x4096x16x288 ![0, 1, 2, 3] bcast_S4x4096x1x288_S4x4096x16x288_0_1_2_3 main_v6
  let main_v8 : IVec S4x4096x16x288 1 := andi main_v2 main_v7
  main_v8
-- ==== Kernel.lean ====
abbrev S17408x1024 : Shape := ⟨2, ![17408, 1024]⟩
abbrev S4x4096x16x288 : Shape := ⟨4, ![4, 4096, 16, 288]⟩
abbrev S4x4096x288 : Shape := ⟨3, ![4, 4096, 288]⟩
abbrev S256x2048 : Shape := ⟨2, ![256, 2048]⟩
abbrev S1024x1024 : Shape := ⟨2, ![1024, 1024]⟩
abbrev S4x32x128x16x288 : Shape := ⟨5, ![4, 32, 128, 16, 288]⟩
abbrev S4x32x16x128x288 : Shape := ⟨5, ![4, 32, 16, 128, 288]⟩
abbrev S128x16x128x288 : Shape := ⟨4, ![128, 16, 128, 288]⟩
abbrev S16384x288 : Shape := ⟨2, ![16384, 288]⟩
abbrev S256x16x128 : Shape := ⟨3, ![256, 16, 128]⟩
abbrev S256x16x64 : Shape := ⟨3, ![256, 16, 64]⟩
abbrev S16x256x64 : Shape := ⟨3, ![16, 256, 64]⟩
abbrev S1x16x128x288 : Shape := ⟨4, ![1, 16, 128, 288]⟩
abbrev S4096x288 : Shape := ⟨2, ![4096, 288]⟩
abbrev S128x1024 : Shape := ⟨2, ![128, 1024]⟩
abbrev S2048x512 : Shape := ⟨2, ![2048, 512]⟩
abbrev S2048x128 : Shape := ⟨2, ![2048, 128]⟩
abbrev S2048x256 : Shape := ⟨2, ![2048, 256]⟩
abbrev S16x128x288 : Shape := ⟨3, ![16, 128, 288]⟩
abbrev S2048x288 : Shape := ⟨2, ![2048, 288]⟩
abbrev S512x288 : Shape := ⟨2, ![512, 288]⟩
abbrev S2048 : Shape := ⟨1, ![2048]⟩
abbrev S2048x1 : Shape := ⟨2, ![2048, 1]⟩
abbrev S512x256 : Shape := ⟨2, ![512, 256]⟩
abbrev S128x256 : Shape := ⟨2, ![128, 256]⟩
abbrev S1x256x64 : Shape := ⟨3, ![1, 256, 64]⟩
abbrev S256x64 : Shape := ⟨2, ![256, 64]⟩
abbrev S128x64 : Shape := ⟨2, ![128, 64]⟩

abbrev nBuf : Space → Nat
  | .hbm => 17
  | .vmem => 16
  | .smem => 0
  | _ => 0

abbrev bufTy : (tb : Table) → Fin (tcTables nBuf tb) → BufTy
  | .hbm, ⟨0, _⟩ => ⟨S17408x1024, .f32⟩
  | .hbm, ⟨1, _⟩ => ⟨S4x4096x16x288, .f32⟩
  | .hbm, ⟨2, _⟩ => ⟨S4x4096x288, .f32⟩
  | .hbm, ⟨3, _⟩ => ⟨S256x2048, .f32⟩
  | .hbm, ⟨4, _⟩ => ⟨S1024x1024, .f32⟩
  | .hbm, ⟨5, _⟩ => ⟨S4x32x128x16x288, .f32⟩
  | .hbm, ⟨6, _⟩ => ⟨S4x32x16x128x288, .f32⟩
  | .hbm, ⟨7, _⟩ => ⟨S128x16x128x288, .f32⟩
  | .hbm, ⟨8, _⟩ => ⟨S128x16x128x288, .bf16⟩
  | .hbm, ⟨9, _⟩ => ⟨S16384x288, .f32⟩
  | .hbm, ⟨10, _⟩ => ⟨S16384x288, .bf16⟩
  | .hbm, ⟨11, _⟩ => ⟨S256x16x128, .f32⟩
  | .hbm, ⟨12, _⟩ => ⟨S256x16x64, .f32⟩
  | .hbm, ⟨13, _⟩ => ⟨S16x256x64, .f32⟩
  | .hbm, ⟨14, _⟩ => ⟨S16x256x64, .bf16⟩
  | .hbm, ⟨15, _⟩ => ⟨S1024x1024, .bf16⟩
  | .hbm, ⟨16, _⟩ => ⟨S17408x1024, .f32⟩
  | .local _ .vmem, ⟨0, _⟩ => ⟨S1x16x128x288, .bf16⟩
  | .local _ .vmem, ⟨1, _⟩ => ⟨S1x16x128x288, .bf16⟩
  | .local _ .vmem, ⟨2, _⟩ => ⟨S4096x288, .bf16⟩
  | .local _ .vmem, ⟨3, _⟩ => ⟨S4096x288, .bf16⟩
  | .local _ .vmem, ⟨4, _⟩ => ⟨S128x1024, .f32⟩
  | .local _ .vmem, ⟨5, _⟩ => ⟨S128x1024, .f32⟩
  | .local _ .vmem, ⟨6, _⟩ => ⟨S16x256x64, .bf16⟩
  | .local _ .vmem, ⟨7, _⟩ => ⟨S1024x1024, .bf16⟩
  | .local _ .vmem, ⟨8, _⟩ => ⟨S128x1024, .f32⟩
  | .local _ .vmem, ⟨9, _⟩ => ⟨S128x1024, .f32⟩
  | .local _ .vmem, ⟨10, _⟩ => ⟨S2048x512, .f32⟩
  | .local _ .vmem, ⟨11, _⟩ => ⟨S2048x512, .f32⟩
  | .local _ .vmem, ⟨12, _⟩ => ⟨S2048x128, .f32⟩
  | .local _ .vmem, ⟨13, _⟩ => ⟨S2048x128, .f32⟩
  | .local _ .vmem, ⟨14, _⟩ => ⟨S2048x256, .f32⟩
  | .local _ .vmem, ⟨15, _⟩ => ⟨S128x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def k0_mult1 : BitVec 32 :=
  let c0_i32_15 : BitVec 32 := 0#32
  c0_i32_15
@[reducible] def k0_t1_loop (i : grid0.Coords) : Scf.Loop 32 :=
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_29 : BitVec 32 := 1#32
  ⟨c0_i32_27, v61, c1_i32_29⟩
def k0_mult2 (i : grid0.Coords) (k0_t1 : Fin (k0_t1_loop i).trips) : BitVec 32 :=
  let c2_i32_40 : BitVec 32 := 2#32
  let c0_i32_27 : BitVec 32 := 0#32
  let c1_i32_29 : BitVec 32 := 1#32
  let arg14 : BitVec 32 := Scf.iv c0_i32_27 c1_i32_29 k0_t1
  let v78 : BitVec 32 := Scalar.muli c2_i32_40 arg14
  let c1_i32_41 : BitVec 32 := 1#32
  let v79 : BitVec 32 := Scalar.addi v78 c1_i32_41
  let c512_i32 : BitVec 32 := 512#32
  let v80 : BitVec 32 := Scalar.muli v79 c512_i32
  v80
def k0_off1 (i : grid0.Coords) (k0_t1 : Fin (k0_t1_loop i).trips) : Fin 2 → Nat :=
  let c2_i32_40 : BitVec 32 := 2#32
  let c0_i32_27 : BitVec 32 := 0#32
  let c1_i32_29 : BitVec 32 := 1#32
  let arg14 : BitVec 32 := Scf.iv c0_i32_27 c1_i32_29 k0_t1
  let v78 : BitVec 32 := Scalar.muli c2_i32_40 arg14
  let c1_i32_41 : BitVec 32 := 1#32
  let v79 : BitVec 32 := Scalar.addi v78 c1_i32_41
  let c512_i32 : BitVec 32 := 512#32
  let v80 : BitVec 32 := Scalar.muli v79 c512_i32
  let v81 : BitVec 32 := v80
  let v82 : Index := Scalar.indexCast v81
  let c0_42 : Index := 0#32
  ![v82.toNat, 0]
def k0_mult3 (i : grid0.Coords) (k0_t1 : Fin (k0_t1_loop i).trips) : BitVec 32 :=
  let c2_i32_40 : BitVec 32 := 2#32
  let c0_i32_27 : BitVec 32 := 0#32
  let c1_i32_29 : BitVec 32 := 1#32
  let arg14 : BitVec 32 := Scf.iv c0_i32_27 c1_i32_29 k0_t1
  let v78 : BitVec 32 := Scalar.muli c2_i32_40 arg14
  let c512_i32_48 : BitVec 32 := 512#32
  let v90 : BitVec 32 := Scalar.muli v78 c512_i32_48
  v90
def k0_off2 (i : grid0.Coords) (k0_t1 : Fin (k0_t1_loop i).trips) : Fin 2 → Nat :=
  let c2_i32_40 : BitVec 32 := 2#32
  let c0_i32_27 : BitVec 32 := 0#32
  let c1_i32_29 : BitVec 32 := 1#32
  let arg14 : BitVec 32 := Scf.iv c0_i32_27 c1_i32_29 k0_t1
  let v78 : BitVec 32 := Scalar.muli c2_i32_40 arg14
  let c512_i32_48 : BitVec 32 := 512#32
  let v90 : BitVec 32 := Scalar.muli v78 c512_i32_48
  let v91 : BitVec 32 := v90
  let v92 : Index := Scalar.indexCast v91
  let c0_49 : Index := 0#32
  ![v92.toNat, 0]
def k0_mult4 (i : grid0.Coords) (k0_t1 : Fin (k0_t1_loop i).trips) : BitVec 32 :=
  let c2_i32_67 : BitVec 32 := 2#32
  let c0_i32_27 : BitVec 32 := 0#32
  let c1_i32_29 : BitVec 32 := 1#32
  let arg14 : BitVec 32 := Scf.iv c0_i32_27 c1_i32_29 k0_t1
  let v131 : BitVec 32 := Scalar.muli c2_i32_67 arg14
  let c1_i32_68 : BitVec 32 := 1#32
  let v132 : BitVec 32 := Scalar.addi v131 c1_i32_68
  let c1_i32_69 : BitVec 32 := 1#32
  let v133 : BitVec 32 := Scalar.addi v132 c1_i32_69
  let c512_i32_70 : BitVec 32 := 512#32
  let v134 : BitVec 32 := Scalar.muli v133 c512_i32_70
  v134
def k0_off3 (i : grid0.Coords) (k0_t1 : Fin (k0_t1_loop i).trips) : Fin 2 → Nat :=
  let c2_i32_67 : BitVec 32 := 2#32
  let c0_i32_27 : BitVec 32 := 0#32
  let c1_i32_29 : BitVec 32 := 1#32
  let arg14 : BitVec 32 := Scf.iv c0_i32_27 c1_i32_29 k0_t1
  let v131 : BitVec 32 := Scalar.muli c2_i32_67 arg14
  let c1_i32_68 : BitVec 32 := 1#32
  let v132 : BitVec 32 := Scalar.addi v131 c1_i32_68
  let c1_i32_69 : BitVec 32 := 1#32
  let v133 : BitVec 32 := Scalar.addi v132 c1_i32_69
  let c512_i32_70 : BitVec 32 := 512#32
  let v134 : BitVec 32 := Scalar.muli v133 c512_i32_70
  let v135 : BitVec 32 := v134
  let v136 : Index := Scalar.indexCast v135
  let c0_71 : Index := 0#32
  ![v136.toNat, 0]
def k0_mult5 (i : grid0.Coords) (k0_t1 : Fin (k0_t1_loop i).trips) : BitVec 32 :=
  let c2_i32_67 : BitVec 32 := 2#32
  let c0_i32_27 : BitVec 32 := 0#32
  let c1_i32_29 : BitVec 32 := 1#32
  let arg14 : BitVec 32 := Scf.iv c0_i32_27 c1_i32_29 k0_t1
  let v131 : BitVec 32 := Scalar.muli c2_i32_67 arg14
  let c1_i32_68 : BitVec 32 := 1#32
  let v132 : BitVec 32 := Scalar.addi v131 c1_i32_68
  let c512_i32_77 : BitVec 32 := 512#32
  let v144 : BitVec 32 := Scalar.muli v132 c512_i32_77
  v144
@[reducible] def k0_t2_loop (i : grid0.Coords) : Scf.Loop 32 :=
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let v58 : BitVec 32 := Scalar.addi c0_i32_27 v57
  let c1_i32_30 : BitVec 32 := 1#32
  ⟨v61, v58, c1_i32_30⟩
def k0_mult6 (i : grid0.Coords) (k0_t2 : Fin (k0_t2_loop i).trips) : BitVec 32 :=
  let c2_i32_40 : BitVec 32 := 2#32
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let v78 : BitVec 32 := Scalar.muli c2_i32_40 arg14
  let c1_i32_41 : BitVec 32 := 1#32
  let v79 : BitVec 32 := Scalar.addi v78 c1_i32_41
  let c512_i32 : BitVec 32 := 512#32
  let v80 : BitVec 32 := Scalar.muli v79 c512_i32
  v80
def k0_off4 (i : grid0.Coords) (k0_t2 : Fin (k0_t2_loop i).trips) : Fin 2 → Nat :=
  let c2_i32_40 : BitVec 32 := 2#32
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let v78 : BitVec 32 := Scalar.muli c2_i32_40 arg14
  let c1_i32_41 : BitVec 32 := 1#32
  let v79 : BitVec 32 := Scalar.addi v78 c1_i32_41
  let c512_i32 : BitVec 32 := 512#32
  let v80 : BitVec 32 := Scalar.muli v79 c512_i32
  let v81 : BitVec 32 := v80
  let v82 : Index := Scalar.indexCast v81
  let c0_42 : Index := 0#32
  ![v82.toNat, 0]
def k0_mult7 (i : grid0.Coords) (k0_t2 : Fin (k0_t2_loop i).trips) : BitVec 32 :=
  let c2_i32_40 : BitVec 32 := 2#32
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let v78 : BitVec 32 := Scalar.muli c2_i32_40 arg14
  let c512_i32_48 : BitVec 32 := 512#32
  let v90 : BitVec 32 := Scalar.muli v78 c512_i32_48
  v90
def k0_off5 (i : grid0.Coords) (k0_t2 : Fin (k0_t2_loop i).trips) : Fin 2 → Nat :=
  let c2_i32_40 : BitVec 32 := 2#32
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let v78 : BitVec 32 := Scalar.muli c2_i32_40 arg14
  let c512_i32_48 : BitVec 32 := 512#32
  let v90 : BitVec 32 := Scalar.muli v78 c512_i32_48
  let v91 : BitVec 32 := v90
  let v92 : Index := Scalar.indexCast v91
  let c0_49 : Index := 0#32
  ![v92.toNat, 0]
def k0_mult8 (i : grid0.Coords) (k0_t2 : Fin (k0_t2_loop i).trips) : BitVec 32 :=
  let c2_i32_67 : BitVec 32 := 2#32
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let v131 : BitVec 32 := Scalar.muli c2_i32_67 arg14
  let c1_i32_68 : BitVec 32 := 1#32
  let v132 : BitVec 32 := Scalar.addi v131 c1_i32_68
  let c1_i32_69 : BitVec 32 := 1#32
  let v133 : BitVec 32 := Scalar.addi v132 c1_i32_69
  let c512_i32_70 : BitVec 32 := 512#32
  let v134 : BitVec 32 := Scalar.muli v133 c512_i32_70
  v134
def k0_off6 (i : grid0.Coords) (k0_t2 : Fin (k0_t2_loop i).trips) : Fin 2 → Nat :=
  let c2_i32_67 : BitVec 32 := 2#32
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let v131 : BitVec 32 := Scalar.muli c2_i32_67 arg14
  let c1_i32_68 : BitVec 32 := 1#32
  let v132 : BitVec 32 := Scalar.addi v131 c1_i32_68
  let c1_i32_69 : BitVec 32 := 1#32
  let v133 : BitVec 32 := Scalar.addi v132 c1_i32_69
  let c512_i32_70 : BitVec 32 := 512#32
  let v134 : BitVec 32 := Scalar.muli v133 c512_i32_70
  let v135 : BitVec 32 := v134
  let v136 : Index := Scalar.indexCast v135
  let c0_71 : Index := 0#32
  ![v136.toNat, 0]
def k0_mult9 (i : grid0.Coords) (k0_t2 : Fin (k0_t2_loop i).trips) : BitVec 32 :=
  let c2_i32_67 : BitVec 32 := 2#32
  let c0_i32_27 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_20 : BitVec 32 := 0#32
  let v41 : BitVec 1 := Scalar.cmpi .sgt v16 c0_i32_20
  let v42 : BitVec 32 := Scalar.extui v41
  let c0_i32_21 : BitVec 32 := 0#32
  let v43 : BitVec 1 := Scalar.cmpi .slt v16 c0_i32_21
  let v44 : BitVec 32 := Scalar.extui v43
  let v45 : BitVec 32 := Scalar.subi v42 v44
  let c2_i32 : BitVec 32 := 2#32
  let c0_i32_22 : BitVec 32 := 0#32
  let v46 : BitVec 1 := Scalar.cmpi .sgt c2_i32 c0_i32_22
  let v47 : BitVec 32 := Scalar.extui v46
  let c0_i32_23 : BitVec 32 := 0#32
  let v48 : BitVec 1 := Scalar.cmpi .slt c2_i32 c0_i32_23
  let v49 : BitVec 32 := Scalar.extui v48
  let v50 : BitVec 32 := Scalar.subi v47 v49
  let v51 : BitVec 1 := Scalar.cmpi .ne v45 v50
  let v52 : BitVec 32 := Scalar.remsi v16 c2_i32
  let c0_i32_24 : BitVec 32 := 0#32
  let v53 : BitVec 1 := Scalar.cmpi .ne v52 c0_i32_24
  let v54 : BitVec 1 := Scalar.andi v51 v53
  let v40 : BitVec 32 := Scalar.divsi v16 c2_i32
  let c1_i32_25 : BitVec 32 := 1#32
  let v55 : BitVec 32 := Scalar.subi v40 c1_i32_25
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let v131 : BitVec 32 := Scalar.muli c2_i32_67 arg14
  let c1_i32_68 : BitVec 32 := 1#32
  let v132 : BitVec 32 := Scalar.addi v131 c1_i32_68
  let c512_i32_77 : BitVec 32 := 512#32
  let v144 : BitVec 32 := Scalar.muli v132 c512_i32_77
  v144
def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c2_i32_31 : BitVec 32 := 2#32
  let c0_i32_32 : BitVec 32 := 0#32
  let v62 : BitVec 1 := Scalar.cmpi .eq c2_i32_31 c0_i32_32
  let c1_i32_33 : BitVec 32 := 1#32
  let v63 : BitVec 32 := Scalar.select v62 c1_i32_33 c2_i32_31
  let v64 : BitVec 32 := Scalar.remsi v16 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  let c1_i32_37 : BitVec 32 := 1#32
  let v72 : BitVec 1 := Scalar.cmpi .eq v71 c1_i32_37
  let v73 : BitVec 32 := Scalar.extui v72
  let c0_i32_38 : BitVec 32 := 0#32
  let v74 : BitVec 1 := Scalar.cmpi .ne v73 c0_i32_38
  v74

def k0_mult10 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_40 : BitVec 32 := 1#32
  let v78 : BitVec 32 := Scalar.subi v16 c1_i32_40
  let c1_i32_41 : BitVec 32 := 1#32
  let v79 : BitVec 32 := Scalar.addi v78 c1_i32_41
  let c512_i32 : BitVec 32 := 512#32
  let v80 : BitVec 32 := Scalar.muli v79 c512_i32
  v80
def k0_off7 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_40 : BitVec 32 := 1#32
  let v78 : BitVec 32 := Scalar.subi v16 c1_i32_40
  let c1_i32_41 : BitVec 32 := 1#32
  let v79 : BitVec 32 := Scalar.addi v78 c1_i32_41
  let c512_i32 : BitVec 32 := 512#32
  let v80 : BitVec 32 := Scalar.muli v79 c512_i32
  let v81 : BitVec 32 := v80
  let v82 : Index := Scalar.indexCast v81
  let c0_42 : Index := 0#32
  ![v82.toNat, 0]
def k0_mult11 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_40 : BitVec 32 := 1#32
  let v78 : BitVec 32 := Scalar.subi v16 c1_i32_40
  let c512_i32_48 : BitVec 32 := 512#32
  let v90 : BitVec 32 := Scalar.muli v78 c512_i32_48
  v90
def k0_off8 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_40 : BitVec 32 := 1#32
  let v78 : BitVec 32 := Scalar.subi v16 c1_i32_40
  let c512_i32_48 : BitVec 32 := 512#32
  let v90 : BitVec 32 := Scalar.muli v78 c512_i32_48
  let v91 : BitVec 32 := v90
  let v92 : Index := Scalar.indexCast v91
  let c0_49 : Index := 0#32
  ![v92.toNat, 0]
def k0_mult12 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c512_i32_71 : BitVec 32 := 512#32
  let v144 : BitVec 32 := Scalar.muli v16 c512_i32_71
  v144
def k0_off9 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c512_i32_71 : BitVec 32 := 512#32
  let v144 : BitVec 32 := Scalar.muli v16 c512_i32_71
  let v145 : BitVec 32 := v144
  let v146 : Index := Scalar.indexCast v145
  let c0_72 : Index := 0#32
  ![v146.toNat, 0]
def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c2_i32_31 : BitVec 32 := 2#32
  let c0_i32_32 : BitVec 32 := 0#32
  let v62 : BitVec 1 := Scalar.cmpi .eq c2_i32_31 c0_i32_32
  let c1_i32_33 : BitVec 32 := 1#32
  let v63 : BitVec 32 := Scalar.select v62 c1_i32_33 c2_i32_31
  let v64 : BitVec 32 := Scalar.remsi v16 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  let c1_i32_37 : BitVec 32 := 1#32
  let v72 : BitVec 1 := Scalar.cmpi .eq v71 c1_i32_37
  let v_true : BitVec 1 := 1#1
  let v75 : BitVec 1 := Scalar.xori v72 v_true
  let v76 : BitVec 32 := Scalar.extui v75
  let c0_i32_39 : BitVec 32 := 0#32
  let v77 : BitVec 1 := Scalar.cmpi .ne v76 c0_i32_39
  v77

def k0_mult13 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c512_i32_43 : BitVec 32 := 512#32
  let v91 : BitVec 32 := Scalar.muli v16 c512_i32_43
  v91
def k0_off10 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c512_i32_43 : BitVec 32 := 512#32
  let v91 : BitVec 32 := Scalar.muli v16 c512_i32_43
  let v92 : BitVec 32 := v91
  let v93 : Index := Scalar.indexCast v92
  let c0_44 : Index := 0#32
  ![v93.toNat, 0]
def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x128x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | "scale_log2e" => some (((Real.sqrt 96)⁻¹ * (Real.log 2)⁻¹ : ℝ) : EReal)
  | _ => none
-- ==== ReferenceIdeal.lean ====
abbrev S17408x1024 : Shape := ⟨2, ![17408, 1024]⟩
abbrev S4x4096x16x288 : Shape := ⟨4, ![4, 4096, 16, 288]⟩
abbrev S4x4096x288 : Shape := ⟨3, ![4, 4096, 288]⟩
abbrev S256x2048 : Shape := ⟨2, ![256, 2048]⟩
abbrev S1024x1024 : Shape := ⟨2, ![1024, 1024]⟩
abbrev S256x16x128 : Shape := ⟨3, ![256, 16, 128]⟩
abbrev S256x16x64 : Shape := ⟨3, ![256, 16, 64]⟩
abbrev S4096 : Shape := ⟨1, ![4096]⟩
abbrev S4x4096x4096x16 : Shape := ⟨4, ![4, 4096, 4096, 16]⟩
abbrev S4x16x4096x4096 : Shape := ⟨4, ![4, 16, 4096, 4096]⟩
abbrev S_ : Shape := ⟨0, ![]⟩
abbrev S1x1x1x4096 : Shape := ⟨4, ![1, 1, 1, 4096]⟩
abbrev S1x1x4096x1 : Shape := ⟨4, ![1, 1, 4096, 1]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x4096x256 : Shape := ⟨3, ![4, 4096, 256]⟩
abbrev S4x256x16x4096 : Shape := ⟨4, ![4, 256, 16, 4096]⟩
abbrev S4x4096x16x256 : Shape := ⟨4, ![4, 4096, 16, 256]⟩
abbrev S16x64x4x4096 : Shape := ⟨4, ![16, 64, 4, 4096]⟩
abbrev S4x4096x16x64 : Shape := ⟨4, ![4, 4096, 16, 64]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x4096x16x288, .f32⟩
  | .hbm, ⟨2, _⟩ => ⟨S4x4096x288, .f32⟩
  | .hbm, ⟨3, _⟩ => ⟨S256x2048, .f32⟩
  | .hbm, ⟨4, _⟩ => ⟨S1024x1024, .f32⟩
  | .hbm, ⟨5, _⟩ => ⟨S256x16x128, .f32⟩
  | .hbm, ⟨6, _⟩ => ⟨S256x16x64, .f32⟩
  | .hbm, ⟨7, _⟩ => ⟨S4096, .i32⟩
  | .hbm, ⟨8, _⟩ => ⟨S4x4096x4096x16, .f32⟩
  | .hbm, ⟨9, _⟩ => ⟨S4x16x4096x4096, .f32⟩
  | .hbm, ⟨10, _⟩ => ⟨S_, .f32⟩
  | .hbm, ⟨11, _⟩ => ⟨S_, .f32⟩
  | .hbm, ⟨12, _⟩ => ⟨S4x16x4096x4096, .f32⟩
  | .hbm, ⟨13, _⟩ => ⟨S4x16x4096x4096, .f32⟩
  | .hbm, ⟨14, _⟩ => ⟨S1x1x1x4096, .i32⟩
  | .hbm, ⟨15, _⟩ => ⟨S1x1x4096x1, .i32⟩
  | .hbm, ⟨16, _⟩ => ⟨S1x1x4096x4096, .i32⟩
  | .hbm, ⟨17, _⟩ => ⟨S1x1x4096x4096, .i32⟩
  | .hbm, ⟨18, _⟩ => ⟨S1x1x4096x4096, .i1⟩
  | .hbm, ⟨19, _⟩ => ⟨S_, .f32⟩
  | .hbm, ⟨20, _⟩ => ⟨S_, .f32⟩
  | .hbm, ⟨21, _⟩ => ⟨S4x16x4096x4096, .i1⟩
  | .hbm, ⟨22, _⟩ => ⟨S4x16x4096x4096, .f32⟩
  | .hbm, ⟨23, _⟩ => ⟨S4x16x4096x4096, .f32⟩
  | .hbm, ⟨24, _⟩ => ⟨S_, .f32⟩
  | .hbm, ⟨25, _⟩ => ⟨S4x16x4096, .f32⟩
  | .hbm, ⟨26, _⟩ => ⟨S_, .f32⟩
  | .hbm, ⟨27, _⟩ => ⟨S4x16x4096, .f32⟩
  | .hbm, ⟨28, _⟩ => ⟨S4x16x4096, .f32⟩
  | .hbm, ⟨29, _⟩ => ⟨S4x16x4096x1, .f32⟩
  | .hbm, ⟨30, _⟩ => ⟨S4x16x4096x4096, .f32⟩
  | .hbm, ⟨31, _⟩ => ⟨S4x16x4096x4096, .f32⟩
  | .hbm, ⟨32, _⟩ => ⟨S4x16x4096x4096, .f32⟩
  | .hbm, ⟨33, _⟩ => ⟨S_, .f32⟩
  | .hbm, ⟨34, _⟩ => ⟨S4x16x4096, .f32⟩
  | .hbm, ⟨35, _⟩ => ⟨S4x16x4096x1, .f32⟩
  | .hbm, ⟨36, _⟩ => ⟨S4x16x4096x4096, .f32⟩
  | .hbm, ⟨37, _⟩ => ⟨S4x16x4096x4096, .f32⟩
  | .hbm, ⟨38, _⟩ => ⟨S4x4096x256, .f32⟩
  | .hbm, ⟨39, _⟩ => ⟨S4x256x16x4096, .f32⟩
  | .hbm, ⟨40, _⟩ => ⟨S4x4096x16x256, .f32⟩
  | .hbm, ⟨41, _⟩ => ⟨S16x64x4x4096, .f32⟩
  | .hbm, ⟨42, _⟩ => ⟨S4x4096x16x64, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1024x1024, .f32⟩
  | .hbm, ⟨48, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel2.lean ====
abbrev S17408x1024 : Shape := ⟨2, ![17408, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S4x1x1024, .f32⟩
  | .hbm, ⟨5, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .f32⟩
  | .local _ .vmem, ⟨4, _⟩ => ⟨S1x2816x1024, .f32⟩
  | .local _ .vmem, ⟨5, _⟩ => ⟨S512x1024, .f32⟩
  | .local _ .vmem, ⟨6, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S17408x1024 : Shape := ⟨2, ![17408, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S17408x5632 : Shape := ⟨2, ![17408, 5632]⟩
abbrev S17408x2816 : Shape := ⟨2, ![17408, 2816]⟩

abbrev nBuf : Space → Nat
  | .hbm => 44
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S17408x1024, .f32⟩
  | .hbm, ⟨7, _⟩ => ⟨S_, .f32⟩
  | .hbm, ⟨8, _⟩ => ⟨S17408, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S17408x1, .f32⟩
  | .hbm, ⟨17, _⟩ => ⟨S17408x1024, .f32⟩
  | .hbm, ⟨18, _⟩ => ⟨S17408x1024, .f32⟩
  | .hbm, ⟨19, _⟩ => ⟨S1x1024, .f32⟩
  | .hbm, ⟨20, _⟩ => ⟨S17408x1024, .f32⟩
  | .hbm, ⟨21, _⟩ => ⟨S17408x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S17408x5632, .f32⟩
  | .hbm, ⟨27, _⟩ => ⟨S17408x2816, .f32⟩
  | .hbm, ⟨28, _⟩ => ⟨S17408x2816, .f32⟩
  | .hbm, ⟨29, _⟩ => ⟨S17408x2816, .f32⟩
  | .hbm, ⟨30, _⟩ => ⟨S17408x2816, .f32⟩
  | .hbm, ⟨31, _⟩ => ⟨S_, .f32⟩
  | .hbm, ⟨32, _⟩ => ⟨S17408x2816, .f32⟩
  | .hbm, ⟨33, _⟩ => ⟨S17408x2816, .f32⟩
  | .hbm, ⟨34, _⟩ => ⟨S_, .f32⟩
  | .hbm, ⟨35, _⟩ => ⟨S17408x2816, .f32⟩
  | .hbm, ⟨36, _⟩ => ⟨S17408x2816, .f32⟩
  | .hbm, ⟨37, _⟩ => ⟨S17408x2816, .f32⟩
  | .hbm, ⟨38, _⟩ => ⟨S17408x2816, .f32⟩
  | .hbm, ⟨39, _⟩ => ⟨S17408x1024, .f32⟩
  | .hbm, ⟨40, _⟩ => ⟨S_, .f32⟩
  | .hbm, ⟨41, _⟩ => ⟨S17408x1024, .f32⟩
  | .hbm, ⟨42, _⟩ => ⟨S17408x1024, .f32⟩
  | .hbm, ⟨43, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel3.lean ====
abbrev S17408x1024 : Shape := ⟨2, ![17408, 1024]⟩
abbrev S4x4x4096x256 : Shape := ⟨4, ![4, 4, 4096, 256]⟩
abbrev S4x1024 : Shape := ⟨2, ![4, 1024]⟩
abbrev S4x256x1024 : Shape := ⟨3, ![4, 256, 1024]⟩
abbrev S4x1024x1024 : Shape := ⟨3, ![4, 1024, 1024]⟩
abbrev S1024 : Shape := ⟨1, ![1024]⟩
abbrev S4x16384x256 : Shape := ⟨3, ![4, 16384, 256]⟩
abbrev S4x1x1024 : Shape := ⟨3, ![4, 1, 1024]⟩
abbrev S1x1024 : Shape := ⟨2, ![1, 1024]⟩
abbrev S16384x1024 : Shape := ⟨2, ![16384, 1024]⟩
abbrev S512x1024 : Shape := ⟨2, ![512, 1024]⟩
abbrev S1x512x256 : Shape := ⟨3, ![1, 512, 256]⟩
abbrev S1x1x1024 : Shape := ⟨3, ![1, 1, 1024]⟩
abbrev S1x256x1024 : Shape := ⟨3, ![1, 256, 1024]⟩
abbrev S1x1024x1024 : Shape := ⟨3, ![1, 1024, 1024]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S4x4x4096x256, .f32⟩
  | .hbm, ⟨2, _⟩ => ⟨S4x1024, .f32⟩
  | .hbm, ⟨3, _⟩ => ⟨S4x256x1024, .f32⟩
  | .hbm, ⟨4, _⟩ => ⟨S4x1024x1024, .f32⟩
  | .hbm, ⟨5, _⟩ => ⟨S1024, .f32⟩
  | .hbm, ⟨6, _⟩ => ⟨S4x16384x256, .f32⟩
  | .hbm, ⟨7, _⟩ => ⟨S4x256x1024, .bf16⟩
  | .hbm, ⟨8, _⟩ => ⟨S4x1024x1024, .bf16⟩
  | .hbm, ⟨9, _⟩ => ⟨S4x1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1x1024, .f32⟩
  | .local _ .vmem, ⟨5, _⟩ => ⟨S1x256x1024, .bf16⟩
  | .local _ .vmem, ⟨6, _⟩ => ⟨S1x1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S17408x1024 : Shape := ⟨2, ![17408, 1024]⟩
abbrev S4x4x4096x256 : Shape := ⟨4, ![4, 4, 4096, 256]⟩
abbrev S4x1024 : Shape := ⟨2, ![4, 1024]⟩
abbrev S4x256x1024 : Shape := ⟨3, ![4, 256, 1024]⟩
abbrev S4x1024x1024 : Shape := ⟨3, ![4, 1024, 1024]⟩
abbrev S1024 : Shape := ⟨1, ![1024]⟩
abbrev S16384x1024 : Shape := ⟨2, ![16384, 1024]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x256x1024 : Shape := ⟨3, ![1, 256, 1024]⟩
abbrev S256x1024 : Shape := ⟨2, ![256, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x1024 : Shape := ⟨3, ![1, 1024, 1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x4x4096x256, .f32⟩
  | .hbm, ⟨2, _⟩ => ⟨S4x1024, .f32⟩
  | .hbm, ⟨3, _⟩ => ⟨S4x256x1024, .f32⟩
  | .hbm, ⟨4, _⟩ => ⟨S4x1024x1024, .f32⟩
  | .hbm, ⟨5, _⟩ => ⟨S1024, .f32⟩
  | .hbm, ⟨6, _⟩ => ⟨S16384x1024, .f32⟩
  | .hbm, ⟨7, _⟩ => ⟨S1x4x4096x256, .f32⟩
  | .hbm, ⟨8, _⟩ => ⟨S4x4096x256, .f32⟩
  | .hbm, ⟨9, _⟩ => ⟨S16384x256, .f32⟩
  | .hbm, ⟨10, _⟩ => ⟨S1x256x1024, .f32⟩
  | .hbm, ⟨11, _⟩ => ⟨S256x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x1024, .f32⟩
  | .hbm, ⟨32, _⟩ => ⟨S1024x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel4.lean ====
abbrev S17408x1024 : Shape := ⟨2, ![17408, 1024]⟩
abbrev S4x128x8x256 : Shape := ⟨4, ![4, 128, 8, 256]⟩
abbrev S4x1024 : Shape := ⟨2, ![4, 1024]⟩
abbrev S4x256x1024 : Shape := ⟨3, ![4, 256, 1024]⟩
abbrev S4x1024x1024 : Shape := ⟨3, ![4, 1024, 1024]⟩
abbrev S1024 : Shape := ⟨1, ![1024]⟩
abbrev S4x1024x256 : Shape := ⟨3, ![4, 1024, 256]⟩
abbrev S4x1x1024 : Shape := ⟨3, ![4, 1, 1024]⟩
abbrev S1x1024 : Shape := ⟨2, ![1, 1024]⟩
abbrev S1024x1024 : Shape := ⟨2, ![1024, 1024]⟩
abbrev S512x1024 : Shape := ⟨2, ![512, 1024]⟩
abbrev S1x512x256 : Shape := ⟨3, ![1, 512, 256]⟩
abbrev S1x1x1024 : Shape := ⟨3, ![1, 1, 1024]⟩
abbrev S1x256x1024 : Shape := ⟨3, ![1, 256, 1024]⟩
abbrev S1x1024x1024 : Shape := ⟨3, ![1, 1024, 1024]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S4x128x8x256, .f32⟩
  | .hbm, ⟨2, _⟩ => ⟨S4x1024, .f32⟩
  | .hbm, ⟨3, _⟩ => ⟨S4x256x1024, .f32⟩
  | .hbm, ⟨4, _⟩ => ⟨S4x1024x1024, .f32⟩
  | .hbm, ⟨5, _⟩ => ⟨S1024, .f32⟩
  | .hbm, ⟨6, _⟩ => ⟨S4x1024x256, .f32⟩
  | .hbm, ⟨7, _⟩ => ⟨S4x256x1024, .bf16⟩
  | .hbm, ⟨8, _⟩ => ⟨S4x1024x1024, .bf16⟩
  | .hbm, ⟨9, _⟩ => ⟨S4x1x1024, .f32⟩
  | .hbm, ⟨10, _⟩ => ⟨S1x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1x1024, .f32⟩
  | .local _ .vmem, ⟨5, _⟩ => ⟨S1x256x1024, .bf16⟩
  | .local _ .vmem, ⟨6, _⟩ => ⟨S1x1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S17408x1024 : Shape := ⟨2, ![17408, 1024]⟩
abbrev S4x128x8x256 : Shape := ⟨4, ![4, 128, 8, 256]⟩
abbrev S4x1024 : Shape := ⟨2, ![4, 1024]⟩
abbrev S4x256x1024 : Shape := ⟨3, ![4, 256, 1024]⟩
abbrev S4x1024x1024 : Shape := ⟨3, ![4, 1024, 1024]⟩
abbrev S1024 : Shape := ⟨1, ![1024]⟩
abbrev S1024x1024 : Shape := ⟨2, ![1024, 1024]⟩
abbrev S1x128x8x256 : Shape := ⟨4, ![1, 128, 8, 256]⟩
abbrev S128x8x256 : Shape := ⟨3, ![128, 8, 256]⟩
abbrev S1024x256 : Shape := ⟨2, ![1024, 256]⟩
abbrev S1x256x1024 : Shape := ⟨3, ![1, 256, 1024]⟩
abbrev S256x1024 : Shape := ⟨2, ![256, 1024]⟩
abbrev S1x1024 : Shape := ⟨2, ![1, 1024]⟩
abbrev S_ : Shape := ⟨0, ![]⟩
abbrev S1024x1 : Shape := ⟨2, ![1024, 1]⟩
abbrev S1x1024x1024 : Shape := ⟨3, ![1, 1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x128x8x256, .f32⟩
  | .hbm, ⟨2, _⟩ => ⟨S4x1024, .f32⟩
  | .hbm, ⟨3, _⟩ => ⟨S4x256x1024, .f32⟩
  | .hbm, ⟨4, _⟩ => ⟨S4x1024x1024, .f32⟩
  | .hbm, ⟨5, _⟩ => ⟨S1024, .f32⟩
  | .hbm, ⟨6, _⟩ => ⟨S1024x1024, .f32⟩
  | .hbm, ⟨7, _⟩ => ⟨S1x128x8x256, .f32⟩
  | .hbm, ⟨8, _⟩ => ⟨S128x8x256, .f32⟩
  | .hbm, ⟨9, _⟩ => ⟨S1024x256, .f32⟩
  | .hbm, ⟨10, _⟩ => ⟨S1x256x1024, .f32⟩
  | .hbm, ⟨11, _⟩ => ⟨S256x1024, .f32⟩
  | .hbm, ⟨12, _⟩ => ⟨S1024x1024, .f32⟩
  | .hbm, ⟨13, _⟩ => ⟨S1x1024, .f32⟩
  | .hbm, ⟨14, _⟩ => ⟨S1024, .f32⟩
  | .hbm, ⟨15, _⟩ => ⟨S1024x1024, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S1024x1024, .f32⟩
  | .hbm, ⟨27, _⟩ => ⟨S1024x1024, .f32⟩
  | .hbm, ⟨28, _⟩ => ⟨S1x1024, .f32⟩
  | .hbm, ⟨29, _⟩ => ⟨S1024x1024, .f32⟩
  | .hbm, ⟨30, _⟩ => ⟨S1024x1024, .f32⟩
  | .hbm, ⟨31, _⟩ => ⟨S1x1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024, .f32⟩
  | .hbm, ⟨47, _⟩ => ⟨S1024x1, .f32⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S_, .f32⟩
  | .hbm, ⟨52, _⟩ => ⟨S1024x1, .f32⟩
  | .hbm, ⟨53, _⟩ => ⟨S1024x1, .f32⟩
  | .hbm, ⟨54, _⟩ => ⟨S1024x1, .f32⟩
  | .hbm, ⟨55, _⟩ => ⟨S1024x1024, .f32⟩
  | .hbm, ⟨56, _⟩ => ⟨S1024x1024, .f32⟩
  | .hbm, ⟨57, _⟩ => ⟨S1x1024, .f32⟩
  | .hbm, ⟨58, _⟩ => ⟨S1024x1024, .f32⟩
  | .hbm, ⟨59, _⟩ => ⟨S1024x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel5.lean ====
abbrev S17408x1024 : Shape := ⟨2, ![17408, 1024]⟩
abbrev S4x4x4096x256 : Shape := ⟨4, ![4, 4, 4096, 256]⟩
abbrev S4x128x8x256 : Shape := ⟨4, ![4, 128, 8, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S2x1024x1536 : Shape := ⟨3, ![2, 1024, 1536]⟩
abbrev S4x16384x256 : Shape := ⟨3, ![4, 16384, 256]⟩
abbrev S4x1024x256 : Shape := ⟨3, ![4, 1024, 256]⟩
abbrev S4x1x1024 : Shape := ⟨3, ![4, 1, 1024]⟩
abbrev S17408x1536 : Shape := ⟨2, ![17408, 1536]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x512x256 : Shape := ⟨3, ![1, 512, 256]⟩
abbrev S1x256x1024 : Shape := ⟨3, ![1, 256, 1024]⟩
abbrev S1x1024x1024 : Shape := ⟨3, ![1, 1024, 1024]⟩
abbrev S1x1024x1536 : Shape := ⟨3, ![1, 1024, 1536]⟩
abbrev S512x1536 : Shape := ⟨2, ![512, 1536]⟩
abbrev S512x256 : Shape := ⟨2, ![512, 256]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S1x1024x256 : Shape := ⟨3, ![1, 1024, 256]⟩
abbrev S1024x256 : Shape := ⟨2, ![1024, 256]⟩
abbrev S1024x1536 : Shape := ⟨2, ![1024, 1536]⟩

abbrev nBuf : Space → Nat
  | .hbm => 23
  | .vmem => 18
  | .smem => 0
  | _ => 0

abbrev bufTy : (tb : Table) → Fin (tcTables nBuf tb) → BufTy
  | .hbm, ⟨0, _⟩ => ⟨S17408x1024, .f32⟩
  | .hbm, ⟨1, _⟩ => ⟨S4x4x4096x256, .f32⟩
  | .hbm, ⟨2, _⟩ => ⟨S4x128x8x256, .f32⟩
  | .hbm, ⟨3, _⟩ => ⟨S4x1024, .f32⟩
  | .hbm, ⟨4, _⟩ => ⟨S4x1024x5632, .f32⟩
  | .hbm, ⟨5, _⟩ => ⟨S4x2816x1024, .f32⟩
  | .hbm, ⟨6, _⟩ => ⟨S4x1024, .f32⟩
  | .hbm, ⟨7, _⟩ => ⟨S4x256x1024, .f32⟩
  | .hbm, ⟨8, _⟩ => ⟨S4x1024x1024, .f32⟩
  | .hbm, ⟨9, _⟩ => ⟨S4x1024, .f32⟩
  | .hbm, ⟨10, _⟩ => ⟨S2x1024x1536, .f32⟩
  | .hbm, ⟨11, _⟩ => ⟨S4x16384x256, .f32⟩
  | .hbm, ⟨12, _⟩ => ⟨S4x1024x256, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1024x5632, .bf16⟩
  | .hbm, ⟨17, _⟩ => ⟨S4x2816x1024, .bf16⟩
  | .hbm, ⟨18, _⟩ => ⟨S4x256x1024, .bf16⟩
  | .hbm, ⟨19, _⟩ => ⟨S4x1024x1024, .bf16⟩
  | .hbm, ⟨20, _⟩ => ⟨S2x1024x1536, .bf16⟩
  | .hbm, ⟨21, _⟩ => ⟨S17408x1024, .f32⟩
  | .hbm, ⟨22, _⟩ => ⟨S17408x1536, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x1x1024, .f32⟩
  | .local _ .vmem, ⟨10, _⟩ => ⟨S1x256x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1024x1536, .bf16⟩
  | .local _ .vmem, ⟨14, _⟩ => ⟨S512x1024, .f32⟩
  | .local _ .vmem, ⟨15, _⟩ => ⟨S512x1024, .f32⟩
  | .local _ .vmem, ⟨16, _⟩ => ⟨S512x1536, .f32⟩
  | .local _ .vmem, ⟨17, _⟩ => ⟨S512x1536, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c2_i32 : BitVec 32 := 2#32
  let c0_i32 : BitVec 32 := 0#32
  let c0_i32_0 : BitVec 32 := 0#32
  ![c2_i32.toNat, v0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c2_i32 : BitVec 32 := 2#32
  let c0_i32_0 : BitVec 32 := 0#32
  let c0_i32_1 : BitVec 32 := 0#32
  ![c2_i32.toNat, v1.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S17408x1024 : Shape := ⟨2, ![17408, 1024]⟩
abbrev S4x4x4096x256 : Shape := ⟨4, ![4, 4, 4096, 256]⟩
abbrev S4x128x8x256 : Shape := ⟨4, ![4, 128, 8, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S2x1024x1536 : Shape := ⟨3, ![2, 1024, 1536]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x128x8x256 : Shape := ⟨4, ![1, 128, 8, 256]⟩
abbrev S128x8x256 : Shape := ⟨3, ![128, 8, 256]⟩
abbrev S1024x256 : Shape := ⟨2, ![1024, 256]⟩
abbrev S17408x256 : Shape := ⟨2, ![17408, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S17408x5632 : Shape := ⟨2, ![17408, 5632]⟩
abbrev S17408x2816 : Shape := ⟨2, ![17408, 2816]⟩
abbrev S1x1024x1536 : Shape := ⟨3, ![1, 1024, 1536]⟩
abbrev S1024x1536 : Shape := ⟨2, ![1024, 1536]⟩
abbrev S17408x1536 : Shape := ⟨2, ![17408, 1536]⟩

abbrev nBuf : Space → Nat
  | .hbm => 113
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x4x4096x256, .f32⟩
  | .hbm, ⟨2, _⟩ => ⟨S4x128x8x256, .f32⟩
  | .hbm, ⟨3, _⟩ => ⟨S4x1024, .f32⟩
  | .hbm, ⟨4, _⟩ => ⟨S4x1024x5632, .f32⟩
  | .hbm, ⟨5, _⟩ => ⟨S4x2816x1024, .f32⟩
  | .hbm, ⟨6, _⟩ => ⟨S4x1024, .f32⟩
  | .hbm, ⟨7, _⟩ => ⟨S4x256x1024, .f32⟩
  | .hbm, ⟨8, _⟩ => ⟨S4x1024x1024, .f32⟩
  | .hbm, ⟨9, _⟩ => ⟨S4x1024, .f32⟩
  | .hbm, ⟨10, _⟩ => ⟨S2x1024x1536, .f32⟩
  | .hbm, ⟨11, _⟩ => ⟨S1x4x4096x256, .f32⟩
  | .hbm, ⟨12, _⟩ => ⟨S4x4096x256, .f32⟩
  | .hbm, ⟨13, _⟩ => ⟨S16384x256, .f32⟩
  | .hbm, ⟨14, _⟩ => ⟨S1x128x8x256, .f32⟩
  | .hbm, ⟨15, _⟩ => ⟨S128x8x256, .f32⟩
  | .hbm, ⟨16, _⟩ => ⟨S1024x256, .f32⟩
  | .hbm, ⟨17, _⟩ => ⟨S17408x256, .f32⟩
  | .hbm, ⟨18, _⟩ => ⟨S1x256x1024, .f32⟩
  | .hbm, ⟨19, _⟩ => ⟨S256x1024, .f32⟩
  | .hbm, ⟨20, _⟩ => ⟨S17408x1024, .f32⟩
  | .hbm, ⟨21, _⟩ => ⟨S1x1024, .f32⟩
  | .hbm, ⟨22, _⟩ => ⟨S1024, .f32⟩
  | .hbm, ⟨23, _⟩ => ⟨S17408x1024, .f32⟩
  | .hbm, ⟨24, _⟩ => ⟨S_, .f32⟩
  | .hbm, ⟨25, _⟩ => ⟨S17408, .f32⟩
  | .hbm, ⟨26, _⟩ => ⟨S17408x1, .f32⟩
  | .hbm, ⟨27, _⟩ => ⟨S_, .f32⟩
  | .hbm, ⟨28, _⟩ => ⟨S17408x1, .f32⟩
  | .hbm, ⟨29, _⟩ => ⟨S17408x1, .f32⟩
  | .hbm, ⟨30, _⟩ => ⟨S_, .f32⟩
  | .hbm, ⟨31, _⟩ => ⟨S17408x1, .f32⟩
  | .hbm, ⟨32, _⟩ => ⟨S17408x1, .f32⟩
  | .hbm, ⟨33, _⟩ => ⟨S17408x1, .f32⟩
  | .hbm, ⟨34, _⟩ => ⟨S17408x1024, .f32⟩
  | .hbm, ⟨35, _⟩ => ⟨S17408x1024, .f32⟩
  | .hbm, ⟨36, _⟩ => ⟨S1x1024, .f32⟩
  | .hbm, ⟨37, _⟩ => ⟨S17408x1024, .f32⟩
  | .hbm, ⟨38, _⟩ => ⟨S17408x1024, .f32⟩
  | .hbm, ⟨39, _⟩ => ⟨S1x1024x1024, .f32⟩
  | .hbm, ⟨40, _⟩ => ⟨S1024x1024, .f32⟩
  | .hbm, ⟨41, _⟩ => ⟨S17408x1024, .f32⟩
  | .hbm, ⟨42, _⟩ => ⟨S17408x1024, .f32⟩
  | .hbm, ⟨43, _⟩ => ⟨S17408x1024, .f32⟩
  | .hbm, ⟨44, _⟩ => ⟨S_, .f32⟩
  | .hbm, ⟨45, _⟩ => ⟨S17408x1024, .f32⟩
  | .hbm, ⟨46, _⟩ => ⟨S17408x1024, .f32⟩
  | .hbm, ⟨47, _⟩ => ⟨S_, .f32⟩
  | .hbm, ⟨48, _⟩ => ⟨S17408x1024, .f32⟩
  | .hbm, ⟨49, _⟩ => ⟨S17408x1024, .f32⟩
  | .hbm, ⟨50, _⟩ => ⟨S17408x1024, .f32⟩
  | .hbm, ⟨51, _⟩ => ⟨S17408x1024, .f32⟩
  | .hbm, ⟨52, _⟩ => ⟨S1x1024, .f32⟩
  | .hbm, ⟨53, _⟩ => ⟨S1024, .f32⟩
  | .hbm, ⟨54, _⟩ => ⟨S17408x1024, .f32⟩
  | .hbm, ⟨55, _⟩ => ⟨S_, .f32⟩
  | .hbm, ⟨56, _⟩ => ⟨S17408, .f32⟩
  | .hbm, ⟨57, _⟩ => ⟨S17408x1, .f32⟩
  | .hbm, ⟨58, _⟩ => ⟨S_, .f32⟩
  | .hbm, ⟨59, _⟩ => ⟨S17408x1, .f32⟩
  | .hbm, ⟨60, _⟩ => ⟨S17408x1, .f32⟩
  | .hbm, ⟨61, _⟩ => ⟨S_, .f32⟩
  | .hbm, ⟨62, _⟩ => ⟨S17408x1, .f32⟩
  | .hbm, ⟨63, _⟩ => ⟨S17408x1, .f32⟩
  | .hbm, ⟨64, _⟩ => ⟨S17408x1, .f32⟩
  | .hbm, ⟨65, _⟩ => ⟨S17408x1024, .f32⟩
  | .hbm, ⟨66, _⟩ => ⟨S17408x1024, .f32⟩
  | .hbm, ⟨67, _⟩ => ⟨S1x1024, .f32⟩
  | .hbm, ⟨68, _⟩ => ⟨S17408x1024, .f32⟩
  | .hbm, ⟨69, _⟩ => ⟨S17408x1024, .f32⟩
  | .hbm, ⟨70, _⟩ => ⟨S1x1024x5632, .f32⟩
  | .hbm, ⟨71, _⟩ => ⟨S1024x5632, .f32⟩
  | .hbm, ⟨72, _⟩ => ⟨S1x2816x1024, .f32⟩
  | .hbm, ⟨73, _⟩ => ⟨S2816x1024, .f32⟩
  | .hbm, ⟨74, _⟩ => ⟨S17408x5632, .f32⟩
  | .hbm, ⟨75, _⟩ => ⟨S17408x2816, .f32⟩
  | .hbm, ⟨76, _⟩ => ⟨S17408x2816, .f32⟩
  | .hbm, ⟨77, _⟩ => ⟨S17408x2816, .f32⟩
  | .hbm, ⟨78, _⟩ => ⟨S17408x2816, .f32⟩
  | .hbm, ⟨79, _⟩ => ⟨S_, .f32⟩
  | .hbm, ⟨80, _⟩ => ⟨S17408x2816, .f32⟩
  | .hbm, ⟨81, _⟩ => ⟨S17408x2816, .f32⟩
  | .hbm, ⟨82, _⟩ => ⟨S_, .f32⟩
  | .hbm, ⟨83, _⟩ => ⟨S17408x2816, .f32⟩
  | .hbm, ⟨84, _⟩ => ⟨S17408x2816, .f32⟩
  | .hbm, ⟨85, _⟩ => ⟨S17408x2816, .f32⟩
  | .hbm, ⟨86, _⟩ => ⟨S17408x2816, .f32⟩
  | .hbm, ⟨87, _⟩ => ⟨S17408x1024, .f32⟩
  | .hbm, ⟨88, _⟩ => ⟨S_, .f32⟩
  | .hbm, ⟨89, _⟩ => ⟨S17408x1024, .f32⟩
  | .hbm, ⟨90, _⟩ => ⟨S17408x1024, .f32⟩
  | .hbm, ⟨91, _⟩ => ⟨S17408x1024, .f32⟩
  | .hbm, ⟨92, _⟩ => ⟨S1x1024, .f32⟩
  | .hbm, ⟨93, _⟩ => ⟨S1024, .f32⟩
  | .hbm, ⟨94, _⟩ => ⟨S17408x1024, .f32⟩
  | .hbm, ⟨95, _⟩ => ⟨S_, .f32⟩
  | .hbm, ⟨96, _⟩ => ⟨S17408, .f32⟩
  | .hbm, ⟨97, _⟩ => ⟨S17408x1, .f32⟩
  | .hbm, ⟨98, _⟩ => ⟨S_, .f32⟩
  | .hbm, ⟨99, _⟩ => ⟨S17408x1, .f32⟩
  | .hbm, ⟨100, _⟩ => ⟨S17408x1, .f32⟩
  | .hbm, ⟨101, _⟩ => ⟨S_, .f32⟩
  | .hbm, ⟨102, _⟩ => ⟨S17408x1, .f32⟩
  | .hbm, ⟨103, _⟩ => ⟨S17408x1, .f32⟩
  | .hbm, ⟨104, _⟩ => ⟨S17408x1, .f32⟩
  | .hbm, ⟨105, _⟩ => ⟨S17408x1024, .f32⟩
  | .hbm, ⟨106, _⟩ => ⟨S17408x1024, .f32⟩
  | .hbm, ⟨107, _⟩ => ⟨S1x1024, .f32⟩
  | .hbm, ⟨108, _⟩ => ⟨S17408x1024, .f32⟩
  | .hbm, ⟨109, _⟩ => ⟨S17408x1024, .f32⟩
  | .hbm, ⟨110, _⟩ => ⟨S1x1024x1536, .f32⟩
  | .hbm, ⟨111, _⟩ => ⟨S1024x1536, .f32⟩
  | .hbm, ⟨112, _⟩ => ⟨S17408x1536, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_7 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_8 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Kernel6.lean ====
abbrev S17408x1024 : Shape := ⟨2, ![17408, 1024]⟩
abbrev S1x128x3x3072 : Shape := ⟨4, ![1, 128, 3, 3072]⟩
abbrev S4x1024 : Shape := ⟨2, ![4, 1024]⟩
abbrev S1024x5152 : Shape := ⟨2, ![1024, 5152]⟩
abbrev S_ : Shape := ⟨0, ![]⟩
abbrev S1024x96 : Shape := ⟨2, ![1024, 96]⟩
abbrev S1024x5248 : Shape := ⟨2, ![1024, 5248]⟩
abbrev S4x1x1024 : Shape := ⟨3, ![4, 1, 1024]⟩
abbrev S17408x2048 : Shape := ⟨2, ![17408, 2048]⟩
abbrev S17408x3072 : Shape := ⟨2, ![17408, 3072]⟩
abbrev S17408x128 : Shape := ⟨2, ![17408, 128]⟩
abbrev S512x1024 : Shape := ⟨2, ![512, 1024]⟩
abbrev S1x1x1024 : Shape := ⟨3, ![1, 1, 1024]⟩
abbrev S512x2048 : Shape := ⟨2, ![512, 2048]⟩
abbrev S512x3072 : Shape := ⟨2, ![512, 3072]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩
abbrev S1024x2048 : Shape := ⟨2, ![1024, 2048]⟩
abbrev S1024x3072 : Shape := ⟨2, ![1024, 3072]⟩
abbrev S1024x128 : Shape := ⟨2, ![1024, 128]⟩
abbrev S3x3072 : Shape := ⟨2, ![3, 3072]⟩
abbrev S1x3x3072 : Shape := ⟨3, ![1, 3, 3072]⟩
abbrev S4x3x3072 : Shape := ⟨3, ![4, 3, 3072]⟩
abbrev S128x3x3072 : Shape := ⟨3, ![128, 3, 3072]⟩
abbrev S128x8x3072 : Shape := ⟨3, ![128, 8, 3072]⟩
abbrev S128x11x3072 : Shape := ⟨3, ![128, 11, 3072]⟩
abbrev S1x4x3x3072 : Shape := ⟨4, ![1, 4, 3, 3072]⟩

abbrev nBuf : Space → Nat
  | .hbm => 28
  | .vmem => 10
  | .smem => 0
  | _ => 0

abbrev bufTy : (tb : Table) → Fin (tcTables nBuf tb) → BufTy
  | .hbm, ⟨0, _⟩ => ⟨S17408x1024, .f32⟩
  | .hbm, ⟨1, _⟩ => ⟨S1x128x3x3072, .f32⟩
  | .hbm, ⟨2, _⟩ => ⟨S4x1024, .f32⟩
  | .hbm, ⟨3, _⟩ => ⟨S1024x5152, .f32⟩
  | .hbm, ⟨4, _⟩ => ⟨S_, .f32⟩
  | .hbm, ⟨5, _⟩ => ⟨S1024x96, .f32⟩
  | .hbm, ⟨6, _⟩ => ⟨S1024x5248, .f32⟩
  | .hbm, ⟨7, _⟩ => ⟨S1024x5248, .bf16⟩
  | .hbm, ⟨8, _⟩ => ⟨S4x1x1024, .f32⟩
  | .hbm, ⟨9, _⟩ => ⟨S17408x2048, .f32⟩
  | .hbm, ⟨10, _⟩ => ⟨S17408x3072, .f32⟩
  | .hbm, ⟨11, _⟩ => ⟨S17408x128, .f32⟩
  | .hbm, ⟨12, _⟩ => ⟨S3x3072, .f32⟩
  | .hbm, ⟨13, _⟩ => ⟨S3x3072, .f32⟩
  | .hbm, ⟨14, _⟩ => ⟨S3x3072, .f32⟩
  | .hbm, ⟨15, _⟩ => ⟨S3x3072, .f32⟩
  | .hbm, ⟨16, _⟩ => ⟨S1x3x3072, .f32⟩
  | .hbm, ⟨17, _⟩ => ⟨S1x3x3072, .f32⟩
  | .hbm, ⟨18, _⟩ => ⟨S1x3x3072, .f32⟩
  | .hbm, ⟨19, _⟩ => ⟨S1x3x3072, .f32⟩
  | .hbm, ⟨20, _⟩ => ⟨S4x3x3072, .f32⟩
  | .hbm, ⟨21, _⟩ => ⟨S128x3x3072, .f32⟩
  | .hbm, ⟨22, _⟩ => ⟨S1024x3072, .f32⟩
  | .hbm, ⟨23, _⟩ => ⟨S128x8x3072, .f32⟩
  | .hbm, ⟨24, _⟩ => ⟨S128x11x3072, .f32⟩
  | .hbm, ⟨25, _⟩ => ⟨S128x3x3072, .f32⟩
  | .hbm, ⟨26, _⟩ => ⟨S1x4x3x3072, .f32⟩
  | .hbm, ⟨27, _⟩ => ⟨S1x128x3x3072, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1024x5248, .bf16⟩
  | .local _ .vmem, ⟨4, _⟩ => ⟨S512x2048, .f32⟩
  | .local _ .vmem, ⟨5, _⟩ => ⟨S512x2048, .f32⟩
  | .local _ .vmem, ⟨6, _⟩ => ⟨S512x3072, .f32⟩
  | .local _ .vmem, ⟨7, _⟩ => ⟨S512x3072, .f32⟩
  | .local _ .vmem, ⟨8, _⟩ => ⟨S512x128, .f32⟩
  | .local _ .vmem, ⟨9, _⟩ => ⟨S512x128, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S17408x1024 : Shape := ⟨2, ![17408, 1024]⟩
abbrev S1x128x3x3072 : Shape := ⟨4, ![1, 128, 3, 3072]⟩
abbrev S4x1024 : Shape := ⟨2, ![4, 1024]⟩
abbrev S1024x5152 : Shape := ⟨2, ![1024, 5152]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S17408x5152 : Shape := ⟨2, ![17408, 5152]⟩
abbrev S17408x2048 : Shape := ⟨2, ![17408, 2048]⟩
abbrev S17408x3072 : Shape := ⟨2, ![17408, 3072]⟩
abbrev S17408x32 : Shape := ⟨2, ![17408, 32]⟩
abbrev S4x3x3072 : Shape := ⟨3, ![4, 3, 3072]⟩
abbrev S16384x3072 : Shape := ⟨2, ![16384, 3072]⟩
abbrev S4x4096x3072 : Shape := ⟨3, ![4, 4096, 3072]⟩
abbrev S4x4099x3072 : Shape := ⟨3, ![4, 4099, 3072]⟩
abbrev S128x3x3072 : Shape := ⟨3, ![128, 3, 3072]⟩
abbrev S1024x3072 : Shape := ⟨2, ![1024, 3072]⟩
abbrev S128x8x3072 : Shape := ⟨3, ![128, 8, 3072]⟩
abbrev S128x11x3072 : Shape := ⟨3, ![128, 11, 3072]⟩
abbrev S17408x128 : Shape := ⟨2, ![17408, 128]⟩
abbrev S1x4x3x3072 : Shape := ⟨4, ![1, 4, 3, 3072]⟩

abbrev nBuf : Space → Nat
  | .hbm => 42
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1x128x3x3072, .f32⟩
  | .hbm, ⟨2, _⟩ => ⟨S4x1024, .f32⟩
  | .hbm, ⟨3, _⟩ => ⟨S1024x5152, .f32⟩
  | .hbm, ⟨4, _⟩ => ⟨S1x1024, .f32⟩
  | .hbm, ⟨5, _⟩ => ⟨S1024, .f32⟩
  | .hbm, ⟨6, _⟩ => ⟨S17408x1024, .f32⟩
  | .hbm, ⟨7, _⟩ => ⟨S_, .f32⟩
  | .hbm, ⟨8, _⟩ => ⟨S17408, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S17408x1, .f32⟩
  | .hbm, ⟨17, _⟩ => ⟨S17408x1024, .f32⟩
  | .hbm, ⟨18, _⟩ => ⟨S17408x1024, .f32⟩
  | .hbm, ⟨19, _⟩ => ⟨S1x1024, .f32⟩
  | .hbm, ⟨20, _⟩ => ⟨S17408x1024, .f32⟩
  | .hbm, ⟨21, _⟩ => ⟨S17408x1024, .f32⟩
  | .hbm, ⟨22, _⟩ => ⟨S17408x5152, .f32⟩
  | .hbm, ⟨23, _⟩ => ⟨S17408x2048, .f32⟩
  | .hbm, ⟨24, _⟩ => ⟨S17408x3072, .f32⟩
  | .hbm, ⟨25, _⟩ => ⟨S17408x32, .f32⟩
  | .hbm, ⟨26, _⟩ => ⟨S_, .f32⟩
  | .hbm, ⟨27, _⟩ => ⟨S4x3x3072, .f32⟩
  | .hbm, ⟨28, _⟩ => ⟨S16384x3072, .f32⟩
  | .hbm, ⟨29, _⟩ => ⟨S4x4096x3072, .f32⟩
  | .hbm, ⟨30, _⟩ => ⟨S4x4099x3072, .f32⟩
  | .hbm, ⟨31, _⟩ => ⟨S128x3x3072, .f32⟩
  | .hbm, ⟨32, _⟩ => ⟨S1024x3072, .f32⟩
  | .hbm, ⟨33, _⟩ => ⟨S128x8x3072, .f32⟩
  | .hbm, ⟨34, _⟩ => ⟨S128x11x3072, .f32⟩
  | .hbm, ⟨35, _⟩ => ⟨S_, .i32⟩
  | .hbm, ⟨36, _⟩ => ⟨S_, .f32⟩
  | .hbm, ⟨37, _⟩ => ⟨S17408x128, .f32⟩
  | .hbm, ⟨38, _⟩ => ⟨S4x3x3072, .f32⟩
  | .hbm, ⟨39, _⟩ => ⟨S1x4x3x3072, .f32⟩
  | .hbm, ⟨40, _⟩ => ⟨S128x3x3072, .f32⟩
  | .hbm, ⟨41, _⟩ => ⟨S1x128x3x3072, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel7.lean ====
abbrev S17408x1024 : Shape := ⟨2, ![17408, 1024]⟩
abbrev S4x4x4096x256 : Shape := ⟨4, ![4, 4, 4096, 256]⟩
abbrev S4x128x8x256 : Shape := ⟨4, ![4, 128, 8, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S4x16384x256 : Shape := ⟨3, ![4, 16384, 256]⟩
abbrev S4x1024x256 : Shape := ⟨3, ![4, 1024, 256]⟩
abbrev S4x1x1024 : Shape := ⟨3, ![4, 1, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x512x256 : Shape := ⟨3, ![1, 512, 256]⟩
abbrev S1x256x1024 : Shape := ⟨3, ![1, 256, 1024]⟩
abbrev S1x1024x1024 : Shape := ⟨3, ![1, 1024, 1024]⟩
abbrev S512x256 : Shape := ⟨2, ![512, 256]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S1x1024x256 : Shape := ⟨3, ![1, 1024, 256]⟩
abbrev S1024x256 : Shape := ⟨2, ![1024, 256]⟩

abbrev nBuf : Space → Nat
  | .hbm => 18
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S4x4x4096x256, .f32⟩
  | .hbm, ⟨2, _⟩ => ⟨S4x128x8x256, .f32⟩
  | .hbm, ⟨3, _⟩ => ⟨S4x1024, .f32⟩
  | .hbm, ⟨4, _⟩ => ⟨S4x1024x5632, .f32⟩
  | .hbm, ⟨5, _⟩ => ⟨S4x2816x1024, .f32⟩
  | .hbm, ⟨6, _⟩ => ⟨S4x1024, .f32⟩
  | .hbm, ⟨7, _⟩ => ⟨S4x256x1024, .f32⟩
  | .hbm, ⟨8, _⟩ => ⟨S4x1024x1024, .f32⟩
  | .hbm, ⟨9, _⟩ => ⟨S4x16384x256, .f32⟩
  | .hbm, ⟨10, _⟩ => ⟨S4x1024x256, .f32⟩
  | .hbm, ⟨11, _⟩ => ⟨S4x1x1024, .f32⟩
  | .hbm, ⟨12, _⟩ => ⟨S4x1x1024, .f32⟩
  | .hbm, ⟨13, _⟩ => ⟨S4x1024x5632, .bf16⟩
  | .hbm, ⟨14, _⟩ => ⟨S4x2816x1024, .bf16⟩
  | .hbm, ⟨15, _⟩ => ⟨S4x256x1024, .bf16⟩
  | .hbm, ⟨16, _⟩ => ⟨S4x1024x1024, .bf16⟩
  | .hbm, ⟨17, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x1x1024, .f32⟩
  | .local _ .vmem, ⟨10, _⟩ => ⟨S1x256x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S17408x1024 : Shape := ⟨2, ![17408, 1024]⟩
abbrev S4x4x4096x256 : Shape := ⟨4, ![4, 4, 4096, 256]⟩
abbrev S4x128x8x256 : Shape := ⟨4, ![4, 128, 8, 256]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x256x1024 : Shape := ⟨3, ![4, 256, 1024]⟩
abbrev S4x1024x1024 : Shape := ⟨3, ![4, 1024, 1024]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x128x8x256 : Shape := ⟨4, ![1, 128, 8, 256]⟩
abbrev S128x8x256 : Shape := ⟨3, ![128, 8, 256]⟩
abbrev S1024x256 : Shape := ⟨2, ![1024, 256]⟩
abbrev S17408x256 : Shape := ⟨2, ![17408, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S17408x5632 : Shape := ⟨2, ![17408, 5632]⟩
abbrev S17408x2816 : Shape := ⟨2, ![17408, 2816]⟩

abbrev nBuf : Space → Nat
  | .hbm => 90
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S4x4x4096x256, .f32⟩
  | .hbm, ⟨2, _⟩ => ⟨S4x128x8x256, .f32⟩
  | .hbm, ⟨3, _⟩ => ⟨S4x1024, .f32⟩
  | .hbm, ⟨4, _⟩ => ⟨S4x1024x5632, .f32⟩
  | .hbm, ⟨5, _⟩ => ⟨S4x2816x1024, .f32⟩
  | .hbm, ⟨6, _⟩ => ⟨S4x1024, .f32⟩
  | .hbm, ⟨7, _⟩ => ⟨S4x256x1024, .f32⟩
  | .hbm, ⟨8, _⟩ => ⟨S4x1024x1024, .f32⟩
  | .hbm, ⟨9, _⟩ => ⟨S1x4x4096x256, .f32⟩
  | .hbm, ⟨10, _⟩ => ⟨S4x4096x256, .f32⟩
  | .hbm, ⟨11, _⟩ => ⟨S16384x256, .f32⟩
  | .hbm, ⟨12, _⟩ => ⟨S1x128x8x256, .f32⟩
  | .hbm, ⟨13, _⟩ => ⟨S128x8x256, .f32⟩
  | .hbm, ⟨14, _⟩ => ⟨S1024x256, .f32⟩
  | .hbm, ⟨15, _⟩ => ⟨S17408x256, .f32⟩
  | .hbm, ⟨16, _⟩ => ⟨S1x256x1024, .f32⟩
  | .hbm, ⟨17, _⟩ => ⟨S256x1024, .f32⟩
  | .hbm, ⟨18, _⟩ => ⟨S17408x1024, .f32⟩
  | .hbm, ⟨19, _⟩ => ⟨S1x1024, .f32⟩
  | .hbm, ⟨20, _⟩ => ⟨S1024, .f32⟩
  | .hbm, ⟨21, _⟩ => ⟨S17408x1024, .f32⟩
  | .hbm, ⟨22, _⟩ => ⟨S_, .f32⟩
  | .hbm, ⟨23, _⟩ => ⟨S17408, .f32⟩
  | .hbm, ⟨24, _⟩ => ⟨S17408x1, .f32⟩
  | .hbm, ⟨25, _⟩ => ⟨S_, .f32⟩
  | .hbm, ⟨26, _⟩ => ⟨S17408x1, .f32⟩
  | .hbm, ⟨27, _⟩ => ⟨S17408x1, .f32⟩
  | .hbm, ⟨28, _⟩ => ⟨S_, .f32⟩
  | .hbm, ⟨29, _⟩ => ⟨S17408x1, .f32⟩
  | .hbm, ⟨30, _⟩ => ⟨S17408x1, .f32⟩
  | .hbm, ⟨31, _⟩ => ⟨S17408x1, .f32⟩
  | .hbm, ⟨32, _⟩ => ⟨S17408x1024, .f32⟩
  | .hbm, ⟨33, _⟩ => ⟨S17408x1024, .f32⟩
  | .hbm, ⟨34, _⟩ => ⟨S1x1024, .f32⟩
  | .hbm, ⟨35, _⟩ => ⟨S17408x1024, .f32⟩
  | .hbm, ⟨36, _⟩ => ⟨S17408x1024, .f32⟩
  | .hbm, ⟨37, _⟩ => ⟨S1x1024x1024, .f32⟩
  | .hbm, ⟨38, _⟩ => ⟨S1024x1024, .f32⟩
  | .hbm, ⟨39, _⟩ => ⟨S17408x1024, .f32⟩
  | .hbm, ⟨40, _⟩ => ⟨S17408x1024, .f32⟩
  | .hbm, ⟨41, _⟩ => ⟨S17408x1024, .f32⟩
  | .hbm, ⟨42, _⟩ => ⟨S_, .f32⟩
  | .hbm, ⟨43, _⟩ => ⟨S17408x1024, .f32⟩
  | .hbm, ⟨44, _⟩ => ⟨S17408x1024, .f32⟩
  | .hbm, ⟨45, _⟩ => ⟨S_, .f32⟩
  | .hbm, ⟨46, _⟩ => ⟨S17408x1024, .f32⟩
  | .hbm, ⟨47, _⟩ => ⟨S17408x1024, .f32⟩
  | .hbm, ⟨48, _⟩ => ⟨S17408x1024, .f32⟩
  | .hbm, ⟨49, _⟩ => ⟨S17408x1024, .f32⟩
  | .hbm, ⟨50, _⟩ => ⟨S1x1024, .f32⟩
  | .hbm, ⟨51, _⟩ => ⟨S1024, .f32⟩
  | .hbm, ⟨52, _⟩ => ⟨S17408x1024, .f32⟩
  | .hbm, ⟨53, _⟩ => ⟨S_, .f32⟩
  | .hbm, ⟨54, _⟩ => ⟨S17408, .f32⟩
  | .hbm, ⟨55, _⟩ => ⟨S17408x1, .f32⟩
  | .hbm, ⟨56, _⟩ => ⟨S_, .f32⟩
  | .hbm, ⟨57, _⟩ => ⟨S17408x1, .f32⟩
  | .hbm, ⟨58, _⟩ => ⟨S17408x1, .f32⟩
  | .hbm, ⟨59, _⟩ => ⟨S_, .f32⟩
  | .hbm, ⟨60, _⟩ => ⟨S17408x1, .f32⟩
  | .hbm, ⟨61, _⟩ => ⟨S17408x1, .f32⟩
  | .hbm, ⟨62, _⟩ => ⟨S17408x1, .f32⟩
  | .hbm, ⟨63, _⟩ => ⟨S17408x1024, .f32⟩
  | .hbm, ⟨64, _⟩ => ⟨S17408x1024, .f32⟩
  | .hbm, ⟨65, _⟩ => ⟨S1x1024, .f32⟩
  | .hbm, ⟨66, _⟩ => ⟨S17408x1024, .f32⟩
  | .hbm, ⟨67, _⟩ => ⟨S17408x1024, .f32⟩
  | .hbm, ⟨68, _⟩ => ⟨S1x1024x5632, .f32⟩
  | .hbm, ⟨69, _⟩ => ⟨S1024x5632, .f32⟩
  | .hbm, ⟨70, _⟩ => ⟨S1x2816x1024, .f32⟩
  | .hbm, ⟨71, _⟩ => ⟨S2816x1024, .f32⟩
  | .hbm, ⟨72, _⟩ => ⟨S17408x5632, .f32⟩
  | .hbm, ⟨73, _⟩ => ⟨S17408x2816, .f32⟩
  | .hbm, ⟨74, _⟩ => ⟨S17408x2816, .f32⟩
  | .hbm, ⟨75, _⟩ => ⟨S17408x2816, .f32⟩
  | .hbm, ⟨76, _⟩ => ⟨S17408x2816, .f32⟩
  | .hbm, ⟨77, _⟩ => ⟨S_, .f32⟩
  | .hbm, ⟨78, _⟩ => ⟨S17408x2816, .f32⟩
  | .hbm, ⟨79, _⟩ => ⟨S17408x2816, .f32⟩
  | .hbm, ⟨80, _⟩ => ⟨S_, .f32⟩
  | .hbm, ⟨81, _⟩ => ⟨S17408x2816, .f32⟩
  | .hbm, ⟨82, _⟩ => ⟨S17408x2816, .f32⟩
  | .hbm, ⟨83, _⟩ => ⟨S17408x2816, .f32⟩
  | .hbm, ⟨84, _⟩ => ⟨S17408x2816, .f32⟩
  | .hbm, ⟨85, _⟩ => ⟨S17408x1024, .f32⟩
  | .hbm, ⟨86, _⟩ => ⟨S_, .f32⟩
  | .hbm, ⟨87, _⟩ => ⟨S17408x1024, .f32⟩
  | .hbm, ⟨88, _⟩ => ⟨S17408x1024, .f32⟩
  | .hbm, ⟨89, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_7 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel8.lean ====
abbrev S4x4096x1024 : Shape := ⟨3, ![4, 4096, 1024]⟩
abbrev S128x8x1024 : Shape := ⟨3, ![128, 8, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S2x1024x1536 : Shape := ⟨3, ![2, 1024, 1536]⟩
abbrev S16384x1024 : Shape := ⟨2, ![16384, 1024]⟩
abbrev S1024x1024 : Shape := ⟨2, ![1024, 1024]⟩
abbrev S4x1x1024 : Shape := ⟨3, ![4, 1, 1024]⟩
abbrev S17408x1024 : Shape := ⟨2, ![17408, 1024]⟩
abbrev S17408x1536 : Shape := ⟨2, ![17408, 1536]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1024x1536 : Shape := ⟨3, ![1, 1024, 1536]⟩
abbrev S512x1536 : Shape := ⟨2, ![512, 1536]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S1024x1536 : Shape := ⟨2, ![1024, 1536]⟩

abbrev nBuf : Space → Nat
  | .hbm => 16
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S128x8x1024, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x1024, .f32⟩
  | .hbm, ⟨6, _⟩ => ⟨S2x1024x1536, .f32⟩
  | .hbm, ⟨7, _⟩ => ⟨S16384x1024, .f32⟩
  | .hbm, ⟨8, _⟩ => ⟨S1024x1024, .f32⟩
  | .hbm, ⟨9, _⟩ => ⟨S4x1x1024, .f32⟩
  | .hbm, ⟨10, _⟩ => ⟨S4x1x1024, .f32⟩
  | .hbm, ⟨11, _⟩ => ⟨S4x1024x5632, .bf16⟩
  | .hbm, ⟨12, _⟩ => ⟨S4x2816x1024, .bf16⟩
  | .hbm, ⟨13, _⟩ => ⟨S2x1024x1536, .bf16⟩
  | .hbm, ⟨14, _⟩ => ⟨S17408x1024, .f32⟩
  | .hbm, ⟨15, _⟩ => ⟨S17408x1536, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1x1024, .f32⟩
  | .local _ .vmem, ⟨8, _⟩ => ⟨S1x1024x1536, .bf16⟩
  | .local _ .vmem, ⟨9, _⟩ => ⟨S512x1024, .f32⟩
  | .local _ .vmem, ⟨10, _⟩ => ⟨S512x1024, .f32⟩
  | .local _ .vmem, ⟨11, _⟩ => ⟨S512x1536, .f32⟩
  | .local _ .vmem, ⟨12, _⟩ => ⟨S512x1536, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4x4096x1024 : Shape := ⟨3, ![4, 4096, 1024]⟩
abbrev S128x8x1024 : Shape := ⟨3, ![128, 8, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S2x1024x1536 : Shape := ⟨3, ![2, 1024, 1536]⟩
abbrev S16384x1024 : Shape := ⟨2, ![16384, 1024]⟩
abbrev S1024x1024 : Shape := ⟨2, ![1024, 1024]⟩
abbrev S17408x1024 : Shape := ⟨2, ![17408, 1024]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S17408x5632 : Shape := ⟨2, ![17408, 5632]⟩
abbrev S17408x2816 : Shape := ⟨2, ![17408, 2816]⟩
abbrev S1x1024x1536 : Shape := ⟨3, ![1, 1024, 1536]⟩
abbrev S1024x1536 : Shape := ⟨2, ![1024, 1536]⟩
abbrev S17408x1536 : Shape := ⟨2, ![17408, 1536]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x8x1024, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x1024, .f32⟩
  | .hbm, ⟨6, _⟩ => ⟨S2x1024x1536, .f32⟩
  | .hbm, ⟨7, _⟩ => ⟨S16384x1024, .f32⟩
  | .hbm, ⟨8, _⟩ => ⟨S1024x1024, .f32⟩
  | .hbm, ⟨9, _⟩ => ⟨S17408x1024, .f32⟩
  | .hbm, ⟨10, _⟩ => ⟨S1x1024, .f32⟩
  | .hbm, ⟨11, _⟩ => ⟨S1024, .f32⟩
  | .hbm, ⟨12, _⟩ => ⟨S17408x1024, .f32⟩
  | .hbm, ⟨13, _⟩ => ⟨S_, .f32⟩
  | .hbm, ⟨14, _⟩ => ⟨S17408, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S_, .f32⟩
  | .hbm, ⟨20, _⟩ => ⟨S17408x1, .f32⟩
  | .hbm, ⟨21, _⟩ => ⟨S17408x1, .f32⟩
  | .hbm, ⟨22, _⟩ => ⟨S17408x1, .f32⟩
  | .hbm, ⟨23, _⟩ => ⟨S17408x1024, .f32⟩
  | .hbm, ⟨24, _⟩ => ⟨S17408x1024, .f32⟩
  | .hbm, ⟨25, _⟩ => ⟨S1x1024, .f32⟩
  | .hbm, ⟨26, _⟩ => ⟨S17408x1024, .f32⟩
  | .hbm, ⟨27, _⟩ => ⟨S17408x1024, .f32⟩
  | .hbm, ⟨28, _⟩ => ⟨S1x1024x5632, .f32⟩
  | .hbm, ⟨29, _⟩ => ⟨S1024x5632, .f32⟩
  | .hbm, ⟨30, _⟩ => ⟨S1x2816x1024, .f32⟩
  | .hbm, ⟨31, _⟩ => ⟨S2816x1024, .f32⟩
  | .hbm, ⟨32, _⟩ => ⟨S17408x5632, .f32⟩
  | .hbm, ⟨33, _⟩ => ⟨S17408x2816, .f32⟩
  | .hbm, ⟨34, _⟩ => ⟨S17408x2816, .f32⟩
  | .hbm, ⟨35, _⟩ => ⟨S17408x2816, .f32⟩
  | .hbm, ⟨36, _⟩ => ⟨S17408x2816, .f32⟩
  | .hbm, ⟨37, _⟩ => ⟨S_, .f32⟩
  | .hbm, ⟨38, _⟩ => ⟨S17408x2816, .f32⟩
  | .hbm, ⟨39, _⟩ => ⟨S17408x2816, .f32⟩
  | .hbm, ⟨40, _⟩ => ⟨S_, .f32⟩
  | .hbm, ⟨41, _⟩ => ⟨S17408x2816, .f32⟩
  | .hbm, ⟨42, _⟩ => ⟨S17408x2816, .f32⟩
  | .hbm, ⟨43, _⟩ => ⟨S17408x2816, .f32⟩
  | .hbm, ⟨44, _⟩ => ⟨S17408x2816, .f32⟩
  | .hbm, ⟨45, _⟩ => ⟨S17408x1024, .f32⟩
  | .hbm, ⟨46, _⟩ => ⟨S_, .f32⟩
  | .hbm, ⟨47, _⟩ => ⟨S17408x1024, .f32⟩
  | .hbm, ⟨48, _⟩ => ⟨S17408x1024, .f32⟩
  | .hbm, ⟨49, _⟩ => ⟨S17408x1024, .f32⟩
  | .hbm, ⟨50, _⟩ => ⟨S1x1024, .f32⟩
  | .hbm, ⟨51, _⟩ => ⟨S1024, .f32⟩
  | .hbm, ⟨52, _⟩ => ⟨S17408x1024, .f32⟩
  | .hbm, ⟨53, _⟩ => ⟨S_, .f32⟩
  | .hbm, ⟨54, _⟩ => ⟨S17408, .f32⟩
  | .hbm, ⟨55, _⟩ => ⟨S17408x1, .f32⟩
  | .hbm, ⟨56, _⟩ => ⟨S_, .f32⟩
  | .hbm, ⟨57, _⟩ => ⟨S17408x1, .f32⟩
  | .hbm, ⟨58, _⟩ => ⟨S17408x1, .f32⟩
  | .hbm, ⟨59, _⟩ => ⟨S_, .f32⟩
  | .hbm, ⟨60, _⟩ => ⟨S17408x1, .f32⟩
  | .hbm, ⟨61, _⟩ => ⟨S17408x1, .f32⟩
  | .hbm, ⟨62, _⟩ => ⟨S17408x1, .f32⟩
  | .hbm, ⟨63, _⟩ => ⟨S17408x1024, .f32⟩
  | .hbm, ⟨64, _⟩ => ⟨S17408x1024, .f32⟩
  | .hbm, ⟨65, _⟩ => ⟨S1x1024, .f32⟩
  | .hbm, ⟨66, _⟩ => ⟨S17408x1024, .f32⟩
  | .hbm, ⟨67, _⟩ => ⟨S17408x1024, .f32⟩
  | .hbm, ⟨68, _⟩ => ⟨S1x1024x1536, .f32⟩
  | .hbm, ⟨69, _⟩ => ⟨S1024x1536, .f32⟩
  | .hbm, ⟨70, _⟩ => ⟨S17408x1536, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel9.lean ====
abbrev S17408x1024 : Shape := ⟨2, ![17408, 1024]⟩
abbrev S16384x2048 : Shape := ⟨2, ![16384, 2048]⟩
abbrev S2048x1024 : Shape := ⟨2, ![2048, 1024]⟩
abbrev S1x2048x1024 : Shape := ⟨3, ![1, 2048, 1024]⟩
abbrev S512x1024 : Shape := ⟨2, ![512, 1024]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S17408x1024, .f32⟩
  | .hbm, ⟨1, _⟩ => ⟨S16384x2048, .f32⟩
  | .hbm, ⟨2, _⟩ => ⟨S2048x1024, .f32⟩
  | .hbm, ⟨3, _⟩ => ⟨S2048x1024, .bf16⟩
  | .hbm, ⟨4, _⟩ => ⟨S1x2048x1024, .bf16⟩
  | .hbm, ⟨5, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S17408x1024 : Shape := ⟨2, ![17408, 1024]⟩
abbrev S16384x2048 : Shape := ⟨2, ![16384, 2048]⟩
abbrev S2048x1024 : Shape := ⟨2, ![2048, 1024]⟩
abbrev S16384x1024 : Shape := ⟨2, ![16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x2048, .f32⟩
  | .hbm, ⟨2, _⟩ => ⟨S2048x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S17408x1024 : Shape := ⟨2, ![17408, 1024]⟩
abbrev S1024x2048 : Shape := ⟨2, ![1024, 2048]⟩
abbrev S2048x1024 : Shape := ⟨2, ![2048, 1024]⟩
abbrev S1x2048x1024 : Shape := ⟨3, ![1, 2048, 1024]⟩
abbrev S512x1024 : Shape := ⟨2, ![512, 1024]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S17408x1024, .f32⟩
  | .hbm, ⟨1, _⟩ => ⟨S1024x2048, .f32⟩
  | .hbm, ⟨2, _⟩ => ⟨S2048x1024, .f32⟩
  | .hbm, ⟨3, _⟩ => ⟨S2048x1024, .bf16⟩
  | .hbm, ⟨4, _⟩ => ⟨S1x2048x1024, .bf16⟩
  | .hbm, ⟨5, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S17408x1024 : Shape := ⟨2, ![17408, 1024]⟩
abbrev S1024x2048 : Shape := ⟨2, ![1024, 2048]⟩
abbrev S2048x1024 : Shape := ⟨2, ![2048, 1024]⟩
abbrev S16384x1024 : Shape := ⟨2, ![16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024x2048, .f32⟩
  | .hbm, ⟨2, _⟩ => ⟨S2048x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Model.lean ====
/- What the prompt attention's body computes, as pure functions of the blocks it reads: the online softmax's state after
   `n` key blocks (`stN`), the last, masked, block (`stLast`), and the block it writes (`outPt`). -/
module

public import proofs.«01_k».proof.Proof.Gen.KernelIdeal.Skeleton
public import Idealize.ShloMosaic.Lib.Pipeline.FrameBody
public import Idealize.ShloMosaic.Lib.Pipeline.Value

@[expose] public section

noncomputable section

namespace Cert.KernelIdeal.Attn

open Idealize.ShloMosaic Idealize.ShloMosaic.TcCoe
open Cert.KernelIdeal Cert.KernelIdeal.Gen

variable {F : FTy → Type} [FloatOps F] [Named F]

/-- Key block `n`: rows `512 n, …, 512 n + 511` of the cached rows. -/
def kvb (X : Vec F S4096x288 .bf16) (n : ℕ) : Vec F S512x288 .bf16 :=
  fun y => X fun a => ⟨((![512 * n, 0] : Fin 2 → ℕ) a + (y a).val) % S4096x288.size a,
    Nat.mod_lt _ (by revert a; decide)⟩

/-- A load of 512 rows from row `512 n` on reads key block `n`. -/
theorem ld_eq_kvb (X : Vec F S4096x288 .bf16) (n : ℕ) {off : Fin 2 → ℕ} (h : off = ![512 * n, 0])
    (inb : ∀ a, off a + S512x288.size a ≤ S4096x288.size a) :
    View.ld X (Rect.unit (s := S4096x288) off S512x288.size inb) = kvb X n := by
  subst h
  funext y
  refine congrArg X (funext fun a => Fin.ext ?_)
  have h1 := inb a
  have h2 : (y a).val < S512x288.size a := (y a).isLt
  show (![512 * n, 0] : Fin 2 → ℕ) a + 1 * (y a).val = ((![512 * n, 0] : Fin 2 → ℕ) a + (y a).val) % S4096x288.size a
  rw [Nat.one_mul, Nat.mod_eq_of_lt (by omega)]

/-- The online softmax's state: the running maximum and sum (each in 128 equal lanes), and the weighted sum of values. -/
structure St (F : FTy → Type) where
  m : Vec F S2048x128 .f32
  l : Vec F S2048x128 .f32
  a : Vec F S2048x256 .f32

/-- One key block `kv`, of scores `s`, taken in. -/
def stStep (kv : Vec F S512x288 .bf16) (s : Vec F S2048x512 .f32) (σ : St F) : St F where
  m := k0_pay13 (k0_pay8 s σ.m)
  l := k0_pay12 (k0_pay11 s σ.m σ.l)
  a := k0_pay14 (k0_pay7 kv) (k0_pay9 s σ.m) (k0_pay10 s σ.m) σ.a

/-- The state before any key block. -/
def st0 : St F := ⟨k0_pay94, k0_pay95, k0_pay96⟩

/-- The scores of key block `n`. -/
def scores (q : FVec F S2048x288 .bf16) (X : Vec F S4096x288 .bf16) (n : ℕ) : Vec F S2048x512 .f32 :=
  k0_pay6 q (kvb X n)

/-- The state after key blocks `0, …, n - 1`. -/
def stN (q : FVec F S2048x288 .bf16) (X : Vec F S4096x288 .bf16) : ℕ → St F
  | 0 => st0
  | n + 1 => stStep (kvb X n) (scores q X n) (stN q X n)

/-- One trip of the loop: two key blocks taken in, the scores of the next one computed. -/
def trip2 (q : FVec F S2048x288 .bf16) (X : Vec F S4096x288 .bf16) (k : ℕ) (p : Vec F S2048x512 .f32 × St F) :
    Vec F S2048x512 .f32 × St F :=
  (scores q X (2 * k + 2), stStep (kvb X (2 * k + 1)) (scores q X (2 * k + 1)) (stStep (kvb X (2 * k)) p.1 p.2))

/-- The first `k` trips, from what the loop starts with. -/
def tripsFrom (q : FVec F S2048x288 .bf16) (X : Vec F S4096x288 .bf16) (p : Vec F S2048x512 .f32 × St F) :
    ℕ → Vec F S2048x512 .f32 × St F
  | 0 => p
  | k + 1 => trip2 q X k (tripsFrom q X p k)

theorem tripsFrom_eq (q : FVec F S2048x288 .bf16) (X : Vec F S4096x288 .bf16) :
    ∀ k, tripsFrom q X (scores q X 0, st0) k = (scores q X (2 * k), stN q X (2 * k))
  | 0 => rfl
  | k + 1 => by
    rw [tripsFrom, tripsFrom_eq q X k]
    rfl

/-- The state after the last key block `n`, whose scores are masked (`arg1` the query block, `v16` its key block). -/
def stLast (q : FVec F S2048x288 .bf16) (X : Vec F S4096x288 .bf16) (arg1 v16 : BitVec 32) (n : ℕ) : St F :=
  stStep (kvb X n) (k0_pay67 arg1 v16 (scores q X n)) (stN q X n)

/-- The attention's output of all rows: the weighted sum of values over the sum of weights. -/
def oAll (σ : St F) : FVec F S2048x256 .f32 := k0_pay75 σ.a σ.l

/-- Head `h`'s 64 columns: its 128 rows of the attention's output through its value projection. -/
def headPay (o : FVec F S2048x256 .f32) (w : Vec F S16x256x64 .bf16) (h : Fin 16) : FVec F S128x64 .f32 :=
  shapeCast S128x64
    (matmul dot_S128x256_S256x64_S128x64_1_0_0_1_n_n none
      (truncf .bf16 (extractStridedSlice S128x256 ![128 * h.val, 0] o ⟨rfl, fun a => by
        have := h.isLt
        fin_cases a
        · show 128 * h.val + 128 ≤ 2048; omega
        · show 0 + 256 ≤ 256; omega⟩) bitsLt_bf16_f32)
      (shapeCast S256x64 (View.ld w (Rect.unit (s := S16x256x64) ![h.val, 0, 0] S1x256x64.size fun a => by
        have := h.isLt
        fin_cases a
        · show h.val + 1 ≤ 16; omega
        · show 0 + 256 ≤ 256; omega
        · show 0 + 64 ≤ 64; omega)) shapeCasts_S1x256x64_S256x64)
      (constant S128x64 .f32 0x00000000#32))
    shapeCasts_S128x64_S128x64

/-- The row and the column in its head of an index of the heads' columns side by side. -/
def headIdx (y : S128x1024.Idx) : S128x64.Idx :=
  fun a => ⟨(![(y 0).val, (y 1).val % 64] : Fin 2 → ℕ) a, by
    have h0 : (y 0).val < 128 := (y 0).isLt
    fin_cases a
    · exact h0
    · exact Nat.mod_lt _ (by decide)⟩

/-- The head of such an index. -/
def headOf (y : S128x1024.Idx) : Fin 16 := ⟨(y 1).val / 64, by
  have h1 : (y 1).val < 1024 := (y 1).isLt
  omega⟩

/-- All heads' columns side by side. -/
def uMat (o : FVec F S2048x256 .f32) (w : Vec F S16x256x64 .bf16) : Vec F S128x1024 .f32 :=
  fun y => headPay o w (headOf y) (headIdx y)

/-- Head `h`'s columns are `uMat`'s at columns `64 h, …, 64 h + 63`. -/
theorem headPay_eq (o : FVec F S2048x256 .f32) (w : Vec F S16x256x64 .bf16) (h : Fin 16) {off : Fin 2 → ℕ}
    (e : off = ![0, 64 * h.val]) (inb : ∀ a, off a + S128x64.size a ≤ S128x1024.size a) (x : S128x64.Idx) :
    headPay o w h x = uMat o w ((Rect.unit (s := S128x1024) off S128x64.size inb).emb x) := by
  subst e
  have hx : (x 1).val < 64 := (x 1).isLt
  have e1 : headOf ((Rect.unit (s := S128x1024) ![0, 64 * h.val] S128x64.size inb).emb x) = h := by
    refine Fin.ext ?_
    show (64 * h.val + 1 * (x 1).val) / 64 = h.val
    omega
  have e2 : headIdx ((Rect.unit (s := S128x1024) ![0, 64 * h.val] S128x64.size inb).emb x) = x := by
    refine funext fun a => Fin.ext ?_
    fin_cases a
    · show 0 + 1 * (x 0).val = (x 0).val
      omega
    · show (64 * h.val + 1 * (x 1).val) % 64 = (x 1).val
      omega
  show _ = headPay o w (headOf _) (headIdx _)
  rw [e1, e2]

/-- The last key block of a query block. -/
def nOff (i : grid0.Coords) : ℕ := (i 1).val / 4

/-- The state at the end of a point. -/
def stFin (i : grid0.Coords) (x0 : Vec F S1x16x128x288 .bf16) (x1 : Vec F S4096x288 .bf16) : St F :=
  stLast (k0_pay93 x0) x1 (BitVec.ofNat 32 (i 1).val) (BitVec.ofNat 32 (nOff i)) (nOff i)

/-- The block a point writes. -/
def outPt (i : grid0.Coords) (x0 : Vec F S1x16x128x288 .bf16) (x1 : Vec F S4096x288 .bf16) (x2 : Vec F S128x1024 .f32)
    (x3 : Vec F S16x256x64 .bf16) (x4 : Vec F S1024x1024 .bf16) : Vec F S128x1024 .f32 :=
  k0_pay5 x2 (uMat (oAll (stFin i x0 x1)) x3) x4

end Cert.KernelIdeal.Attn
-- ==== Proof.Offsets.lean ====
/- Where the body's loads lie: the loop's trip count and the first rows of the key blocks, in plain numbers. -/
module

public import proofs.«01_k».proof.Proof.Gen.KernelIdeal.Skeleton

@[expose] public section

namespace Cert.KernelIdeal.Attn

open Idealize.ShloMosaic Idealize.ShloMosaic.TcCoe
open Cert.KernelIdeal Cert.KernelIdeal.Gen

/-- The loop makes one trip per pair of key blocks before the last. -/
theorem trips1_eq (i : grid0.Coords) : (k0_t1_loop i).trips = (i 1).val / 8 := by
  have hi : (i 1).val < 32 := (i 1).isLt
  unfold k0_t1_loop
  generalize (i 1).val = v at hi ⊢
  interval_cases v <;> decide

/-- The second loop makes none. -/
theorem trips2_eq (i : grid0.Coords) : (k0_t2_loop i).trips = 0 := by
  have hi : (i 1).val < 32 := (i 1).isLt
  unfold k0_t2_loop
  generalize (i 1).val = v at hi ⊢
  interval_cases v <;> decide

theorem lt4_of_trip (i : grid0.Coords) (k : Fin (k0_t1_loop i).trips) : k.val < 4 := by
  have hi : (i 1).val < 32 := (i 1).isLt
  have hk := k.isLt
  have e := trips1_eq i
  omega

theorem off1_eq (i : grid0.Coords) (k : Fin (k0_t1_loop i).trips) : k0_off1 i k = ![512 * (2 * k.val + 1), 0] := by
  have h := lt4_of_trip i k
  unfold k0_off1
  generalize k.val = v at h
  interval_cases v <;> rfl

theorem off2_eq (i : grid0.Coords) (k : Fin (k0_t1_loop i).trips) : k0_off2 i k = ![512 * (2 * k.val), 0] := by
  have h := lt4_of_trip i k
  unfold k0_off2
  generalize k.val = v at h
  interval_cases v <;> rfl

theorem off3_eq (i : grid0.Coords) (k : Fin (k0_t1_loop i).trips) : k0_off3 i k = ![512 * (2 * k.val + 2), 0] := by
  have h := lt4_of_trip i k
  unfold k0_off3
  generalize k.val = v at h
  interval_cases v <;> rfl

theorem off7_eq (i : grid0.Coords) : k0_off7 i = ![512 * ((i 1).val / 4), 0] := by
  have hi : (i 1).val < 32 := (i 1).isLt
  unfold k0_off7
  generalize (i 1).val = v at *
  interval_cases v <;> rfl

theorem off8_eq (i : grid0.Coords) (h : 4 ≤ (i 1).val) : k0_off8 i = ![512 * ((i 1).val / 4 - 1), 0] := by
  have hi : (i 1).val < 32 := (i 1).isLt
  unfold k0_off8
  generalize (i 1).val = v at *
  interval_cases v <;> rfl

theorem off9_eq (i : grid0.Coords) : k0_off9 i = ![512 * ((i 1).val / 4), 0] := by
  have hi : (i 1).val < 32 := (i 1).isLt
  unfold k0_off9
  generalize (i 1).val = v at *
  interval_cases v <;> rfl

theorem off10_eq (i : grid0.Coords) : k0_off10 i = ![512 * ((i 1).val / 4), 0] := by
  have hi : (i 1).val < 32 := (i 1).isLt
  unfold k0_off10
  generalize (i 1).val = v at *
  interval_cases v <;> rfl

/-- The last key block, as the body computes it: the floor of a quotient, by its signs. -/
theorem v16_eq (i : grid0.Coords) :
    (let arg1 : BitVec 32 := BitVec.ofNat 32 (i 1).val
     let sgn (a : BitVec 32) : BitVec 32 := Scalar.subi (Scalar.extui (Scalar.cmpi .sgt a 0#32)) (Scalar.extui (Scalar.cmpi .slt a 0#32))
     Scalar.select (Scalar.andi (Scalar.cmpi .ne (sgn arg1) (sgn 4#32)) (Scalar.cmpi .ne (Scalar.remsi arg1 4#32) 0#32))
      (Scalar.subi (Scalar.divsi arg1 4#32) 1#32) (Scalar.divsi arg1 4#32) : BitVec 32) = BitVec.ofNat 32 ((i 1).val / 4) := by
  have hi : (i 1).val < 32 := (i 1).isLt
  generalize (i 1).val = v at *
  interval_cases v <;> rfl

/-- The odd case's last key block comes one after the loop's pairs. -/
theorem odd_of_cond (i : grid0.Coords) (h : k0_cond1 i = 1#1) : (i 1).val / 4 = 2 * ((i 1).val / 8) + 1 := by
  have hi : (i 1).val < 32 := (i 1).isLt
  revert h
  unfold k0_cond1
  generalize (i 1).val = v at *
  interval_cases v <;> decide

/-- The even case's comes right after them. -/
theorem even_of_cond (i : grid0.Coords) (h : k0_cond2 i = 1#1) : (i 1).val / 4 = 2 * ((i 1).val / 8) := by
  have hi : (i 1).val < 32 := (i 1).isLt
  revert h
  unfold k0_cond2
  generalize (i 1).val = v at *
  interval_cases v <;> decide

end Cert.KernelIdeal.Attn
-- ==== Proof.Trips.lean ====
/- The body's loop over pairs of key blocks, by its invariant: what the two score buffers and the softmax's three
   buffers hold before trip `k` is `tripsFrom` of what they held at entry. -/
module

public import proofs.«01_k».proof.Proof.Model
public import proofs.«01_k».proof.Proof.Offsets
public import proofs.«01_k».proof.Proof.Gen.KernelIdeal.Loops
public import Idealize.ShloMosaic.Lib.WholeRead

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄G" => MT nD τ sig Unit (Elt F) ℕ (UR sig nD τ) ℕ

/-- The pair of zero offsets. -/
theorem zero2 : (![0, 0] : Fin 2 → ℕ) = fun _ => 0 := by decide

section Whole

variable {sig : RefSig} {κ : Kind} {sp : Space} {S : Shape} {e : EltTy} (v : View sig κ sp S e)

/-- A buffer whose last store filled it reads that store's payload. -/
theorem read_writes_whole {off : Fin S.rank → ℕ} (h : off = fun _ => 0) (inb : ∀ a, off a + S.size a ≤ S.size a)
    (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ fun y => ⟨_, List.mem_cons_self, View.mem_set_unit_zero h inb y⟩,
    View.canon_cons_unit_zero h]

/-- A load of all of it reads what it holds. -/
theorem readAt_whole {off : Fin S.rank → ℕ} (h : off = fun _ => 0) (inb : ∀ a, off a + S.size a ≤ S.size a)
    (f : v.ty.Contents (Elt F)) :
    View.readAt (Elt F) v (Rect.unit off S.size inb).toLoadRect f = v.read (Elt F) f :=
  View.ld_unit_zero h inb (v.read (Elt F) f)

/-- A load of all of it after a store that filled it reads the store's payload. -/
theorem readCov_whole {off off' : Fin S.rank → ℕ} (h : off = fun _ => 0) (h' : off' = fun _ => 0)
    (inb : ∀ a, off a + S.size a ≤ S.size a) (inb' : ∀ a, off' a + S.size a ≤ S.size a)
    (w : S.Idx → Elt F e) (L : List (View.Piece (Elt F) S e)) :
    v.readCov ((⟨Rect.unit off S.size inb, w⟩ : View.Piece (Elt F) S e) :: L) (Rect.unit off' S.size inb').toLoadRect = w := by
  subst h h'
  exact View.readCov_cons_toLoadRect v (Rect.unit (s := S) (fun _ => 0) S.size inb) w L

end Whole

section Trip

theorem readAt_kvb (arg3 : Memref sig .tc .vmem S4096x288 .bf16) (X3 : BufTy.Contents (Elt F) arg3.view.ty) (n : ℕ)
    {off : Fin 2 → ℕ} (h : off = ![512 * n, 0]) (inb : ∀ a, off a + S512x288.size a ≤ S4096x288.size a) :
    View.readAt (Elt F) arg3.view (Rect.unit (s := S4096x288) off S512x288.size inb).toLoadRect X3
      = kvb (arg3.view.read (Elt F) X3) n :=
  ld_eq_kvb _ n h inb

variable (𝒱 : Variants) (c : Dev nD) (bd : Option 𝒱.V) (i : grid0.Coords)
  (arg2 : Memref sig .tc .vmem S1x16x128x288 .bf16) (harg2 : arg2.IsWhole)
  (arg3 : Memref sig .tc .vmem S4096x288 .bf16) (harg3 : arg3.IsWhole)
  (arg4 : Memref sig .tc .vmem S128x1024 .f32) (harg4 : arg4.IsWhole)
  (arg5 : Memref sig .tc .vmem S16x256x64 .bf16) (harg5 : arg5.IsWhole)
  (arg6 : Memref sig .tc .vmem S1024x1024 .bf16) (harg6 : arg6.IsWhole)
  (arg7 : Memref sig .tc .vmem S128x1024 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2048x256 .f32) (harg12 : arg12.IsWhole)
  (arg13 : Memref sig .tc .vmem S128x1024 .f32) (harg13 : arg13.IsWhole)
  (v16 : BitVec 32) (v19 : FVec F S2048x288 .bf16)
  (X3 : BufTy.Contents (Elt F) arg3.view.ty)

/-- What the score buffer `arg8` and the softmax's buffers read. -/
abbrev readSt (f8 : BufTy.Contents (Elt F) arg8.view.ty) (f10 : BufTy.Contents (Elt F) arg10.view.ty)
    (f11 : BufTy.Contents (Elt F) arg11.view.ty) (f12 : BufTy.Contents (Elt F) arg12.view.ty) : Vec F S2048x512 .f32 × St F :=
  (arg8.view.read (Elt F) f8, ⟨arg10.view.read (Elt F) f10, arg11.view.read (Elt F) f11, arg12.view.read (Elt F) f12⟩)

/-- Before trip `k`, from the contents `G8`, `G10`, `G11`, `G12` at entry. -/
abbrev inv1 (G8 : BufTy.Contents (Elt F) arg8.view.ty) (G10 : BufTy.Contents (Elt F) arg10.view.ty)
    (G11 : BufTy.Contents (Elt F) arg11.view.ty) (G12 : BufTy.Contents (Elt F) arg12.view.ty) (k : ℕ) (_u : PUnit) : sProp 𝕄G :=
  iprop((arg3.view.loc (c : Thread nD τ) ↦[arg3.view.set]{fullShare} X3)
    ∗ (∃ f, (arg8.view.loc (c : Thread nD τ) ↦[arg8.view.set]{fullShare} f)
        ∗ ⌜arg8.view.read (Elt F) f = (tripsFrom v19 (arg3.view.read (Elt F) X3) (readSt arg8 arg10 arg11 arg12 G8 G10 G11 G12) k).1⌝)
    ∗ (∃ f, (arg9.view.loc (c : Thread nD τ) ↦[arg9.view.set]{fullShare} f))
    ∗ (∃ f, (arg10.view.loc (c : Thread nD τ) ↦[arg10.view.set]{fullShare} f)
        ∗ ⌜arg10.view.read (Elt F) f = (tripsFrom v19 (arg3.view.read (Elt F) X3) (readSt arg8 arg10 arg11 arg12 G8 G10 G11 G12) k).2.m⌝)
    ∗ (∃ f, (arg11.view.loc (c : Thread nD τ) ↦[arg11.view.set]{fullShare} f)
        ∗ ⌜arg11.view.read (Elt F) f = (tripsFrom v19 (arg3.view.read (Elt F) X3) (readSt arg8 arg10 arg11 arg12 G8 G10 G11 G12) k).2.l⌝)
    ∗ (∃ f, (arg12.view.loc (c : Thread nD τ) ↦[arg12.view.set]{fullShare} f)
        ∗ ⌜arg12.view.read (Elt F) f = (tripsFrom v19 (arg3.view.read (Elt F) X3) (readSt arg8 arg10 arg11 arg12 G8 G10 G11 G12) k).2.a⌝))

set_option warn.classDefReducibility false in
/-- The loop by its invariant. -/
@[sl_loop] def loopInv1 (E : Set ℕ) (G8 : BufTy.Contents (Elt F) arg8.view.ty) (G10 : BufTy.Contents (Elt F) arg10.view.ty)
    (G11 : BufTy.Contents (Elt F) arg11.view.ty) (G12 : BufTy.Contents (Elt F) arg12.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v16 v19 where
  inv := inv1 (F := F) c arg3 arg8 arg9 arg10 arg11 arg12 v19 X3 G8 G10 G11 G12
  step k acc := by
    iintro ⟨HR3, ⟨%f8, H8, %h8⟩, ⟨%f9, H9⟩, ⟨%f10, H10, %h10⟩, ⟨%f11, H11, %h11⟩, ⟨%f12, H12, %h12⟩⟩
    unfold k0_t1_body
    sl_exec
    sl_step
    -- what the trip's loads read
    have e8 := (readAt_whole arg8.view zero2 inb_S2048x512_S2048x512_0_0 f8).trans h8
    have e10 := (readAt_whole arg10.view zero2 inb_S2048x128_S2048x128_0_0 f10).trans h10
    have e11 := (readAt_whole arg11.view zero2 inb_S2048x128_S2048x128_0_0 f11).trans h11
    have e12 := (readAt_whole arg12.view zero2 inb_S2048x256_S2048x256_0_0 f12).trans h12
    have k1 := readAt_kvb arg3 X3 (2 * k.val + 1) (off1_eq i k) (k0_off1_inb i k)
    have k2 := readAt_kvb arg3 X3 (2 * k.val) (off2_eq i k) (k0_off2_inb i k)
    have k3 := readAt_kvb arg3 X3 (2 * k.val + 2) (off3_eq i k) (k0_off3_inb i k)
    generalize hp : tripsFrom v19 (View.read (Elt F) arg3.view X3) (readSt arg8 arg10 arg11 arg12 G8 G10 G11 G12) k.val = p at *
    -- the scores and the state in the middle of the trip
    have e143 : loopInv1.sl.v143 i arg3 arg9 v19 X3 k = scores v19 (View.read (Elt F) arg3.view X3) (2 * k.val + 1) :=
      (readCov_whole arg9.view zero2 zero2 inb_S2048x512_S2048x512_0_0 inb_S2048x512_S2048x512_0_0 _ []).trans
        (congrArg (k0_pay6 v19) k1)
    have e149 : loopInv1.sl.v149 c arg8 arg10 f8 f10 = (stStep (kvb (View.read (Elt F) arg3.view X3) (2 * k.val)) p.1 p.2).m :=
      (readCov_whole arg10.view zero2 zero2 inb_S2048x128_S2048x128_0_0 inb_S2048x128_S2048x128_0_0 _ []).trans
        (congrArg₂ (fun s m => k0_pay13 (k0_pay8 s m)) e8 e10)
    have e163 : loopInv1.sl.v163 c arg8 arg10 arg11 f8 f10 f11 = (stStep (kvb (View.read (Elt F) arg3.view X3) (2 * k.val)) p.1 p.2).l :=
      (readCov_whole arg11.view zero2 zero2 inb_S2048x128_S2048x128_0_0 inb_S2048x128_S2048x128_0_0 _ []).trans
        (congr (congrArg₂ (fun s m l => k0_pay12 (k0_pay11 s m l)) e8 e10) e11)
    have e176 : loopInv1.sl.v176 c i arg3 arg8 arg10 arg12 X3 k f8 f10 f12
        = (stStep (kvb (View.read (Elt F) arg3.view X3) (2 * k.val)) p.1 p.2).a :=
      (readCov_whole arg12.view zero2 zero2 inb_S2048x256_S2048x256_0_0 inb_S2048x256_S2048x256_0_0 _ []).trans
        (congr (congr (congrArg₂ (fun kv s m a => k0_pay14 (k0_pay7 kv) (k0_pay9 s m) (k0_pay10 s m) a) k2 e8) e10) e12)
    have e148 : loopInv1.sl.v148 i arg3 X3 k = k0_pay7 (kvb (View.read (Elt F) arg3.view X3) (2 * k.val + 1)) :=
      congrArg k0_pay7 k1
    isplitl [HR3]; · iexact HR3
    isplitl [H8]
    · iexists _; isplitl [H8]; · iexact H8
      ipureintro
      rw [tripsFrom, hp]
      exact (read_writes_whole _ zero2 _ _ _ _).trans (congrArg (k0_pay6 v19) k3)
    isplitl [H9]
    · iexists _; iexact H9
    isplitl [H10]
    · iexists _; isplitl [H10]; · iexact H10
      ipureintro
      rw [tripsFrom, hp, e143, e149]
      exact read_writes_whole _ zero2 _ _ _ _
    isplitl [H11]
    · iexists _; isplitl [H11]; · iexact H11
      ipureintro
      rw [tripsFrom, hp, e143, e149, e163]
      exact read_writes_whole _ zero2 _ _ _ _
    iexists _; isplitl [H12]; · iexact H12
    ipureintro
    rw [tripsFrom, hp, e143, e148, e149, e176]
    exact read_writes_whole _ zero2 _ _ _ _

set_option warn.classDefReducibility false in
/-- The second loop makes no trip: it takes nothing and leaves nothing. -/
@[sl_loop] def loopInv2 (E : Set ℕ) (v61 : BitVec 32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v16 v19 v61 where
  inv _ _ := iprop(⌜True⌝)
  step k _ := (Nat.not_lt_zero _ (Nat.lt_of_lt_of_eq k.isLt (trips2_eq i))).elim

end Trip

end Cert.KernelIdeal.Attn
-- ==== Proof.Heads.lean ====
/- The heads' columns: sixteen stores side by side fill the buffer the output projection reads. -/
module

public import proofs.«01_k».proof.Proof.Trips
public import Idealize.ShloMosaic.Lib.Ring

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F] [Named F]

/-- The sixteen stores, last first. -/
def headPieces (o : FVec F S2048x256 .f32) (w : Vec F S16x256x64 .bf16) : List (View.Piece (Elt F) S128x1024 .f32) :=
  [⟨Rect.unit (s := S128x1024) ![0, 960] S128x64.size inb_S128x1024_S128x64_0_960, headPay o w 15⟩,
    ⟨Rect.unit (s := S128x1024) ![0, 896] S128x64.size inb_S128x1024_S128x64_0_896, headPay o w 14⟩,
    ⟨Rect.unit (s := S128x1024) ![0, 832] S128x64.size inb_S128x1024_S128x64_0_832, headPay o w 13⟩,
    ⟨Rect.unit (s := S128x1024) ![0, 768] S128x64.size inb_S128x1024_S128x64_0_768, headPay o w 12⟩,
    ⟨Rect.unit (s := S128x1024) ![0, 704] S128x64.size inb_S128x1024_S128x64_0_704, headPay o w 11⟩,
    ⟨Rect.unit (s := S128x1024) ![0, 640] S128x64.size inb_S128x1024_S128x64_0_640, headPay o w 10⟩,
    ⟨Rect.unit (s := S128x1024) ![0, 576] S128x64.size inb_S128x1024_S128x64_0_576, headPay o w 9⟩,
    ⟨Rect.unit (s := S128x1024) ![0, 512] S128x64.size inb_S128x1024_S128x64_0_512, headPay o w 8⟩,
    ⟨Rect.unit (s := S128x1024) ![0, 448] S128x64.size inb_S128x1024_S128x64_0_448, headPay o w 7⟩,
    ⟨Rect.unit (s := S128x1024) ![0, 384] S128x64.size inb_S128x1024_S128x64_0_384, headPay o w 6⟩,
    ⟨Rect.unit (s := S128x1024) ![0, 320] S128x64.size inb_S128x1024_S128x64_0_320, headPay o w 5⟩,
    ⟨Rect.unit (s := S128x1024) ![0, 256] S128x64.size inb_S128x1024_S128x64_0_256, headPay o w 4⟩,
    ⟨Rect.unit (s := S128x1024) ![0, 192] S128x64.size inb_S128x1024_S128x64_0_192, headPay o w 3⟩,
    ⟨Rect.unit (s := S128x1024) ![0, 128] S128x64.size inb_S128x1024_S128x64_0_128, headPay o w 2⟩,
    ⟨Rect.unit (s := S128x1024) ![0, 64] S128x64.size inb_S128x1024_S128x64_0_64, headPay o w 1⟩,
    ⟨Rect.unit (s := S128x1024) ![0, 0] S128x64.size inb_S128x1024_S128x64_0_0, headPay o w 0⟩]

theorem headPieces_payload (o : FVec F S2048x256 .f32) (w : Vec F S16x256x64 .bf16) :
    ∀ p ∈ headPieces o w, ∀ x : p.1.shape.Idx, p.2 x = uMat o w (p.1.emb x) := by
  unfold headPieces
  simp only [List.forall_mem_cons, List.not_mem_nil, false_implies, implies_true, and_true]
  exact ⟨headPay_eq o w 15 rfl _, headPay_eq o w 14 rfl _, headPay_eq o w 13 rfl _, headPay_eq o w 12 rfl _, headPay_eq o w 11 rfl _, headPay_eq o w 10 rfl _, headPay_eq o w 9 rfl _, headPay_eq o w 8 rfl _, headPay_eq o w 7 rfl _, headPay_eq o w 6 rfl _, headPay_eq o w 5 rfl _, headPay_eq o w 4 rfl _, headPay_eq o w 3 rfl _, headPay_eq o w 2 rfl _, headPay_eq o w 1 rfl _, headPay_eq o w 0 rfl _⟩

theorem headPieces_cover (o : FVec F S2048x256 .f32) (w : Vec F S16x256x64 .bf16) (y : S128x1024.Idx) :
    ∃ p ∈ headPieces o w, y ∈ p.1.set :=
  View.cover_of_tiledL (headPieces o w) S128x64.size (by sl_kernel_rfl) y

/-- Read back whole, they are `uMat`. -/
theorem readCov_heads (o : FVec F S2048x256 .f32) (w : Vec F S16x256x64 .bf16) (v : View sig .tc .vmem S128x1024 .f32)
    (inb : ∀ a, (![0, 0] : Fin 2 → ℕ) a + S128x1024.size a ≤ S128x1024.size a) :
    v.readCov (headPieces o w) (Rect.unit (s := S128x1024) ![0, 0] S128x1024.size inb).toLoadRect = uMat o w := by
  rw [View.readCov_eq_canon_ld v _ _ (headPieces_cover o w), View.ld_unit_zero zero2]
  rw [← View.read_writes_eq_canon v v.junk _ (headPieces_cover o w)]
  exact funext fun y => View.read_writes_apply_of_pieces v v.junk (uMat o w) _ (headPieces_payload o w) y (headPieces_cover o w y)

end Cert.KernelIdeal.Attn
-- ==== Proof.RunEven.lean ====
/- The body's run where the last key block is even: it leaves `outPt` of what it reads. -/
module

public import proofs.«01_k».proof.Proof.Heads
public import proofs.«01_k».proof.Proof.Gen.KernelIdeal.Frame.Runs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

set_option maxHeartbeats 4000000 in
/-- The run: the inputs' memrefs are left as they were, the output's holds `outPt`, the scratch anything. -/
theorem runA (c : Dev nD) (i : grid0.Coords)
  (arg2 : Memref sig .tc .vmem S1x16x128x288 .bf16) (harg2 : arg2.IsWhole)
  (arg3 : Memref sig .tc .vmem S4096x288 .bf16) (harg3 : arg3.IsWhole)
  (arg4 : Memref sig .tc .vmem S128x1024 .f32) (harg4 : arg4.IsWhole)
  (arg5 : Memref sig .tc .vmem S16x256x64 .bf16) (harg5 : arg5.IsWhole)
  (arg6 : Memref sig .tc .vmem S1024x1024 .bf16) (harg6 : arg6.IsWhole)
  (arg7 : Memref sig .tc .vmem S128x1024 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2048x256 .f32) (harg12 : arg12.IsWhole)
  (arg13 : Memref sig .tc .vmem S128x1024 .f32) (harg13 : arg13.IsWhole)
  (hc0 : ¬cond0_0 i) (hc1 : cond0_1 i)
  (x0 : Vec F S1x16x128x288 .bf16) (x1 : Vec F S4096x288 .bf16) (x2 : Vec F S128x1024 .f32)
  (x3 : Vec F S16x256x64 .bf16) (x4 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outPt i x0 x1 x2 x3 x4) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_mla_prompt i arg2 harg2 arg3 harg3 arg4 harg4 arg5 harg5 arg6 harg6 arg7 harg7 arg8 harg8 arg9 harg9 arg10 harg10 arg11 harg11 arg12 harg12 arg13 harg13) K := by
  simp only [cc0_mla_prompt_eq_skeleton]; unfold cc0_mla_prompt_skel
  simp only [k0_part17_eq_skeleton, k0_part18_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  sl_exec (disch := first | sl_exact hc0 | sl_exact hc1)
  sl_step
  obtain rfl := hf0; obtain rfl := hf1; obtain rfl := hf2; obtain rfl := hf3; obtain rfl := hf4
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine (read_writes_whole _ zero2 _ _ _ _).trans ?_
    have er : runA.sl.r c arg2 f0 = k0_pay93 (View.read (Elt F) arg2.view f0) :=
      congrArg k0_pay93 (readAt_whole arg2.view (by decide) _ f0)
    have ev16 : runA.sl.v16 i = BitVec.ofNat 32 (nOff i) := v16_eq i
    have e0 : readSt arg8 arg10 arg11 arg12 (arg8.view.writes (Elt F) arg8.view.junk (runA.sl.HS0_1 c arg2 arg3 f0 f1))
        (arg10.view.writes (Elt F) arg10.view.junk runA.sl.HS2_1) (arg11.view.writes (Elt F) arg11.view.junk runA.sl.HS3_1)
        (arg12.view.writes (Elt F) arg12.view.junk runA.sl.HS4_1)
        = (scores (k0_pay93 (View.read (Elt F) arg2.view f0)) (View.read (Elt F) arg3.view f1) 0, st0) :=
      Prod.ext ((read_writes_whole _ zero2 _ _ _ _).trans (congrArg₂ k0_pay6 er (readAt_kvb arg3 f1 0 rfl _)))
        (by
          have h (a b c) (σ : St F) (ha : a = σ.m) (hb : b = σ.l) (hc : c = σ.a) : (⟨a, b, c⟩ : St F) = σ := by
            subst ha hb hc; rfl
          exact h _ _ _ st0 (read_writes_whole _ zero2 _ _ _ _) (read_writes_whole _ zero2 _ _ _ _)
            (read_writes_whole _ zero2 _ _ _ _))
    rw [er, e0, tripsFrom_eq, show Scf.trips (k0_t1_loop i).lb (k0_t1_loop i).ub (k0_t1_loop i).st = _ from trips1_eq i,
      ← even_of_cond i hc1] at hL2 hL5 hL7 hL9
    have e8 := (readAt_whole arg8.view zero2 inb_S2048x512_S2048x512_0_0 fL0).trans hL2
    have e10 := (readAt_whole arg10.view zero2 inb_S2048x128_S2048x128_0_0 fL2).trans hL5
    have e11 := (readAt_whole arg11.view zero2 inb_S2048x128_S2048x128_0_0 fL3).trans hL7
    have e12 := (readAt_whole arg12.view zero2 inb_S2048x256_S2048x256_0_0 fL4).trans hL9
    have kk := readAt_kvb arg3 f1 ((i 1).val / 4) (off10_eq i) (k0_off10_inb i hc1)
    have e132 : runA.sl.v132 c i arg3 arg8 arg10 arg12 hc1 f1 fL0 fL2 fL4
        = (stFin i (View.read (Elt F) arg2.view f0) (View.read (Elt F) arg3.view f1)).a :=
      (readCov_whole arg12.view zero2 zero2 inb_S2048x256_S2048x256_0_0 inb_S2048x256_S2048x256_0_0 _ []).trans
        (congr (congr (congr (congrArg₂ (fun v kv s m a => k0_pay14 (k0_pay7 kv)
          (k0_pay9 (k0_pay67 (BitVec.ofNat 32 (i 1).val) v s) m) (k0_pay10 (k0_pay67 (BitVec.ofNat 32 (i 1).val) v s) m) a) ev16 kk) e8) e10) e12)
    have e133 : runA.sl.v133 c i arg8 arg10 arg11 fL0 fL2 fL3
        = (stFin i (View.read (Elt F) arg2.view f0) (View.read (Elt F) arg3.view f1)).l :=
      (readCov_whole arg11.view zero2 zero2 inb_S2048x128_S2048x128_0_0 inb_S2048x128_S2048x128_0_0 _ []).trans
        (congr (congr (congrArg₂ (fun v s m l => k0_pay12 (k0_pay11 (k0_pay67 (BitVec.ofNat 32 (i 1).val) v s) m l)) ev16 e8) e10) e11)
    have e267 : runA.sl.v267 c i arg3 arg5 arg8 arg10 arg11 arg12 arg13 hc1 f1 f3 fL0 fL2 fL3 fL4
        = uMat (k0_pay75 (runA.sl.v132 c i arg3 arg8 arg10 arg12 hc1 f1 fL0 fL2 fL4) (runA.sl.v133 c i arg8 arg10 arg11 fL0 fL2 fL3))
            (View.read (Elt F) arg5.view f3) :=
      readCov_heads _ _ _ _
    rw [e267, e132, e133, readAt_whole arg4.view zero2, readAt_whole arg6.view zero2]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.KernelIdeal.Attn
-- ==== Proof.RunOdd.lean ====
/- The body's run where the last key block is odd: it leaves `outPt` of what it reads. -/
module

public import proofs.«01_k».proof.Proof.Heads
public import proofs.«01_k».proof.Proof.Gen.KernelIdeal.Frame.Runs

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

set_option maxHeartbeats 4000000 in
/-- The run: the inputs' memrefs are left as they were, the output's holds `outPt`, the scratch anything. -/
theorem runB (c : Dev nD) (i : grid0.Coords)
  (arg2 : Memref sig .tc .vmem S1x16x128x288 .bf16) (harg2 : arg2.IsWhole)
  (arg3 : Memref sig .tc .vmem S4096x288 .bf16) (harg3 : arg3.IsWhole)
  (arg4 : Memref sig .tc .vmem S128x1024 .f32) (harg4 : arg4.IsWhole)
  (arg5 : Memref sig .tc .vmem S16x256x64 .bf16) (harg5 : arg5.IsWhole)
  (arg6 : Memref sig .tc .vmem S1024x1024 .bf16) (harg6 : arg6.IsWhole)
  (arg7 : Memref sig .tc .vmem S128x1024 .f32) (harg7 : arg7.IsWhole)
  (arg8 : Memref sig .tc .vmem S2048x512 .f32) (harg8 : arg8.IsWhole)
  (arg9 : Memref sig .tc .vmem S2048x512 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2048x256 .f32) (harg12 : arg12.IsWhole)
  (arg13 : Memref sig .tc .vmem S128x1024 .f32) (harg13 : arg13.IsWhole)
  (hc0 : cond0_0 i) (hc1 : ¬cond0_1 i)
  (x0 : Vec F S1x16x128x288 .bf16) (x1 : Vec F S4096x288 .bf16) (x2 : Vec F S128x1024 .f32)
  (x3 : Vec F S16x256x64 .bf16) (x4 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outPt i x0 x1 x2 x3 x4) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_mla_prompt i arg2 harg2 arg3 harg3 arg4 harg4 arg5 harg5 arg6 harg6 arg7 harg7 arg8 harg8 arg9 harg9 arg10 harg10 arg11 harg11 arg12 harg12 arg13 harg13) K := by
  simp only [cc0_mla_prompt_eq_skeleton]; unfold cc0_mla_prompt_skel
  simp only [k0_part17_eq_skeleton, k0_part18_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  sl_exec (disch := first | sl_exact hc0 | sl_exact hc1)
  sl_step
  obtain rfl := hf0; obtain rfl := hf1; obtain rfl := hf2; obtain rfl := hf3; obtain rfl := hf4
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine (read_writes_whole _ zero2 _ _ _ _).trans ?_
    have er : runB.sl.r c arg2 f0 = k0_pay93 (View.read (Elt F) arg2.view f0) :=
      congrArg k0_pay93 (readAt_whole arg2.view (by decide) _ f0)
    have ev16 : runB.sl.v16 i = BitVec.ofNat 32 (nOff i) := v16_eq i
    have e0 : readSt arg8 arg10 arg11 arg12 (arg8.view.writes (Elt F) arg8.view.junk (runB.sl.HS0_1 c arg2 arg3 f0 f1))
        (arg10.view.writes (Elt F) arg10.view.junk runB.sl.HS2_1) (arg11.view.writes (Elt F) arg11.view.junk runB.sl.HS3_1)
        (arg12.view.writes (Elt F) arg12.view.junk runB.sl.HS4_1)
        = (scores (k0_pay93 (View.read (Elt F) arg2.view f0)) (View.read (Elt F) arg3.view f1) 0, st0) :=
      Prod.ext ((read_writes_whole _ zero2 _ _ _ _).trans (congrArg₂ k0_pay6 er (readAt_kvb arg3 f1 0 rfl _)))
        (by
          have h (a b c) (σ : St F) (ha : a = σ.m) (hb : b = σ.l) (hc : c = σ.a) : (⟨a, b, c⟩ : St F) = σ := by
            subst ha hb hc; rfl
          exact h _ _ _ st0 (read_writes_whole _ zero2 _ _ _ _) (read_writes_whole _ zero2 _ _ _ _)
            (read_writes_whole _ zero2 _ _ _ _))
    have hk := odd_of_cond i hc0
    have h4 : 4 ≤ (i 1).val := by omega
    rw [er, e0, tripsFrom_eq, show Scf.trips (k0_t1_loop i).lb (k0_t1_loop i).ub (k0_t1_loop i).st = _ from trips1_eq i,
      show 2 * ((i 1).val / 8) = (i 1).val / 4 - 1 by omega] at hL2 hL5 hL7 hL9
    have e8 := (readAt_whole arg8.view zero2 inb_S2048x512_S2048x512_0_0 fL0).trans hL2
    have e10 := (readAt_whole arg10.view zero2 inb_S2048x128_S2048x128_0_0 fL2).trans hL5
    have e11 := (readAt_whole arg11.view zero2 inb_S2048x128_S2048x128_0_0 fL3).trans hL7
    have e12 := (readAt_whole arg12.view zero2 inb_S2048x256_S2048x256_0_0 fL4).trans hL9
    have k7 := readAt_kvb arg3 f1 ((i 1).val / 4) (off7_eq i) (k0_off7_inb i hc0)
    have k8 := readAt_kvb arg3 f1 ((i 1).val / 4 - 1) (off8_eq i h4) (k0_off8_inb i hc0)
    have k9 := readAt_kvb arg3 f1 ((i 1).val / 4) (off9_eq i) (k0_off9_inb i hc0)
    -- the state after the block before the last one
    have hs : stN (k0_pay93 (View.read (Elt F) arg2.view f0)) (View.read (Elt F) arg3.view f1) ((i 1).val / 4)
        = stStep (kvb (View.read (Elt F) arg3.view f1) ((i 1).val / 4 - 1))
          (scores (k0_pay93 (View.read (Elt F) arg2.view f0)) (View.read (Elt F) arg3.view f1) ((i 1).val / 4 - 1))
          (stN (k0_pay93 (View.read (Elt F) arg2.view f0)) (View.read (Elt F) arg3.view f1) ((i 1).val / 4 - 1)) := by
      rw [hk]; rfl
    have e141 : runB.sl.v141 c i arg2 arg3 arg9 hc0 f0 f1
        = scores (k0_pay93 (View.read (Elt F) arg2.view f0)) (View.read (Elt F) arg3.view f1) ((i 1).val / 4) :=
      (readCov_whole arg9.view zero2 zero2 inb_S2048x512_S2048x512_0_0 inb_S2048x512_S2048x512_0_0 _ []).trans
        (congrArg₂ k0_pay28 er k7)
    have e149 : runB.sl.v149 c arg8 arg10 fL0 fL2
        = (stN (k0_pay93 (View.read (Elt F) arg2.view f0)) (View.read (Elt F) arg3.view f1) ((i 1).val / 4)).m := by
      rw [hs]
      exact (readCov_whole arg10.view zero2 zero2 inb_S2048x128_S2048x128_0_0 inb_S2048x128_S2048x128_0_0 _ []).trans
        (congrArg₂ (fun s m => k0_pay13 (k0_pay8 s m)) e8 e10)
    have e163 : runB.sl.v163 c arg8 arg10 arg11 fL0 fL2 fL3
        = (stN (k0_pay93 (View.read (Elt F) arg2.view f0)) (View.read (Elt F) arg3.view f1) ((i 1).val / 4)).l := by
      rw [hs]
      exact (readCov_whole arg11.view zero2 zero2 inb_S2048x128_S2048x128_0_0 inb_S2048x128_S2048x128_0_0 _ []).trans
        (congr (congrArg₂ (fun s m l => k0_pay12 (k0_pay11 s m l)) e8 e10) e11)
    have e176 : runB.sl.v176 c i arg3 arg8 arg10 arg12 hc0 f1 fL0 fL2 fL4
        = (stN (k0_pay93 (View.read (Elt F) arg2.view f0)) (View.read (Elt F) arg3.view f1) ((i 1).val / 4)).a := by
      rw [hs]
      exact (readCov_whole arg12.view zero2 zero2 inb_S2048x256_S2048x256_0_0 inb_S2048x256_S2048x256_0_0 _ []).trans
        (congr (congr (congrArg₂ (fun kv s m a => k0_pay14 (k0_pay7 kv) (k0_pay9 s m) (k0_pay10 s m) a) k8 e8) e10) e12)
    have e185 : runB.sl.v185 c i arg2 arg3 arg8 arg9 arg10 arg12 hc0 f0 f1 fL0 fL2 fL4
        = (stFin i (View.read (Elt F) arg2.view f0) (View.read (Elt F) arg3.view f1)).a :=
      (readCov_whole arg12.view zero2 zero2 inb_S2048x256_S2048x256_0_0 inb_S2048x256_S2048x256_0_0 _ _).trans
        (congr (congr (congr (congrArg₂ (fun v kv s m a => k0_pay14 (k0_pay7 kv)
          (k0_pay9 (k0_pay67 (BitVec.ofNat 32 (i 1).val) v s) m) (k0_pay10 (k0_pay67 (BitVec.ofNat 32 (i 1).val) v s) m) a) ev16 k9) e141) e149) e176)
    have e186 : runB.sl.v186 c i arg2 arg3 arg8 arg9 arg10 arg11 hc0 f0 f1 fL0 fL2 fL3
        = (stFin i (View.read (Elt F) arg2.view f0) (View.read (Elt F) arg3.view f1)).l :=
      (readCov_whole arg11.view zero2 zero2 inb_S2048x128_S2048x128_0_0 inb_S2048x128_S2048x128_0_0 _ _).trans
        (congr (congr (congrArg₂ (fun v s m l => k0_pay12 (k0_pay11 (k0_pay67 (BitVec.ofNat 32 (i 1).val) v s) m l)) ev16 e141) e149) e163)
    have e320 : runB.sl.v320 c i arg2 arg3 arg5 arg8 arg9 arg10 arg11 arg12 arg13 hc0 f0 f1 f3 fL0 fL2 fL3 fL4
        = uMat (k0_pay75 (runB.sl.v185 c i arg2 arg3 arg8 arg9 arg10 arg12 hc0 f0 f1 fL0 fL2 fL4)
              (runB.sl.v186 c i arg2 arg3 arg8 arg9 arg10 arg11 hc0 f0 f1 fL0 fL2 fL3))
            (View.read (Elt F) arg5.view f3) :=
      readCov_heads _ _ _ _
    rw [e320, e185, e186, readAt_whole arg4.view zero2, readAt_whole arg6.view zero2]
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.KernelIdeal.Attn
-- ==== Proof.Body.lean ====
/- The idealized kernel's launch: every point leaves `outPt` of its blocks, so the result array is known block by block. -/
module

public import proofs.«01_k».proof.Proof.RunEven
public import proofs.«01_k».proof.Proof.RunOdd
public import Idealize.ShloMosaic.Lib.Claim
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F] [Named F]

/-- The resource algebra of the run. -/
local notation "𝕄" => MT nD τ sig Unit (Elt F) ℕ (UR sig nD τ) ℕ

variable (m : (ℓ : Loc nD τ sig) → Buf (Elt F) ℓ) (ρ : Dev nD → PrngReg)

/-- What point `t` leaves in the output's buffer. -/
def outAt (c : Dev nD) (t : Fin cfg0.N) : Vec F S128x1024 .f32 :=
  outPt (grid0.coords t) (iblk m c 0 t) (iblk m c 1 t) (iblk m c 2 t) (iblk m c 3 t) (iblk m c 4 t)

/-- The launch's data: the inputs' buffers keep their blocks, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- A point is of one of the two cases. -/
theorem case_at (t : Fin cfg0.N) : (¬cond0_0 (grid0.coords t) ∧ cond0_1 (grid0.coords t))
    ∨ (cond0_0 (grid0.coords t) ∧ ¬cond0_1 (grid0.coords t)) := by
  rw [hcond0_0, hcond0_1]
  omega

/-- A live window's buffer, after a point. -/
theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [h]

/-- The body at a point, on what it is called with. -/
theorem run_at (c : Dev nD) (t : Fin cfg0.N) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, owns (c : Thread nD τ) (ms0_5 t) fullShare d)
        ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (outAt m c t)
            ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) -∗ K ⟨⟩))
      ⊢ wp frame (wpE (defs₀ (F := F)) Variants.none c none) Set.univ (bodyAt0 t) K := by
  rcases case_at t with ⟨h0, h1⟩ | ⟨h0, h1⟩
  · exact runA c (grid0.coords t) _ _ _ _ _ _ _ _ _ _ _ _ _ _ _ _ _ _ _ _ _ _ _ _ h0 h1 _ _ _ _ _ _ _
  · exact runB c (grid0.coords t) _ _ _ _ _ _ _ _ _ _ _ _ _ _ _ _ _ _ _ _ _ _ _ _ h0 h1 _ _ _ _ _ _ _

/-- What a point is called with. -/
def ptPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def ptPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- The body's triple at a point. -/
theorem body_at (c : Dev nD) (t : Fin cfg0.N) :
    ptPre m c t ⊢ wp frame (wpE (defs₀ (F := F)) Variants.none c none) Set.univ (bodyAt0 t) (fun _ => ptPost m c t) := by
  unfold ptPre ptPost
  have e0 (d) : (dats m 0 c).before 0 t d = iblk m c 0 t := before0_0_of m (dats m 0 c) (A_eq m c 0) (after_0 m c) t d
  have e1 (d) : (dats m 0 c).before 1 t d = iblk m c 1 t := before0_1_of m (dats m 0 c) (A_eq m c 1) (after_1 m c) t d
  have e2 (d) : (dats m 0 c).before 2 t d = iblk m c 2 t := before0_2_of m (dats m 0 c) (A_eq m c 2) (after_2 m c) t d
  have e3 (d) : (dats m 0 c).before 3 t d = iblk m c 3 t := before0_3_of m (dats m 0 c) (A_eq m c 3) (after_3 m c) t d
  have e4 (d) : (dats m 0 c).before 4 t d = iblk m c 4 t := before0_4_of m (dats m 0 c) (A_eq m c 4) (after_4 m c) t d
  have l5 : cfg0.idle 5 (grid0.coords t) = false := by
    rcases case_at t with ⟨h0, h1⟩ | ⟨h0, h1⟩
    · exact liveAt0_5_A t h0 h1
    · exact liveAt0_5_B t h0 h1
  simp only [e0, e1, e2, e3, e4]
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA0_eq,
    leaves_live m c t 0 (liveAt0_0 t), leaves_live m c t 1 (liveAt0_1 t), leaves_live m c t 2 (liveAt0_2 t),
    leaves_live m c t 3 (liveAt0_3 t), leaves_live m c t 4 (liveAt0_4 t), leaves_live m c t 5 l5,
    after_0, after_1, after_2, after_3, after_4, after_5]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply run_at m c t
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The table's row at a point is the body. -/
theorem row_eq (t : Fin cfg0.N) : defs₀ (F := F) .tc cfg0.body (cfg0.bodyArgs t (cfg0.slots t)) = bodyAt0 t := by
  unfold defs₀; rw [Defs.onTc_tc]

/-- The obligation of the launch theorem. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
/-- The launch's run: the arrays as the data says, all counters at zero. -/
theorem launch_run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (launch_run m ρ)))
    ((θ_run defs _ _).mono (fun _ h => h.2) (launch_run m ρ))

/-! ## The result array, block by block -/

/-- Distinct points write distinct blocks. -/
theorem index_inj : ∀ t t' : Fin cfg0.N, win0_5.index t = win0_5.index t' → t = t' :=
  (by decide +kernel : ∀ t t' : Fin grid0.N, win0_5.index t = win0_5.index t' → t = t')

/-- A point's block of the final array is what the point leaves. -/
theorem block_final (c : Dev nD) (t : Fin cfg0.N) (hf : (cfg0.win 5).flush t = true) :
    ((cfg0.win 5).blk t).view.read (Elt F) ((dats m 0 c).arrAt 5 cfg0.N) = (cfg0.win 5).cut (grid0.coords t) (outAt m c t) := by
  rw [(dats m 0 c).read_blk_arrAt_eq_flushed 5 (fun t t' _ _ hne => (cfg0.win 5).disjoint_blk fun h => hne (index_inj t t' h))
    cfg0.N t t.isLt hf]
  show (cfg0.win 5).cut (grid0.coords t) ((dats m 0 c).after 5 t) = _
  rw [after_5]

/-- An index of no block keeps what the array held at the launch. -/
theorem rest_final (c : Dev nD) (i : S17408x1024.Idx)
    (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- The result after the run, named. -/
theorem run_result : θ_run defs (onTc (τ := τ) (main (F := F))) ⟨m, fun _ => 0, ρ⟩ fun r => ∀ c : Dev nD,
    r.2.mem ((c : Thread nD τ).loc main_v11) = (dats m 0 c).arrAt 5 cfg0.N :=
  (θ_run defs _ _).mono (fun r h c => (h.1 c).1 5) (launch_run m ρ)

end Cert.KernelIdeal.Attn
-- ==== Proof.Online.lean ====
/- The softmax of a row, over the extended reals: block by block with a running maximum, and all at once. A masked score is
   `⊥`; every other score is a real. -/
module

public import Idealize.ShloMosaic.PureOps.Ideal
public import Idealize.ShloMosaic.Lib.Pointwise

@[expose] public section

noncomputable section

namespace Cert.Softmax

open Idealize.ShloMosaic

/-- The factor of the base-two exponent: `1/√96 · log₂ e`. -/
def sc : ℝ := (Real.sqrt 96)⁻¹ * (Real.log 2)⁻¹

/-- The kernel's exponential of a scaled score. -/
def ex (x : EReal) : EReal := Ideal.exp2 (x * (sc : EReal))

/-- The weight of a score before any maximum is taken off. -/
def pw (x : EReal) : ℝ := (Ideal.exp (x * (((Real.sqrt 96)⁻¹ : ℝ) : EReal))).toReal

theorem root_pos : 0 < (Real.sqrt 96)⁻¹ := inv_pos.mpr (Real.sqrt_pos.mpr (by norm_num))

theorem sc_pos : 0 < sc := mul_pos root_pos (inv_pos.mpr (Real.log_pos (by norm_num)))

theorem pw_bot : pw ⊥ = 0 := by
  unfold pw
  rw [EReal.bot_mul_coe_of_pos root_pos]
  rfl

theorem pw_coe (x : ℝ) : pw (x : EReal) = Real.exp (x * (Real.sqrt 96)⁻¹) := by
  unfold pw
  rw [← EReal.coe_mul]
  rfl

theorem pw_nonneg (x : EReal) (h : x ≠ ⊤) : 0 ≤ pw x := by
  induction x with
  | bot => rw [pw_bot]
  | coe x => rw [pw_coe]; exact (Real.exp_pos _).le
  | top => exact absurd rfl h

theorem ex_coe (x : ℝ) : ex (x : EReal) = ((Real.exp (x * (Real.sqrt 96)⁻¹) : ℝ) : EReal) := by
  unfold ex
  rw [← EReal.coe_mul]
  show ((Real.rpow 2 (x * sc) : ℝ) : EReal) = _
  congr 1
  show (2 : ℝ) ^ (x * sc) = _
  have hl : Real.log 2 ≠ 0 := (Real.log_pos (by norm_num)).ne'
  rw [Real.rpow_def_of_pos (by norm_num)]
  congr 1
  unfold sc
  field_simp

/-- A score's exponential after a real maximum is taken off. -/
theorem ex_sub (x : EReal) (h : x ≠ ⊤) (μ : ℝ) :
    ex (x - (μ : EReal)) = ((Real.exp (-μ * (Real.sqrt 96)⁻¹) * pw x : ℝ) : EReal) := by
  induction x with
  | bot =>
    rw [pw_bot, mul_zero, EReal.bot_sub]
    unfold ex
    rw [EReal.bot_mul_coe_of_pos sc_pos]
    rfl
  | coe x =>
    rw [← EReal.coe_sub, ex_coe, pw_coe, ← Real.exp_add]
    congr 2
    ring
  | top => exact absurd rfl h

theorem coe_sum {n : ℕ} (f : Fin n → ℝ) : ((∑ k, f k : ℝ) : EReal) = ∑ k, (f k : EReal) :=
  map_sum (⟨⟨Real.toEReal, rfl⟩, EReal.coe_add⟩ : ℝ →+ EReal) f Finset.univ

/-- The maximum of scores, one of them unmasked, is a real. -/
theorem sup_real {n : ℕ} (s : Fin n → EReal) (hs : ∀ k, s k ≠ ⊤) (hb : ∃ k, s k ≠ ⊥) :
    ∃ μ : ℝ, Finset.univ.sup s = (μ : EReal) := by
  obtain ⟨k, hk⟩ := hb
  have h1 : Finset.univ.sup s < ⊤ := (Finset.sup_lt_iff bot_lt_top).mpr fun k _ => lt_top_iff_ne_top.mpr (hs k)
  have h2 : ⊥ < Finset.univ.sup s := (bot_lt_iff_ne_bot.mpr hk).trans_le (Finset.le_sup (Finset.mem_univ k))
  exact ⟨_, (EReal.coe_toReal h1.ne h2.ne').symm⟩

/-- The state after some scores: their weights' sum is `P`, their weighted values' `Q`, both up to the maximum taken off. -/
def Inv (P : ℝ) (Q : Fin 256 → ℝ) (M L : EReal) (A : Fin 256 → EReal) : Prop :=
  (M = ⊥ ∧ P = 0 ∧ (∀ j, Q j = 0) ∧ L = 0 ∧ ∀ j, A j = 0)
  ∨ ∃ μ : ℝ, M = (μ : EReal) ∧ L = ((Real.exp (-μ * (Real.sqrt 96)⁻¹) * P : ℝ) : EReal)
      ∧ ∀ j, A j = ((Real.exp (-μ * (Real.sqrt 96)⁻¹) * Q j : ℝ) : EReal)

theorem inv_zero : Inv 0 (fun _ => 0) ⊥ 0 (fun _ => 0) := Or.inl ⟨rfl, rfl, fun _ => rfl, rfl, fun _ => rfl⟩

/-- One block of scores and values taken in. -/
theorem inv_step {P : ℝ} {Q : Fin 256 → ℝ} {M L : EReal} {A : Fin 256 → EReal} (h : Inv P Q M L A)
    (s : Fin 512 → EReal) (v : Fin 512 → Fin 256 → ℝ) (hs : ∀ k, s k ≠ ⊤) (hb : ∃ k, s k ≠ ⊥) :
    Inv (P + ∑ k, pw (s k)) (fun j => Q j + ∑ k, pw (s k) * v k j) (max M (Finset.univ.sup s))
      (ex (M - max M (Finset.univ.sup s)) * L + ∑ k, ex (s k - max M (Finset.univ.sup s)))
      (fun j => A j * ex (M - max M (Finset.univ.sup s)) + ∑ k, ex (s k - max M (Finset.univ.sup s)) * (v k j : EReal)) := by
  obtain ⟨σ, hσ⟩ := sup_real s hs hb
  have hsum (μ : ℝ) : ∑ k, ex (s k - (μ : EReal)) = ((Real.exp (-μ * (Real.sqrt 96)⁻¹) * ∑ k, pw (s k) : ℝ) : EReal) := by
    rw [Finset.mul_sum, coe_sum]
    exact Finset.sum_congr rfl fun k _ => ex_sub _ (hs k) μ
  have hval (μ : ℝ) (j : Fin 256) : ∑ k, ex (s k - (μ : EReal)) * (v k j : EReal)
      = ((Real.exp (-μ * (Real.sqrt 96)⁻¹) * ∑ k, pw (s k) * v k j : ℝ) : EReal) := by
    rw [Finset.mul_sum, coe_sum]
    refine Finset.sum_congr rfl fun k _ => ?_
    rw [ex_sub _ (hs k) μ, ← EReal.coe_mul, mul_assoc]
  right
  rcases h with ⟨rfl, rfl, hQ, rfl, hA⟩ | ⟨μ, rfl, rfl, hA⟩
  · refine ⟨σ, ?_, ?_, fun j => ?_⟩
    · rw [hσ, max_eq_right bot_le]
    · rw [hσ, max_eq_right bot_le, mul_zero, zero_add, hsum, zero_add]
    · beta_reduce
      rw [hσ, max_eq_right bot_le, hA, zero_mul, zero_add, hval, hQ, zero_add]
  · have hm : max (μ : EReal) (Finset.univ.sup s) = ((max μ σ : ℝ) : EReal) := by
      rw [hσ]
      exact (EReal.coe_strictMono.monotone.map_max (a := μ) (b := σ)).symm
    have hα : ex ((μ : EReal) - ((max μ σ : ℝ) : EReal))
        = ((Real.exp (-(max μ σ) * (Real.sqrt 96)⁻¹) * Real.exp (μ * (Real.sqrt 96)⁻¹) : ℝ) : EReal) := by
      rw [ex_sub _ (EReal.coe_ne_top μ), pw_coe]
    have hc : Real.exp (μ * (Real.sqrt 96)⁻¹) * Real.exp (-μ * (Real.sqrt 96)⁻¹) = 1 := by
      rw [← Real.exp_add, ← Real.exp_zero]
      congr 1
      ring
    refine ⟨max μ σ, hm, ?_, fun j => ?_⟩
    · rw [hm, hα, hsum, ← EReal.coe_mul, ← EReal.coe_add]
      congr 1
      linear_combination (Real.exp (-(max μ σ) * (Real.sqrt 96)⁻¹) * P) * hc
    · beta_reduce
      rw [hm, hα, hval, hA, ← EReal.coe_mul, ← EReal.coe_add]
      congr 1
      linear_combination (Real.exp (-(max μ σ) * (Real.sqrt 96)⁻¹) * Q j) * hc

/-- The weighted sum over the weights' sum. -/
theorem inv_out {P : ℝ} {Q : Fin 256 → ℝ} {M L : EReal} {A : Fin 256 → EReal} (h : Inv P Q M L A) (hP : 0 < P)
    (j : Fin 256) : A j * Ideal.div 1 L = ((Q j / P : ℝ) : EReal) := by
  rcases h with ⟨-, rfl, -⟩ | ⟨μ, -, rfl, hA⟩
  · exact absurd hP (lt_irrefl _)
  · have he := (Real.exp_pos (-μ * (Real.sqrt 96)⁻¹)).ne'
    rw [hA, Ideal.div_coe (mul_ne_zero he hP.ne'), one_mul, ← EReal.coe_mul]
    congr 1
    field_simp

/-! ## All at once -/

/-- A scaled score's exponential after a real maximum is taken off. -/
theorem exp_sub (x : EReal) (h : x ≠ ⊤) (μ : ℝ) :
    Ideal.exp (x * (((Real.sqrt 96)⁻¹ : ℝ) : EReal) - (μ : EReal)) = ((Real.exp (-μ) * pw x : ℝ) : EReal) := by
  induction x with
  | bot =>
    rw [pw_bot, mul_zero, EReal.bot_mul_coe_of_pos root_pos, EReal.bot_sub]
    rfl
  | coe x =>
    rw [← EReal.coe_mul, ← EReal.coe_sub, pw_coe, ← Real.exp_add]
    show ((Real.exp _ : ℝ) : EReal) = _
    congr 2
    ring
  | top => exact absurd rfl h

theorem scale_ne_top (x : EReal) (h : x ≠ ⊤) : x * (((Real.sqrt 96)⁻¹ : ℝ) : EReal) ≠ ⊤ := by
  induction x with
  | bot => rw [EReal.bot_mul_coe_of_pos root_pos]; exact bot_ne_top
  | coe x => rw [← EReal.coe_mul]; exact EReal.coe_ne_top _
  | top => exact absurd rfl h

theorem scale_ne_bot (x : EReal) (h : x ≠ ⊤) (hb : x ≠ ⊥) : x * (((Real.sqrt 96)⁻¹ : ℝ) : EReal) ≠ ⊥ := by
  induction x with
  | bot => exact absurd rfl hb
  | coe x => rw [← EReal.coe_mul]; exact EReal.coe_ne_bot _
  | top => exact absurd rfl h

/-- The weights' sum is positive. -/
theorem sum_pos {n : ℕ} (s : Fin n → EReal) (hs : ∀ k, s k ≠ ⊤) (hb : ∃ k, s k ≠ ⊥) : 0 < ∑ k, pw (s k) := by
  obtain ⟨k, hk⟩ := hb
  refine Finset.sum_pos' (fun k _ => pw_nonneg _ (hs k)) ⟨k, Finset.mem_univ _, ?_⟩
  obtain ⟨x, hx⟩ : ∃ x : ℝ, s k = (x : EReal) := ⟨_, (EReal.coe_toReal (hs k) hk).symm⟩
  rw [hx, pw_coe]
  exact Real.exp_pos _

/-- The softmax of a row of scores. -/
theorem softmax_at {n : ℕ} (s lg : Fin n → EReal) (hl : ∀ k, lg k = s k * (((Real.sqrt 96)⁻¹ : ℝ) : EReal))
    (hs : ∀ k, s k ≠ ⊤) (hb : ∃ k, s k ≠ ⊥) (k : Fin n) :
    Ideal.div (Ideal.exp (lg k - Finset.univ.sup lg)) (∑ j, Ideal.exp (lg j - Finset.univ.sup lg))
      = ((pw (s k) / ∑ j, pw (s j) : ℝ) : EReal) := by
  obtain ⟨μ, hμ⟩ := sup_real lg (fun k => hl k ▸ scale_ne_top _ (hs k))
    (hb.imp fun k hk => hl k ▸ scale_ne_bot _ (hs k) hk)
  have hsum : ∑ j, Ideal.exp (lg j - (μ : EReal)) = ((Real.exp (-μ) * ∑ j, pw (s j) : ℝ) : EReal) := by
    rw [Finset.mul_sum, coe_sum]
    exact Finset.sum_congr rfl fun j _ => by rw [hl, exp_sub _ (hs j)]
  have hP := sum_pos s hs hb
  have he := (Real.exp_pos (-μ)).ne'
  rw [hμ, hsum, hl, exp_sub _ (hs k), Ideal.div_coe (mul_ne_zero he hP.ne'), ← EReal.coe_mul]
  congr 1
  field_simp

end Cert.Softmax
-- ==== Proof.Pays.lean ====
/- The body's vector expressions read at an index, over the extended reals. -/
module

public import proofs.«01_k».proof.Proof.Model
public import proofs.«01_k».proof.Proof.Online
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe
open Cert.KernelIdeal Cert.KernelIdeal.Gen
open Cert.Softmax

/-- The word of minus infinity. -/
theorem word_bot : Ideal.ofBits .f32 4286578688#32 = ⊥ := by
  simp [Ideal.ofBits, Ideal.ieee]

/-- The mask's name. -/
theorem named_mask : Named.named (F := Ideal) κ "mask" (φ := .f32) 4048155338#32 = (⊥ : EReal) :=
  IdealRules.named_const.ideal_named_scalar _ _ _ _ rfl

/-- The scale's name. -/
theorem named_scale : Named.named (F := Ideal) κ "scale_log2e" (φ := .f32) 1041680192#32 = (sc : EReal) :=
  IdealRules.named_const.ideal_named_scalar _ _ _ _ rfl

/-- The scores of a row and a key. -/
theorem pay6_at (q : FVec Ideal S2048x288 .bf16) (kv : Vec Ideal S512x288 .bf16) (r : Fin 2048) (k : Fin 512) :
    k0_pay6 (F := Ideal) q kv (ix2 r k) = ∑ j : Fin 288, q (ix2 r j) * kv (ix2 k j) := by
  pointwise [k0_pay6]

/-- The running maximum of a row. -/
theorem pay8_at (s : Vec Ideal S2048x512 .f32) (m : Vec Ideal S2048x128 .f32) (r : Fin 2048) (l : Fin 128) :
    k0_pay8 (F := Ideal) s m (ix2 r l) = max (m (ix2 r l)) (Finset.univ.sup fun k => s (ix2 r k)) := by
  pointwise [k0_pay8, word_bot]
  rfl

theorem pay9_at (s : Vec Ideal S2048x512 .f32) (m : Vec Ideal S2048x128 .f32) (r : Fin 2048) (l : Fin 128) :
    k0_pay9 (F := Ideal) s m (ix2 r l) = ex (m (ix2 r l) - k0_pay8 (F := Ideal) s m (ix2 r l)) := by
  pointwise [k0_pay9, named_scale]
  rfl

theorem pay10_at (s : Vec Ideal S2048x512 .f32) (m : Vec Ideal S2048x128 .f32) (r : Fin 2048) (M : EReal)
    (hm : ∀ l, k0_pay8 (F := Ideal) s m (ix2 r l) = M) (k : Fin 512) :
    k0_pay10 (F := Ideal) s m (ix2 r k) = ex (s (ix2 r k) - M) := by
  pointwise [k0_pay10, named_scale]
  simp only [hm, dite_eq_ite, ite_self]
  rfl

theorem step_m (kv : Vec Ideal S512x288 .bf16) (s : Vec Ideal S2048x512 .f32) (σ : St Ideal) (r : Fin 2048) (M : EReal)
    (hm : ∀ l, σ.m (ix2 r l) = M) (l : Fin 128) :
    (stStep kv s σ).m (ix2 r l) = max M (Finset.univ.sup fun k => s (ix2 r k)) := by
  show k0_pay13 (k0_pay8 s σ.m) (ix2 r l) = _
  pointwise [k0_pay13]
  rw [pay8_at, hm]

theorem step_l (kv : Vec Ideal S512x288 .bf16) (s : Vec Ideal S2048x512 .f32) (σ : St Ideal) (r : Fin 2048) (M L : EReal)
    (hm : ∀ l, σ.m (ix2 r l) = M) (hl : ∀ l, σ.l (ix2 r l) = L) (l : Fin 128) :
    (stStep kv s σ).l (ix2 r l) = ex (M - max M (Finset.univ.sup fun k => s (ix2 r k))) * L
      + ∑ k, ex (s (ix2 r k) - max M (Finset.univ.sup fun k => s (ix2 r k))) := by
  have h8 (l) : k0_pay8 (F := Ideal) s σ.m (ix2 r l) = max M (Finset.univ.sup fun k => s (ix2 r k)) := by
    rw [pay8_at, hm]
  show k0_pay12 (k0_pay11 s σ.m σ.l) (ix2 r l) = _
  pointwise [k0_pay12, k0_pay11]
  rw [pay9_at, h8, hm, hl]
  exact congrArg _ (Finset.sum_congr rfl fun k _ => pay10_at s σ.m r _ h8 k)

theorem step_a (kv : Vec Ideal S512x288 .bf16) (s : Vec Ideal S2048x512 .f32) (σ : St Ideal) (r : Fin 2048) (M : EReal)
    (hm : ∀ l, σ.m (ix2 r l) = M) (j : Fin 256) :
    (stStep kv s σ).a (ix2 r j) = σ.a (ix2 r j) * ex (M - max M (Finset.univ.sup fun k => s (ix2 r k)))
      + ∑ k : Fin 512, ex (s (ix2 r k) - max M (Finset.univ.sup fun k => s (ix2 r k))) * kv (ix2 k ⟨j.val, by omega⟩) := by
  have h8 (l) : k0_pay8 (F := Ideal) s σ.m (ix2 r l) = max M (Finset.univ.sup fun k => s (ix2 r k)) := by
    rw [pay8_at, hm]
  have h9 (l) : k0_pay9 (F := Ideal) s σ.m (ix2 r l) = ex (M - max M (Finset.univ.sup fun k => s (ix2 r k))) := by
    rw [pay9_at, h8, hm]
  show k0_pay14 (k0_pay7 kv) (k0_pay9 s σ.m) (k0_pay10 s σ.m) σ.a (ix2 r j) = _
  pointwise [k0_pay14, k0_pay7]
  simp only [h9, dite_eq_ite, ite_self]
  exact congrArg _ (Finset.sum_congr rfl fun k _ => congrArg (· * _) (pay10_at s σ.m r _ h8 k))

/-- The output of the attention: the weighted sum over the weights' sum. -/
theorem oAll_at (σ : St Ideal) (r : Fin 2048) (L : EReal) (hl : ∀ l, σ.l (ix2 r l) = L) (j : Fin 256) :
    oAll σ (ix2 r j) = σ.a (ix2 r j) * Ideal.div 1 L := by
  show k0_pay75 σ.a σ.l (ix2 r j) = _
  pointwise [k0_pay75]
  simp only [hl, dite_eq_ite, ite_self]

/-- A masked score. -/
theorem pay67_at (a b : BitVec 32) (s : Vec Ideal S2048x512 .f32) (r : Fin 2048) (k : Fin 512) :
    k0_pay67 (F := Ideal) a b s (ix2 r k) = Scalar.select
      (IntOp.cmpi CmpIPredicate.sle (IntOp.subi (BitVec.ofNat 32 k.val) (IntOp.andi (BitVec.ofNat 32 r.val) 127#32))
        (Scalar.subi (Scalar.muli a 128#32) (Scalar.muli b 512#32))) (s (ix2 r k)) (⊥ : EReal) := by
  pointwise [k0_pay67, named_mask]

theorem pay93_at (q : Vec Ideal S1x16x128x288 .bf16) (r : Fin 2048) (k : Fin 288) :
    k0_pay93 (F := Ideal) q (ix2 r k) = q (ix4 0 ⟨r.val / 128, by omega⟩ ⟨r.val % 128, by omega⟩ k) := by
  pointwise [k0_pay93]

theorem pay94_at (r : Fin 2048) (k : Fin 128) : k0_pay94 (F := Ideal) (ix2 r k) = (⊥ : EReal) := by
  pointwise [k0_pay94, named_mask]
theorem pay95_at (r : Fin 2048) (k : Fin 128) : k0_pay95 (F := Ideal) (ix2 r k) = (0 : EReal) := by
  pointwise [k0_pay95]
theorem pay96_at (r : Fin 2048) (k : Fin 256) : k0_pay96 (F := Ideal) (ix2 r k) = (0 : EReal) := by
  pointwise [k0_pay96]

/-- A head's product, of its rows of the output and its weights. -/
def headCore (o : FVec Ideal S128x256 .f32) (w : Vec Ideal S1x256x64 .bf16) : FVec Ideal S128x64 .f32 :=
  shapeCast S128x64
    (matmul (φ₁ := .bf16) (φ₂ := .bf16) dot_S128x256_S256x64_S128x64_1_0_0_1_n_n none (truncf .bf16 o bitsLt_bf16_f32)
      (shapeCast S256x64 w shapeCasts_S1x256x64_S256x64) (constant S128x64 .f32 0x00000000#32)) shapeCasts_S128x64_S128x64

theorem headCore_at (o : FVec Ideal S128x256 .f32) (w : Vec Ideal S1x256x64 .bf16) (r : Fin 128) (j : Fin 64) :
    headCore o w (ix2 r j) = ∑ k : Fin 256, o (ix2 r k) * w (ix3 0 k j) := by
  pointwise [headCore]

/-- A head's columns. -/
theorem head_at (o : FVec Ideal S2048x256 .f32) (w : Vec Ideal S16x256x64 .bf16) (h : Fin 16) (r : Fin 128) (j : Fin 64) :
    headPay o w h (ix2 r j) = ∑ k : Fin 256, o (ix2 ⟨128 * h.val + r.val, by omega⟩ k) * w (ix3 h k j) := by
  refine (headCore_at _ _ r j).trans ?_
  refine Finset.sum_congr rfl fun k _ => congrArg₂ (· * ·) ?_ ?_
  · refine congrArg o (funext fun a => Fin.ext ?_)
    fin_cases a
    · show 128 * h.val + r.val = _
      rfl
    · show 0 + k.val = k.val
      omega
  · refine congrArg w (funext fun a => Fin.ext ?_)
    fin_cases a
    · show h.val + 1 * 0 = h.val
      omega
    · show 0 + 1 * k.val = k.val
      omega
    · show 0 + 1 * j.val = j.val
      omega

theorem pay5_at (x u : Vec Ideal S128x1024 .f32) (w : Vec Ideal S1024x1024 .bf16) (r : Fin 128) (j : Fin 1024) :
    k0_pay5 (F := Ideal) x u w (ix2 r j) = x (ix2 r j) + ∑ k : Fin 1024, u (ix2 r k) * w (ix2 k j) := by
  pointwise [k0_pay5]

/-- Row `k` of key block `n`. -/
def key (n : ℕ) (k : Fin 512) : Fin 4096 := ⟨(512 * n + k.val) % 4096, Nat.mod_lt _ (by decide)⟩

/-- Key block `n`'s rows are the array's. -/
theorem kvb_at (X : Vec Ideal S4096x288 .bf16) (n : ℕ) (k : Fin 512) (j : Fin 288) : kvb X n (ix2 k j) = X (ix2 (key n k) j) := by
  refine congrArg X (funext fun a => Fin.ext ?_)
  fin_cases a
  · rfl
  · show (0 + j.val) % 288 = j.val
    omega

/-- The low seven bits of a row's number. -/
theorem andi_127 (r : Fin 2048) : IntOp.andi (BitVec.ofNat 32 r.val) 127#32 = BitVec.ofNat 32 (r.val % 128) := by
  refine BitVec.eq_of_toNat_eq ?_
  show (BitVec.ofNat 32 r.val &&& 127#32).toNat = _
  rw [BitVec.toNat_and, BitVec.toNat_ofNat, BitVec.toNat_ofNat, BitVec.toNat_ofNat]
  have h := Nat.and_two_pow_sub_one_eq_mod (r.val % 2 ^ 32) 7
  have := r.isLt
  norm_num at h ⊢
  omega

/-- The difference of two small words. -/
theorem sub_int (a b : ℕ) (ha : a < 2 ^ 30) (hb : b < 2 ^ 30) :
    (BitVec.ofNat 32 a - BitVec.ofNat 32 b).toInt = (a : ℤ) - (b : ℤ) := by
  have e (n : ℕ) (hn : n < 2 ^ 30) : (BitVec.ofNat 32 n).toInt = (n : ℤ) := by
    rw [BitVec.toInt_ofNat']
    exact Int.bmod_eq_of_le (by omega) (by omega)
  rw [BitVec.toInt_sub, e a ha, e b hb]
  exact Int.bmod_eq_of_le (by omega) (by omega)

/-- The mask's words: key `512 (qi / 4) + k` is at most the row's token. -/
theorem mask_iff (qi : Fin 32) (r : Fin 2048) (k : Fin 512) :
    IntOp.cmpi CmpIPredicate.sle (IntOp.subi (BitVec.ofNat 32 k.val) (IntOp.andi (BitVec.ofNat 32 r.val) 127#32))
        (Scalar.subi (Scalar.muli (BitVec.ofNat 32 qi.val) 128#32) (Scalar.muli (BitVec.ofNat 32 (qi.val / 4)) 512#32)) = 1#1
      ↔ 512 * (qi.val / 4) + k.val ≤ 128 * qi.val + r.val % 128 := by
  have hq := qi.isLt
  have hr := r.isLt
  have hk := k.isLt
  rw [andi_127, WordCmp.cmpi_sle_eq]
  show BitVec.ofBool (decide ((BitVec.ofNat 32 k.val - BitVec.ofNat 32 (r.val % 128)).toInt
    ≤ (BitVec.ofNat 32 qi.val * BitVec.ofNat 32 128 - BitVec.ofNat 32 (qi.val / 4) * BitVec.ofNat 32 512).toInt)) = 1#1 ↔ _
  rw [← BitVec.ofNat_mul, ← BitVec.ofNat_mul, sub_int _ _ (by omega) (by omega), sub_int _ _ (by omega) (by omega)]
  by_cases h : 512 * (qi.val / 4) + k.val ≤ 128 * qi.val + r.val % 128
  · rw [decide_eq_true (by omega)]
    exact ⟨fun _ => h, fun _ => rfl⟩
  · rw [decide_eq_false (by omega)]
    exact ⟨fun e => absurd e (by decide), fun e => absurd e h⟩

theorem last_at (qi : Fin 32) (s : Vec Ideal S2048x512 .f32) (r : Fin 2048) (k : Fin 512) :
    k0_pay67 (F := Ideal) (BitVec.ofNat 32 qi.val) (BitVec.ofNat 32 (qi.val / 4)) s (ix2 r k)
      = if 512 * (qi.val / 4) + k.val ≤ 128 * qi.val + r.val % 128 then s (ix2 r k) else (⊥ : EReal) := by
  rw [pay67_at]
  unfold Scalar.select
  by_cases h : 512 * (qi.val / 4) + k.val ≤ 128 * qi.val + r.val % 128
  · rw [if_pos h]
    exact if_pos ((mask_iff qi r k).mpr h)
  · rw [if_neg h]
    exact if_neg fun e => h ((mask_iff qi r k).mp e)

end Cert.KernelIdeal.Attn
-- ==== Proof.Row.lean ====
/- A row of a point: the softmax's state after the blocks the point takes in, and the attention's output. -/
module

public import proofs.«01_k».proof.Proof.Pays

@[expose] public section

set_option maxRecDepth 16384

noncomputable section

namespace Cert.KernelIdeal.Attn

open Idealize.ShloMosaic Idealize.ShloMosaic.TcCoe
open Cert.KernelIdeal Cert.KernelIdeal.Gen
open Cert.Softmax

/-- Row `r` of the state holds the sums `P` and `Q`; the maximum's and the sum's lanes are equal. -/
def Row (σ : St Ideal) (r : Fin 2048) (P : ℝ) (Q : Fin 256 → ℝ) : Prop :=
  ∃ M L : EReal, (∀ l, σ.m (ix2 r l) = M) ∧ (∀ l, σ.l (ix2 r l) = L) ∧ Inv P Q M L fun j => σ.a (ix2 r j)

theorem row_zero (r : Fin 2048) : Row st0 r 0 fun _ => 0 := by
  refine ⟨⊥, 0, fun l => pay94_at r l, fun l => pay95_at r l, ?_⟩
  rw [show (fun j => (st0 (F := Ideal)).a (ix2 r j)) = fun _ => 0 from funext fun j => pay96_at r j]
  exact inv_zero

theorem row_step {σ : St Ideal} {r : Fin 2048} {P : ℝ} {Q : Fin 256 → ℝ} (h : Row σ r P Q) (kv : Vec Ideal S512x288 .bf16)
    (s : Vec Ideal S2048x512 .f32) (sr : Fin 512 → EReal) (v : Fin 512 → Fin 256 → ℝ) (hsr : ∀ k, s (ix2 r k) = sr k)
    (hv : ∀ (k : Fin 512) (j : Fin 256), kv (ix2 k ⟨j.val, by omega⟩) = (v k j : EReal))
    (hs : ∀ k, sr k ≠ ⊤) (hb : ∃ k, sr k ≠ ⊥) :
    Row (stStep kv s σ) r (P + ∑ k, pw (sr k)) fun j => Q j + ∑ k, pw (sr k) * v k j := by
  obtain ⟨M, L, hm, hl, hi⟩ := h
  have e : (fun k => s (ix2 r k)) = sr := funext hsr
  refine ⟨_, _, fun l => step_m kv s σ r M hm l, fun l => step_l kv s σ r M L hm hl l, ?_⟩
  rw [show (fun j => (stStep kv s σ).a (ix2 r j)) = _ from funext fun j => step_a kv s σ r M hm j]
  simp only [hsr, hv]
  exact inv_step hi sr v hs hb

/-- A sum over the keys of the first `n` blocks. -/
def psum (f : Fin 4096 → ℝ) (n : ℕ) : ℝ := ∑ b ∈ Finset.range n, ∑ k : Fin 512, f (key b k)

/-- Eight blocks are all the keys. -/
theorem psum_all (f : Fin 4096 → ℝ) : psum f 8 = ∑ k, f k := by
  have h := Fin.sum_univ_tiles 8 512 rfl f
  unfold psum
  rw [Finset.sum_range]
  refine Eq.trans ?_ h.symm
  refine Finset.sum_congr rfl fun b _ => Finset.sum_congr rfl fun k _ => congrArg f (Fin.ext ?_)
  have := b.isLt
  have := k.isLt
  show (512 * b.val + k.val) % 4096 = b.val * 512 + k.val
  omega

/-- Blocks of weight zero add nothing. -/
theorem psum_part (f : Fin 4096 → ℝ) (n : ℕ) (hn : n ≤ 8) (h : ∀ k : Fin 4096, 512 * n ≤ k.val → f k = 0) :
    psum f n = ∑ k, f k := by
  rw [← psum_all]
  unfold psum
  refine Finset.sum_subset (Finset.range_mono hn) fun b hb hb' => Finset.sum_eq_zero fun k _ => h _ ?_
  rw [Finset.mem_range] at hb hb'
  have := k.isLt
  show 512 * n ≤ (512 * b + k.val) % 4096
  omega

section

variable (q : FVec Ideal S2048x288 .bf16) (X : Vec Ideal S4096x288 .bf16) (r : Fin 2048)

/-- A row's score of a key. -/
def raw (k : Fin 4096) : EReal := ∑ j : Fin 288, q (ix2 r j) * X (ix2 k j)

theorem scores_at (n : ℕ) (k : Fin 512) : scores q X n (ix2 r k) = raw q X r (key n k) := by
  show k0_pay6 q (kvb X n) (ix2 r k) = _
  rw [pay6_at]
  exact Finset.sum_congr rfl fun j _ => congrArg _ (kvb_at X n k j)

variable (sM : Fin 4096 → EReal) (v : Fin 4096 → Fin 256 → ℝ)
  (hv : ∀ (k : Fin 4096) (j : Fin 256), X (ix2 k ⟨j.val, by omega⟩) = (v k j : EReal)) (hs : ∀ k, sM k ≠ ⊤)

include hv hs

/-- The state after `n` whole blocks. -/
theorem row_stN (N : ℕ) (hb : ∀ n < N, sM (key n 0) ≠ ⊥) (hS : ∀ n < N, ∀ k, scores q X n (ix2 r k) = sM (key n k)) :
    ∀ n ≤ N, Row (stN q X n) r (psum (fun k => pw (sM k)) n) fun j => psum (fun k => pw (sM k) * v k j) n
  | 0, _ => row_zero r
  | n + 1, h => by
    have := row_step (row_stN N hb hS n (by omega)) (kvb X n) (scores q X n) (fun k => sM (key n k)) (fun k => v (key n k))
      (hS n (by omega)) (fun k j => (kvb_at X n k _).trans (hv _ j)) (fun k => hs _) ⟨0, hb n (by omega)⟩
    unfold psum at this ⊢
    simp only [Finset.sum_range_succ]
    exact this

/-- The output of a row. -/
theorem row_out (N : ℕ) (hN : N < 8) (hb : ∀ n ≤ N, sM (key n 0) ≠ ⊥) (hS : ∀ n < N, ∀ k, scores q X n (ix2 r k) = sM (key n k))
    (s : Vec Ideal S2048x512 .f32) (hL : ∀ k, s (ix2 r k) = sM (key N k)) (h0 : ∀ k : Fin 4096, 512 * (N + 1) ≤ k.val → sM k = ⊥)
    (j : Fin 256) : oAll (stStep (kvb X N) s (stN q X N)) (ix2 r j)
      = (((∑ k, pw (sM k) * v k j) / ∑ k, pw (sM k) : ℝ) : EReal) := by
  have h := row_step (row_stN q X r sM v hv hs N (fun n hn => hb n hn.le) hS N le_rfl) (kvb X N) s (fun k => sM (key N k))
    (fun k => v (key N k)) hL (fun k j => (kvb_at X N k _).trans (hv _ j)) (fun k => hs _) ⟨0, hb N le_rfl⟩
  have e (f : Fin 4096 → ℝ) (hf : ∀ k : Fin 4096, 512 * (N + 1) ≤ k.val → f k = 0) :
      psum f N + ∑ k : Fin 512, f (key N k) = ∑ k, f k := by
    rw [← psum_part f (N + 1) (by omega) hf]
    unfold psum
    rw [Finset.sum_range_succ]
  have hP := e (fun k => pw (sM k)) fun k hk => by rw [h0 k hk, pw_bot]
  have hQ (j : Fin 256) := e (fun k => pw (sM k) * v k j) fun k hk => by rw [h0 k hk, pw_bot, zero_mul]
  obtain ⟨M, L, -, hl, hi⟩ := h
  rw [oAll_at _ r L hl]
  beta_reduce at hP hQ hi
  rw [hP] at hi
  simp only [hQ] at hi
  exact inv_out hi (sum_pos sM hs ⟨_, hb 0 (by omega)⟩) j

end

/-- A point's row: its output is the softmax of its masked scores. -/
theorem stFin_at (i : grid0.Coords) (x0 : Vec Ideal S1x16x128x288 .bf16) (X : Vec Ideal S4096x288 .bf16) (r : Fin 2048)
    (sM : Fin 4096 → EReal) (v : Fin 4096 → Fin 256 → ℝ)
    (hsM : ∀ k, sM k = if k.val ≤ 128 * (i 1).val + r.val % 128 then raw (k0_pay93 x0) X r k else ⊥)
    (hr : ∀ k, raw (k0_pay93 x0) X r k ≠ ⊤ ∧ raw (k0_pay93 x0) X r k ≠ ⊥)
    (hv : ∀ (k : Fin 4096) (j : Fin 256), X (ix2 k ⟨j.val, by omega⟩) = (v k j : EReal)) (j : Fin 256) :
    oAll (stFin i x0 X) (ix2 r j) = (((∑ k, pw (sM k) * v k j) / ∑ k, pw (sM k) : ℝ) : EReal) := by
  have hi : (i 1).val < 32 := (i 1).isLt
  have hr' := r.isLt
  refine row_out (k0_pay93 x0) X r sM v hv (fun k => ?_) (nOff i) ?_ (fun n hn => ?_) (fun n hn k => ?_) _ (fun k => ?_)
    (fun k hk => ?_) j
  · rw [hsM]
    split
    · exact (hr k).1
    · exact bot_ne_top
  · unfold nOff
    omega
  · rw [hsM, if_pos]
    · exact (hr _).2
    · unfold nOff at hn
      show (512 * n + 0) % 4096 ≤ _
      omega
  · rw [scores_at, hsM, if_pos]
    have := k.isLt
    unfold nOff at hn
    show (512 * n + k.val) % 4096 ≤ _
    omega
  · have hk := k.isLt
    have e := last_at ⟨(i 1).val, hi⟩ (scores (k0_pay93 x0) X (nOff i)) r k
    refine e.trans ?_
    have ek : (key (nOff i) k).val = 512 * ((i 1).val / 4) + k.val := by
      unfold nOff
      show (512 * ((i 1).val / 4) + k.val) % 4096 = _
      omega
    rw [hsM, ek, scores_at]
  · rw [hsM, if_neg]
    unfold nOff at hk
    omega

/-- A point's block, at an index. -/
theorem outPt_at (i : grid0.Coords) (x0 : Vec Ideal S1x16x128x288 .bf16) (x1 : Vec Ideal S4096x288 .bf16)
    (x2 : Vec Ideal S128x1024 .f32) (x3 : Vec Ideal S16x256x64 .bf16) (x4 : Vec Ideal S1024x1024 .bf16) (t : Fin 128)
    (j : Fin 1024) : outPt i x0 x1 x2 x3 x4 (ix2 t j) = x2 (ix2 t j) + ∑ k : Fin 1024,
      (∑ c : Fin 256, oAll (stFin i x0 x1) (ix2 ⟨128 * (k.val / 64) + t.val, by omega⟩ c)
        * x3 (ix3 ⟨k.val / 64, by omega⟩ c ⟨k.val % 64, by omega⟩)) * x4 (ix2 k j) := by
  show k0_pay5 x2 (uMat (oAll (stFin i x0 x1)) x3) x4 (ix2 t j) = _
  rw [pay5_at]
  refine congrArg _ (Finset.sum_congr rfl fun k _ => congrArg (· * _) ?_)
  have e : headIdx (ix2 t k) = ix2 t ⟨k.val % 64, by omega⟩ := by
    refine funext fun a => Fin.ext ?_
    fin_cases a <;> rfl
  show headPay _ x3 (headOf (ix2 t k)) (headIdx (ix2 t k)) = _
  rw [e]
  exact head_at _ _ ⟨k.val / 64, by omega⟩ t ⟨k.val % 64, by omega⟩

end Cert.KernelIdeal.Attn
-- ==== Proof.Blocks.lean ====
/- The arrays the region reads, and a point's blocks of them, in the arguments' elements. -/
module

public import proofs.«01_k».proof.Proof.Body
public import proofs.«01_k».proof.Proof.Row
public import Idealize.ShloMosaic.Lib.Claim
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen
open Cert.Softmax

variable (m : (ℓ : Loc nD τ sig) → Buf (Elt Ideal) ℓ) (c : Dev nD)

/-- The arguments. -/
def aX : Vec Ideal S17408x1024 .f32 := m ((c : Thread nD τ).loc main_arg0)
def aQ : Vec Ideal S4x4096x16x288 .f32 := m ((c : Thread nD τ).loc main_arg1)
def aKv : Vec Ideal S4x4096x288 .f32 := m ((c : Thread nD τ).loc main_arg2)
def aW : Vec Ideal S256x2048 .f32 := m ((c : Thread nD τ).loc main_arg3)
def aWo : Vec Ideal S1024x1024 .f32 := m ((c : Thread nD τ).loc main_arg4)

theorem v3_at (n : Fin 128) (h : Fin 16) (t : Fin 128) (j : Fin 288) :
    (V m c main_v3 : S128x16x128x288.Idx → EReal) (ix4 n h t j)
      = aQ m c (ix4 ⟨n.val / 32, by omega⟩ ⟨n.val % 32 * 128 + t.val, by omega⟩ h j) := by
  entry_read
  pointwise
  rfl

theorem v5_at (k : Fin 16384) (j : Fin 288) :
    (V m c main_v5 : S16384x288.Idx → EReal) (ix2 k j)
      = aKv m c (ix3 ⟨k.val / 4096, by omega⟩ ⟨k.val % 4096, by omega⟩ j) := by
  entry_read
  pointwise
  rfl

theorem v9_at (h : Fin 16) (k : Fin 256) (j : Fin 64) :
    (V m c main_v9 : S16x256x64.Idx → EReal) (ix3 h k j) = aW m c (ix2 k ⟨h.val * 128 + (64 + j.val), by omega⟩) := by
  entry_read
  pointwise
  rfl

theorem v10_at (k j : Fin 1024) : (V m c main_v10 : S1024x1024.Idx → EReal) (ix2 k j) = aWo m c (ix2 k j) := by
  entry_read
  pointwise
  rfl

theorem v11_eq : (V m c main_v11 : S17408x1024.Idx → EReal) = aX m c := by
  entry_read
  rfl

/-- The blocks' places, by the point. -/
theorem places : ∀ t : Fin cfg0.N, win0_0.index t = ![t.val, 0, 0, 0] ∧ win0_1.index t = ![t.val / 32, 0]
    ∧ win0_2.index t = ![t.val, 0] ∧ win0_3.index t = ![0, 0, 0] ∧ win0_4.index t = ![0, 0] ∧ win0_5.index t = ![t.val, 0]
    ∧ ((grid0.coords t) 1).val = t.val % 32 :=
  (by decide +kernel : ∀ t : Fin grid0.N, _)

theorem b0_at (t : Fin cfg0.N) (ht : t.val < 128) (h : Fin 16) (s : Fin 128) (j : Fin 288) :
    (iblk m c 0 t : S1x16x128x288.Idx → EReal) (ix4 0 h s j)
      = aQ m c (ix4 ⟨t.val / 32, by omega⟩ ⟨t.val % 32 * 128 + s.val, by omega⟩ h j) := by
  refine Eq.trans ?_ (v3_at m c ⟨t.val, ht⟩ h s j)
  blk_simp [iblk]
  refine congrArg (V m c main_v3) (funext fun a => Fin.ext ?_)
  have hp := (places t).1
  show win0_0.index t a * S1x16x128x288.size a + 1 * ((ix4 0 h s j : S1x16x128x288.Idx) a).val = _
  rw [hp]
  fin_cases a
  · show t.val * 1 + 1 * 0 = t.val
    omega
  · show 0 * 16 + 1 * h.val = h.val
    omega
  · show 0 * 128 + 1 * s.val = s.val
    omega
  · show 0 * 288 + 1 * j.val = j.val
    omega

theorem b1_at (t : Fin cfg0.N) (ht : t.val < 128) (k : Fin 4096) (j : Fin 288) :
    (iblk m c 1 t : S4096x288.Idx → EReal) (ix2 k j) = aKv m c (ix3 ⟨t.val / 32, by omega⟩ k j) := by
  have hk := k.isLt
  have e := v5_at m c ⟨t.val / 32 * 4096 + k.val, by omega⟩ j
  refine Eq.trans ?_ (e.trans ?_)
  · blk_simp [iblk]
    refine congrArg (V m c main_v5) (funext fun a => Fin.ext ?_)
    have hp := (places t).2.1
    show win0_1.index t a * S4096x288.size a + 1 * ((ix2 k j : S4096x288.Idx) a).val = _
    rw [hp]
    fin_cases a
    · show t.val / 32 * 4096 + 1 * k.val = t.val / 32 * 4096 + k.val
      omega
    · show 0 * 288 + 1 * j.val = j.val
      omega
  · refine congrArg (aKv m c) (congrArg₂ (fun a b => ix3 a b j) (Fin.ext ?_) (Fin.ext ?_))
    · show (t.val / 32 * 4096 + k.val) / 4096 = t.val / 32
      omega
    · show (t.val / 32 * 4096 + k.val) % 4096 = k.val
      omega

theorem b2_at (t : Fin cfg0.N) (ht : t.val < 128) (s : Fin 128) (j : Fin 1024) :
    (iblk m c 2 t : S128x1024.Idx → EReal) (ix2 s j) = aX m c (ix2 ⟨t.val * 128 + s.val, by omega⟩ j) := by
  blk_simp [iblk]
  refine (congrArg (V m c main_arg0) (funext fun a => Fin.ext ?_)).trans
    (congrFun (V_main_arg0 m c) (ix2 ⟨t.val * 128 + s.val, by omega⟩ j))
  have hp := (places t).2.2.1
  show win0_2.index t a * S128x1024.size a + 1 * ((ix2 s j : S128x1024.Idx) a).val = _
  rw [hp]
  fin_cases a
  · show t.val * 128 + 1 * s.val = t.val * 128 + s.val
    omega
  · show 0 * 1024 + 1 * j.val = j.val
    omega

theorem b3_at (t : Fin cfg0.N) (h : Fin 16) (k : Fin 256) (j : Fin 64) :
    (iblk m c 3 t : S16x256x64.Idx → EReal) (ix3 h k j) = aW m c (ix2 k ⟨h.val * 128 + (64 + j.val), by omega⟩) := by
  refine Eq.trans ?_ (v9_at m c h k j)
  blk_simp [iblk]
  refine congrArg (V m c main_v9) (funext fun a => Fin.ext ?_)
  have hp := (places t).2.2.2.1
  show win0_3.index t a * S16x256x64.size a + 1 * ((ix3 h k j : S16x256x64.Idx) a).val = _
  rw [hp]
  fin_cases a
  · show 0 * 16 + 1 * h.val = h.val
    omega
  · show 0 * 256 + 1 * k.val = k.val
    omega
  · show 0 * 64 + 1 * j.val = j.val
    omega

theorem b4_at (t : Fin cfg0.N) (k j : Fin 1024) :
    (iblk m c 4 t : S1024x1024.Idx → EReal) (ix2 k j) = aWo m c (ix2 k j) := by
  refine Eq.trans ?_ (v10_at m c k j)
  blk_simp [iblk]
  refine congrArg (V m c main_v10) (funext fun a => Fin.ext ?_)
  have hp := (places t).2.2.2.2.1
  show win0_4.index t a * S1024x1024.size a + 1 * ((ix2 k j : S1024x1024.Idx) a).val = _
  rw [hp]
  fin_cases a
  · show 0 * 1024 + 1 * k.val = k.val
    omega
  · show 0 * 1024 + 1 * j.val = j.val
    omega

/-- Every point writes its block back. -/
theorem flushes : ∀ t : Fin cfg0.N, (cfg0.win 5).flush t = true := (by decide +kernel : ∀ t : Fin grid0.N, _)

/-- Where a point's element lies. -/
theorem emb5 (t : Fin cfg0.N) (y : S128x1024.Idx) (a : Fin 2) :
    ((((cfg0.win 5).blk t).view.emb y : S17408x1024.Idx) a).val = (![t.val * 128, 0] : Fin 2 → ℕ) a + (y a).val := by
  have hp := (places t).2.2.2.2.2.1
  show win0_5.index t a * S128x1024.size a + 1 * (y a).val = _
  rw [hp]
  fin_cases a
  · show t.val * 128 + 1 * (y 0).val = t.val * 128 + (y 0).val
    omega
  · show 0 * 1024 + 1 * (y 1).val = 0 + (y 1).val
    omega

/-- The result's rows of the prompt. -/
theorem arr_lo (i : Fin 17408) (hi : i.val < 16384) (j : Fin 1024) :
    ((dats m 0 c).arrAt 5 cfg0.N : S17408x1024.Idx → EReal) (ix2 i j)
      = (outAt m c ⟨i.val / 128, (by omega : i.val / 128 < 128)⟩ : S128x1024.Idx → EReal) (ix2 ⟨i.val % 128, by omega⟩ j) := by
  have h := congrFun (block_final m c ⟨i.val / 128, (by omega : i.val / 128 < 128)⟩ (flushes _)) (ix2 ⟨i.val % 128, by omega⟩ j)
  refine Eq.trans (congrArg ((dats m 0 c).arrAt 5 cfg0.N) (funext fun a => Fin.ext ?_)) (h.trans rfl)
  rw [emb5]
  fin_cases a
  · show i.val = i.val / 128 * 128 + i.val % 128
    omega
  · show j.val = 0 + j.val
    omega

/-- Its other rows. -/
theorem arr_hi (i : Fin 17408) (hi : ¬i.val < 16384) (j : Fin 1024) :
    ((dats m 0 c).arrAt 5 cfg0.N : S17408x1024.Idx → EReal) (ix2 i j) = aX m c (ix2 i j) := by
  refine (rest_final m c (ix2 i j) fun t _ hm => ?_).trans (congrFun (v11_eq m c) _)
  obtain ⟨y, hy⟩ := View.exists_emb_of_mem_set _ hm
  have ht : t.val < 128 := t.isLt
  have h0 := congrArg (fun z : S17408x1024.Idx => (z 0).val) hy
  beta_reduce at h0
  rw [emb5] at h0
  have hy0 : (y 0).val < 128 := (y 0).isLt
  have h1 : t.val * 128 + (y 0).val = i.val := h0
  omega

end Cert.KernelIdeal.Attn
-- ==== Proof.Refer.lean ====
/- The reference's arrays, named one by one and read at an index. -/
module

public import proofs.«01_k».proof.Proof.Gen.ReferenceIdeal.Run
public import proofs.«01_k».proof.Proof.Online
public import Idealize.ShloMosaic.Lib.Pointwise
public import Idealize.ShloMosaic.Lib.WordCmp

@[expose] public section

set_option maxRecDepth 16384

noncomputable section

namespace Cert.ReferenceIdeal.Attn

open Idealize.ShloMosaic Idealize.ShloMosaic.TcCoe
open Cert.ReferenceIdeal Cert.ReferenceIdeal.Gen
open Cert.Softmax

/-- The masked logits. -/
def lgA (q : FVec Ideal S4x4096x16x288 .f32) (kv : FVec Ideal S4x4096x288 .f32) : FVec Ideal S4x16x4096x4096 .f32 :=
  select (broadcastInDim S4x16x4096x4096 ![0, 1, 2, 3] bcast_S1x1x4096x4096_S4x16x4096x4096_0_1_2_3
      (cmpi .sle (broadcastInDim S1x1x4096x4096 ![0, 1, 2, 3] bcast_S1x1x1x4096_S1x1x4096x4096_0_1_2_3
          (broadcastInDim S1x1x1x4096 ![3] bcast_S4096_S1x1x1x4096_3 (iotaInDim S4096 32 0)))
        (broadcastInDim S1x1x4096x4096 ![0, 1, 2, 3] bcast_S1x1x4096x1_S1x1x4096x4096_0_1_2_3
          (broadcastInDim S1x1x4096x1 ![2] bcast_S4096_S1x1x4096x1_2 (iotaInDim S4096 32 0)))))
    (Host.divf (transpose S4x16x4096x4096 [0, 3, 2, 1]
        (Host.dotGeneral dot_S4x4096x288_S4x4096x16x288_S4x4096x4096x16_2_3_1_12_0_0 none kv q)
        transposes_S4x4096x4096x16_S4x16x4096x4096_0_3_2_1)
      (broadcastInDim S4x16x4096x4096 ![] bcast_S_S4x16x4096x4096 (Host.sqrt (constant S_ .f32 0x42C00000#32))))
    (broadcastInDim S4x16x4096x4096 ![] bcast_S_S4x16x4096x4096 (id (constant S_ .f32 0xFF800000#32)))

/-- The rows' maxima. -/
def mxA (lg : FVec Ideal S4x16x4096x4096 .f32) : FVec Ideal S4x16x4096 .f32 :=
  Host.reduce FloatOps.maximumf lg (constant S_ .f32 0xFF800000#32) reducesTo_S4x16x4096x4096_S4x16x4096_d3 h_S_

/-- The logits with their maximum taken off, exponentiated. -/
def exA (lg : FVec Ideal S4x16x4096x4096 .f32) (mx : FVec Ideal S4x16x4096 .f32) : FVec Ideal S4x16x4096x4096 .f32 :=
  Host.exp (subf lg (broadcastInDim S4x16x4096x4096 ![0, 1, 2, 3] bcast_S4x16x4096x1_S4x16x4096x4096_0_1_2_3
    (broadcastInDim S4x16x4096x1 ![0, 1, 2] bcast_S4x16x4096_S4x16x4096x1_0_1_2
      (maximumf (broadcastInDim S4x16x4096 ![] bcast_S_S4x16x4096 (constant S_ .f32 0xFF800000#32)) mx))))

/-- The weights. -/
def prA (e : FVec Ideal S4x16x4096x4096 .f32) : FVec Ideal S4x16x4096x4096 .f32 :=
  Host.divf e (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd e (constant S_ .f32 0x00000000#32) reducesTo_S4x16x4096x4096_S4x16x4096_d3 h_S_)))

/-- The weighted rows. -/
def cxA (p : FVec Ideal S4x16x4096x4096 .f32) (kv : FVec Ideal S4x4096x288 .f32) : FVec Ideal S4x4096x16x256 .f32 :=
  transpose S4x4096x16x256 [0, 3, 2, 1]
    (Host.dotGeneral (φ₁ := .f32) (φ₂ := .f32) dot_S4x4096x256_S4x16x4096x4096_S4x256x16x4096_1_3_2_12_0_0 none
      (extractStridedSlice S4x4096x256 ![0, 0, 0] kv slices_S4x4096x288_S4x4096x256_0_0_0) p)
    transposes_S4x256x16x4096_S4x4096x16x256_0_3_2_1

/-- The heads' values, a row of each token. -/
def uA (x : FVec Ideal S4x4096x16x256 .f32) (w : FVec Ideal S256x2048 .f32) : FVec Ideal S16384x1024 .f32 :=
  shapeCast S16384x1024 (transpose S4x4096x16x64 [2, 3, 0, 1]
    (Host.dotGeneral (φ₁ := .f32) (φ₂ := .f32) dot_S256x16x64_S4x4096x16x256_S16x64x4x4096_0_3_2_01_1_2 none
      (extractStridedSlice S256x16x64 ![0, 0, 64] (shapeCast S256x16x128 w shapeCasts_S256x2048_S256x16x128)
        slices_S256x16x128_S256x16x64_0_0_64) x)
    transposes_S16x64x4x4096_S4x4096x16x64_2_3_0_1) shapeCasts_S4x4096x16x64_S16384x1024

/-- The prompt's rows. -/
def outA (x : FVec Ideal S17408x1024 .f32) (u : FVec Ideal S16384x1024 .f32) (wo : FVec Ideal S1024x1024 .f32) :
    FVec Ideal S16384x1024 .f32 :=
  addf (extractStridedSlice S16384x1024 ![0, 0] x slices_S17408x1024_S16384x1024_0_0)
    (Host.dotGeneral (φ₁ := .f32) (φ₂ := .f32) dot_S16384x1024_S1024x1024_S16384x1024_1_0_0_1_n_n none u wo)

/-- All rows. -/
def resA (x : FVec Ideal S17408x1024 .f32) (y : FVec Ideal S16384x1024 .f32) : FVec Ideal S17408x1024 .f32 :=
  concatenate S17408x1024 0 [⟨S16384x1024, y⟩,
    ⟨S1024x1024, extractStridedSlice S1024x1024 ![16384, 0] x slices_S17408x1024_S1024x1024_16384_0⟩]
    concatenates_S16384x1024_S1024x1024_S17408x1024_d0

/-- The weights of the logits. -/
def smA (lg : FVec Ideal S4x16x4096x4096 .f32) : FVec Ideal S4x16x4096x4096 .f32 := prA (exA lg (mxA lg))

/-- The word of minus infinity. -/
theorem word_bot : Ideal.ofBits .f32 4286578688#32 = ⊥ := by
  simp [Ideal.ofBits, Ideal.ieee]

/-- The word of 96. -/
theorem word_96 : Ideal.ofBits .f32 1119879168#32 = ((96 : ℝ) : EReal) := by
  simp [Ideal.ofBits, Ideal.ieee]
  rw [← EReal.coe_mul]
  norm_num

/-- A token's score of a key: the product of their rows, `⊥` of a later key. -/
def sco (q : FVec Ideal S4x4096x16x288 .f32) (kv : FVec Ideal S4x4096x288 .f32) (b : Fin 4) (h : Fin 16)
    (t s : Fin 4096) : EReal := if s.val ≤ t.val then ∑ j : Fin 288, q (ix4 b t h j) * kv (ix3 b s j) else ⊥

theorem lgA_at (q : FVec Ideal S4x4096x16x288 .f32) (kv : FVec Ideal S4x4096x288 .f32) (b : Fin 4) (h : Fin 16)
    (t s : Fin 4096) : lgA q kv (ix4 b h t s) = sco q kv b h t s * (((Real.sqrt 96)⁻¹ : ℝ) : EReal) := by
  pointwise [lgA]
  show Scalar.select _ _ (Ideal.ofBits .f32 4286578688#32) = _
  have h96 : Real.sqrt 96 ≠ 0 := (Real.sqrt_pos.mpr (by norm_num)).ne'
  rw [word_96, word_bot, Ideal.sqrt_coe, if_neg (by norm_num), Ideal.div_coe h96]
  unfold sco Scalar.select
  have hs := s.isLt
  have ht := t.isLt
  by_cases hst : s.val ≤ t.val
  · rw [if_pos hst]
    refine (if_pos ((WordCmp.cmpi_sle_ofNat_eq_one_iff (by omega) (by omega)).mpr hst)).trans ?_
    rw [one_div]
    exact congrArg (· * _) (Finset.sum_congr rfl fun j _ => mul_comm _ _)
  · rw [if_neg hst, EReal.bot_mul_coe_of_pos root_pos]
    exact if_neg fun e => hst ((WordCmp.cmpi_sle_ofNat_eq_one_iff (by omega) (by omega)).mp e)

theorem mxA_at (lg : FVec Ideal S4x16x4096x4096 .f32) (b : Fin 4) (h : Fin 16) (t : Fin 4096) :
    mxA lg (ix3 b h t) = Finset.univ.sup fun s => lg (ix4 b h t s) := by
  pointwise [mxA, word_bot]
  rfl

theorem exA_at (lg : FVec Ideal S4x16x4096x4096 .f32) (mx : FVec Ideal S4x16x4096 .f32) (b : Fin 4) (h : Fin 16)
    (t s : Fin 4096) : exA lg mx (ix4 b h t s) = Ideal.exp (lg (ix4 b h t s) - mx (ix3 b h t)) := by
  pointwise [exA, word_bot]
  rw [max_eq_right bot_le]

theorem prA_at (e : FVec Ideal S4x16x4096x4096 .f32) (b : Fin 4) (h : Fin 16)
    (t s : Fin 4096) : prA e (ix4 b h t s) = Ideal.div (e (ix4 b h t s)) (∑ x, e (ix4 b h t x)) := by
  pointwise [prA]

theorem smA_at (lg : FVec Ideal S4x16x4096x4096 .f32) (b : Fin 4) (h : Fin 16) (t s : Fin 4096) :
    smA lg (ix4 b h t s) = Ideal.div (Ideal.exp (lg (ix4 b h t s) - Finset.univ.sup fun x => lg (ix4 b h t x)))
      (∑ y, Ideal.exp (lg (ix4 b h t y) - Finset.univ.sup fun x => lg (ix4 b h t x))) := by
  unfold smA
  rw [prA_at]
  simp only [exA_at, mxA_at]

theorem cxA_at (p : FVec Ideal S4x16x4096x4096 .f32) (kv : FVec Ideal S4x4096x288 .f32) (b : Fin 4) (h : Fin 16)
    (t : Fin 4096) (j : Fin 256) :
    cxA p kv (ix4 b t h j) = ∑ s : Fin 4096, kv (ix3 b s ⟨j.val, by omega⟩) * p (ix4 b h t s) := by
  pointwise [cxA]

theorem uA_at (x : FVec Ideal S4x4096x16x256 .f32) (w : FVec Ideal S256x2048 .f32) (i : Fin 16384) (j : Fin 1024) :
    uA x w (ix2 i j) = ∑ k : Fin 256, w (ix2 k ⟨j.val / 64 * 128 + (64 + j.val % 64), by omega⟩)
      * x (ix4 ⟨i.val / 4096, by omega⟩ ⟨i.val % 4096, by omega⟩ ⟨j.val / 64, by omega⟩ k) := by
  pointwise [uA]

theorem outA_at (x : FVec Ideal S17408x1024 .f32) (u : FVec Ideal S16384x1024 .f32) (wo : FVec Ideal S1024x1024 .f32)
    (i : Fin 16384) (j : Fin 1024) :
    outA x u wo (ix2 i j) = x (ix2 ⟨i.val, by omega⟩ j) + ∑ k : Fin 1024, u (ix2 i k) * wo (ix2 k j) := by
  pointwise [outA]

theorem resA_at (x : FVec Ideal S17408x1024 .f32) (y : FVec Ideal S16384x1024 .f32) (i : Fin 17408) (j : Fin 1024) :
    resA x y (ix2 i j) = if h : i.val < 16384 then y (ix2 ⟨i.val, h⟩ j) else x (ix2 i j) := by
  pointwise [resA]
  by_cases h : i.val < 16384
  · rw [dif_pos h, dif_pos h]
  · rw [dif_neg h, dif_neg h]
    exact congrArg x (congrArg (ix2 · j) (Fin.ext (by show 16384 + (i.val - 16384) = i.val; omega)))

theorem res_eq (m : (ℓ : Loc nD τ sig) → Buf (Elt Ideal) ℓ) (c : Dev nD) : Value.res_main_v35 m c
    = resA (m ((c.tc : Thread nD τ).loc main_arg0)) (outA (m ((c.tc : Thread nD τ).loc main_arg0))
        (uA (cxA (smA (lgA (m ((c.tc : Thread nD τ).loc main_arg1)) (m ((c.tc : Thread nD τ).loc main_arg2))))
          (m ((c.tc : Thread nD τ).loc main_arg2))) (m ((c.tc : Thread nD τ).loc main_arg3)))
        (m ((c.tc : Thread nD τ).loc main_arg4))) := by
  rfl

end Cert.ReferenceIdeal.Attn
-- ==== Proof.Equal.lean ====
/- The kernel's result array is the reference's, where the queries and the rows are reals. -/
module

public import proofs.«01_k».proof.Proof.Blocks
public import proofs.«01_k».proof.Proof.Refer

@[expose] public section

set_option maxRecDepth 16384

noncomputable section

namespace Cert.KernelIdeal.Attn

open Idealize.ShloMosaic Idealize.ShloMosaic.TcCoe
open Cert.KernelIdeal Cert.KernelIdeal.Gen
open Cert.ReferenceIdeal.Attn (sco lgA smA cxA uA outA resA lgA_at smA_at cxA_at uA_at outA_at resA_at)
open Cert.Softmax

/-- A sum of products of reals is a real. -/
theorem dot_real {n : ℕ} (f g : Fin n → EReal) (hf : ∀ j, ∃ r : ℝ, f j = (r : EReal)) (hg : ∀ j, ∃ r : ℝ, g j = (r : EReal)) :
    ∃ r : ℝ, ∑ j, f j * g j = (r : EReal) := by
  choose f' hf' using hf
  choose g' hg' using hg
  refine ⟨∑ j, f' j * g' j, ?_⟩
  rw [coe_sum]
  exact Finset.sum_congr rfl fun j _ => by rw [hf', hg', ← EReal.coe_mul]

section

variable (q : Vec Ideal S4x4096x16x288 .f32) (kv : Vec Ideal S4x4096x288 .f32)
  (hq : ∀ i, ∃ r : ℝ, q i = (r : EReal)) (hkv : ∀ i, ∃ r : ℝ, kv i = (r : EReal))

include hq hkv

/-- The reference's attention of a row. -/
theorem cx_real (b : Fin 4) (h : Fin 16) (t : Fin 4096) (j : Fin 256) :
    cxA (smA (lgA q kv)) kv (ix4 b t h j) = (((∑ k, pw (sco q kv b h t k) * (kv (ix3 b k ⟨j.val, by omega⟩)).toReal)
      / ∑ k, pw (sco q kv b h t k) : ℝ) : EReal) := by
  have hs (k : Fin 4096) : sco q kv b h t k ≠ ⊤ := by
    unfold sco
    split
    · obtain ⟨r, hr⟩ := dot_real _ _ (fun j => hq (ix4 b t h j)) (fun j => hkv (ix3 b k j))
      rw [hr]
      exact EReal.coe_ne_top _
    · exact bot_ne_top
  have hb : ∃ k, sco q kv b h t k ≠ ⊥ := by
    refine ⟨t, ?_⟩
    unfold sco
    rw [if_pos le_rfl]
    obtain ⟨r, hr⟩ := dot_real _ _ (fun j => hq (ix4 b t h j)) (fun j => hkv (ix3 b t j))
    rw [hr]
    exact EReal.coe_ne_bot _
  rw [cxA_at, Finset.sum_div, coe_sum]
  refine Finset.sum_congr rfl fun k _ => ?_
  rw [smA_at, softmax_at (sco q kv b h t) _ (fun k => lgA_at q kv b h t k) hs hb k]
  obtain ⟨r, hr⟩ := hkv (ix3 b k ⟨j.val, by omega⟩)
  rw [hr, EReal.toReal_coe, ← EReal.coe_mul]
  congr 1
  ring

end

variable (m : (ℓ : Loc nD τ sig) → Buf (Elt Ideal) ℓ) (c : Dev nD)
  (hq : ∀ i, ∃ r : ℝ, aQ m c i = (r : EReal)) (hkv : ∀ i, ∃ r : ℝ, aKv m c i = (r : EReal))

/-- A point's scores are the reference's. -/
theorem raw_at (t : Fin cfg0.N) (ht : t.val < 128) (r : Fin 2048) (k : Fin 4096) :
    raw (k0_pay93 (F := Ideal) (iblk m c 0 t)) (iblk m c 1 t) r k = ∑ j : Fin 288,
      aQ m c (ix4 ⟨t.val / 32, by omega⟩ ⟨t.val % 32 * 128 + r.val % 128, by omega⟩ ⟨r.val / 128, by omega⟩ j)
        * aKv m c (ix3 ⟨t.val / 32, by omega⟩ k j) :=
  Finset.sum_congr rfl fun j _ => congrArg₂ (· * ·)
    ((pay93_at _ r j).trans (b0_at m c t ht ⟨r.val / 128, by omega⟩ ⟨r.val % 128, by omega⟩ j)) (b1_at m c t ht k j)

include hq hkv in
/-- A point's attention is the reference's. -/
theorem attn_at (t : Fin cfg0.N) (ht : t.val < 128) (r : Fin 2048) (j : Fin 256) :
    oAll (stFin (F := Ideal) (grid0.coords t) (iblk m c 0 t) (iblk m c 1 t)) (ix2 r j)
      = cxA (smA (lgA (aQ m c) (aKv m c))) (aKv m c)
        (ix4 ⟨t.val / 32, by omega⟩ ⟨t.val % 32 * 128 + r.val % 128, by omega⟩ ⟨r.val / 128, by omega⟩ j) := by
  rw [cx_real _ _ hq hkv]
  have hc : ((grid0.coords t) 1).val = t.val % 32 := (places t).2.2.2.2.2.2
  refine stFin_at (grid0.coords t) (iblk m c 0 t) (iblk m c 1 t) r
    (sco (aQ m c) (aKv m c) ⟨t.val / 32, by omega⟩ ⟨r.val / 128, by omega⟩ ⟨t.val % 32 * 128 + r.val % 128, by omega⟩)
    (fun k j => (aKv m c (ix3 ⟨t.val / 32, by omega⟩ k ⟨j.val, by omega⟩)).toReal) (fun k => ?_) (fun k => ?_) (fun k j => ?_) j
  · rw [raw_at m c t ht, hc]
    unfold sco
    rw [Nat.mul_comm 128]
  · rw [raw_at m c t ht]
    obtain ⟨x, hx⟩ := dot_real _ _
      (fun j => hq (ix4 ⟨t.val / 32, by omega⟩ ⟨t.val % 32 * 128 + r.val % 128, by omega⟩ ⟨r.val / 128, by omega⟩ j))
      (fun j => hkv (ix3 ⟨t.val / 32, by omega⟩ k j))
    rw [hx]
    exact ⟨EReal.coe_ne_top _, EReal.coe_ne_bot _⟩
  · obtain ⟨x, hx⟩ := hkv (ix3 ⟨t.val / 32, by omega⟩ k ⟨j.val, by omega⟩)
    rw [b1_at m c t ht, hx, EReal.toReal_coe]

include hq hkv in
/-- The result, at an index. -/
theorem value_at (i : Fin 17408) (j : Fin 1024) :
    ((dats m 0 c).arrAt 5 cfg0.N : S17408x1024.Idx → EReal) (ix2 i j)
      = resA (aX m c) (outA (aX m c) (uA (cxA (smA (lgA (aQ m c) (aKv m c))) (aKv m c)) (aW m c)) (aWo m c)) (ix2 i j) := by
  rw [resA_at]
  by_cases hi : i.val < 16384
  · have ht : i.val / 128 < 128 := by omega
    rw [dif_pos hi, arr_lo m c i hi, outA_at]
    refine (outPt_at (grid0.coords ⟨i.val / 128, ht⟩) (iblk m c 0 _) (iblk m c 1 _) (iblk m c 2 _) (iblk m c 3 _) (iblk m c 4 _)
      ⟨i.val % 128, by omega⟩ j).trans ?_
    refine congrArg₂ (· + ·) ?_ (Finset.sum_congr rfl fun k _ => congrArg₂ (· * ·) ?_ (b4_at m c _ k j))
    · refine (b2_at m c ⟨i.val / 128, ht⟩ ht ⟨i.val % 128, by omega⟩ j).trans ?_
      exact congrArg (aX m c) (congrArg (ix2 · j) (Fin.ext (by show i.val / 128 * 128 + i.val % 128 = i.val; omega)))
    · have hk := k.isLt
      rw [uA_at]
      refine Finset.sum_congr rfl fun d _ => ?_
      rw [mul_comm]
      refine congrArg₂ (· * ·) (b3_at m c _ ⟨k.val / 64, by omega⟩ d ⟨k.val % 64, by omega⟩) ?_
      refine (attn_at m c hq hkv ⟨i.val / 128, ht⟩ ht ⟨128 * (k.val / 64) + i.val % 128, by omega⟩ d).trans ?_
      refine congrArg (cxA (smA (lgA (aQ m c) (aKv m c))) (aKv m c)) ?_
      have e0 : i.val / 128 / 32 = i.val / 4096 := by omega
      have e1 : i.val / 128 % 32 * 128 + (128 * (k.val / 64) + i.val % 128) % 128 = i.val % 4096 := by omega
      have e2 : (128 * (k.val / 64) + i.val % 128) / 128 = k.val / 64 := by omega
      simp only [e0, e1, e2]
  · rw [dif_neg hi, arr_hi m c i hi]

end Cert.KernelIdeal.Attn
-- ==== Proof.Rows.lean ====
/- One row of the normalisation, of the per-layer update and of the feed-forward network, as functions of the row and
   the weights. -/
module

public import Idealize.ShloMosaic.Lib.Pointwise

@[expose] public section

noncomputable section

namespace Cert.Rows

open Idealize.ShloMosaic

/-- A row divided by the root of its mean square (with the small constant added), times the weights. -/
def rms (x g : Fin 1024 → EReal) (k : Fin 1024) : EReal :=
  x k * Ideal.rsqrt (Ideal.div (∑ a, x a * x a) (Ideal.ofBits FTy.f32 1149239296#32) + Ideal.ofBits FTy.f32 897988541#32) * g k

/-- The per-layer update: the projected row `p`, gated by the normalised row, added to the row. -/
def ple (x : Fin 1024 → EReal) (p : Fin 256 → EReal) (g : Fin 1024 → EReal) (wp : Fin 256 → Fin 1024 → EReal)
    (wg : Fin 1024 → Fin 1024 → EReal) (j : Fin 1024) : EReal :=
  x j + (∑ a, p a * wp a j) * Ideal.logistic (∑ a, rms x g a * wg a j)

/-- One hidden unit: `silu` of the gate's product times the other product. -/
def unit (h wg wu : Fin 1024 → EReal) : EReal :=
  (∑ a, h a * wg a) * Ideal.logistic (∑ a, h a * wg a) * ∑ a, h a * wu a

/-- The feed-forward network's row before the residual, over all hidden units. -/
def ffn (h : Fin 1024 → EReal) (w : Fin 1024 → Fin 5632 → EReal) (wd : Fin 2816 → Fin 1024 → EReal) (j : Fin 1024) : EReal :=
  ∑ f : Fin 2816, unit h (fun a => w a ⟨f.val, by omega⟩) (fun a => w a ⟨2816 + f.val, by omega⟩) * wd f j

/-- The same over the hidden units of one tile. -/
def chunk (h : Fin 1024 → EReal) (wg wu : Fin 1024 → Fin 256 → EReal) (wd : Fin 256 → Fin 1024 → EReal) (j : Fin 1024) : EReal :=
  ∑ f : Fin 256, unit h (fun a => wg a f) (fun a => wu a f) * wd f j

/-- Tile `b` of the network's hidden units. -/
def tile (h : Fin 1024 → EReal) (w : Fin 1024 → Fin 5632 → EReal) (wd : Fin 2816 → Fin 1024 → EReal) (j : Fin 1024)
    (b : Fin 11) : EReal :=
  chunk h (fun a f => w a ⟨b.val * 256 + f.val, by omega⟩) (fun a f => w a ⟨2816 + (b.val * 256 + f.val), by omega⟩)
    (fun f j => wd ⟨b.val * 256 + f.val, by omega⟩ j) j

/-- The network's row is the sum of its eleven tiles. -/
theorem ffn_tiles (h : Fin 1024 → EReal) (w : Fin 1024 → Fin 5632 → EReal) (wd : Fin 2816 → Fin 1024 → EReal) (j : Fin 1024) :
    ffn h w wd j = tile h w wd j 0 + tile h w wd j 1 + tile h w wd j 2 + tile h w wd j 3 + tile h w wd j 4 + tile h w wd j 5
      + tile h w wd j 6 + tile h w wd j 7 + tile h w wd j 8 + tile h w wd j 9 + tile h w wd j 10 := by
  have e : ffn h w wd j = ∑ b : Fin 11, tile h w wd j b :=
    Fin.sum_univ_tiles 11 256 rfl _
  rw [e]
  simp only [Fin.sum_univ_castSucc, Fin.sum_univ_zero, zero_add]
  rfl

end Cert.Rows

end
-- ==== Proof.Ffn2.lean ====
/- The last feed-forward network with its residual: kernel and reference, read row by row. -/
module

public import proofs.«01_k».proof.Proof.Rows
public import proofs.«01_k».proof.Proof.Gen.Kernel2Ideal.Value
public import proofs.«01_k».proof.Proof.Gen.Reference2Ideal.Run
public import Idealize.ShloMosaic.Lib.Claim
public import Idealize.ShloMosaic.Lib.Pipeline.ValueKit

@[expose] public section

set_option maxRecDepth 16384

noncomputable section

namespace Cert.Kernel2Ideal.Ffn

open Idealize.ShloMosaic Idealize.ShloMosaic.TcCoe
open Cert.Kernel2Ideal Cert.Kernel2Ideal.Gen
open Cert.Rows

/-! ## The body's values: the normalised rows, then the tiles of hidden units one after the other -/

section

variable (h : FVec Ideal S512x1024 .bf16) (s : FVec Ideal S512x1024 .f32) (g u g' u' : Vec Ideal S1x1024x256 .f32)
  (d d' : Vec Ideal S1x256x1024 .f32) (r : Fin 512) (j : Fin 1024)

/-- One tile of hidden units, from the loaded weights. -/
def part : EReal :=
  chunk (fun a => h (ix2 r a)) (fun a f => g (ix3 0 a f)) (fun a f => u (ix3 0 a f)) (fun f j => d (ix3 0 f j)) j

theorem pay4_at : k0_pay4 h s g u d g' u' d' (ix2 r j) = s (ix2 r j) + part h g u d r j + part h g' u' d' r j := by
  unfold k0_pay4
  pointwise
  rfl

theorem pay6_at : k0_pay6 h s (k0_pay5 g) u d g' u' d' (ix2 r j) = s (ix2 r j) + part h g u d r j + part h g' u' d' r j := by
  unfold k0_pay6 k0_pay5
  pointwise
  rfl

theorem pay8_at : k0_pay8 h s (k0_pay7 h g) u d g' u' d' (ix2 r j) = s (ix2 r j) + part h g u d r j + part h g' u' d' r j := by
  unfold k0_pay8 k0_pay7
  pointwise
  rfl

theorem pay10_at : k0_pay10 h s (k0_pay9 h g) u d g' u' d' (ix2 r j) = s (ix2 r j) + part h g u d r j + part h g' u' d' r j := by
  unfold k0_pay10 k0_pay9
  pointwise
  rfl

theorem pay1_at (x : Vec Ideal S512x1024 .f32) : k0_pay1 x h s (k0_pay11 h g) u d g' u' d' (ix2 r j)
    = x (ix2 r j) + Ideal.ofBits FTy.f32 0x3F000000#32 * (s (ix2 r j) + part h g u d r j + part h g' u' d' r j) := by
  unfold k0_pay1 k0_pay11
  pointwise
  rfl

variable (x : Vec Ideal S512x1024 .f32) (n : Vec Ideal S1x1x1024 .f32)

theorem pay2_at : k0_pay2 x n (ix2 r j) = rms (fun a => x (ix2 r a)) (fun a => n (ix3 0 0 a)) j := by
  unfold k0_pay2
  pointwise
  rfl

theorem pay3_at : k0_pay3 x n g u d (ix2 r j) = part (k0_pay2 x n) g u d r j := by
  unfold k0_pay3
  pointwise
  rfl

end

/-! ## The loads: slices of the weights -/

theorem ld_gu (X : Vec Ideal S1x1024x5632 .f32) (o : ℕ) (inb) (a : Fin 1024) (f : Fin 256) (i : Fin 5632) (hi : i.val = o + f.val) :
    View.ld X (Rect.unit (s := S1x1024x5632) ![0, 0, o] S1x1024x256.size inb) (ix3 0 a f) = X (ix3 0 a i) := by
  refine View.ld_unit_apply_of X _ _ inb _ _ fun k => ?_
  fin_cases k
  · rfl
  · show a.val = 0 + a.val
    omega
  · exact hi

theorem ld_d (X : Vec Ideal S1x2816x1024 .f32) (o : ℕ) (inb) (f : Fin 256) (j : Fin 1024) (i : Fin 2816) (hi : i.val = o + f.val) :
    View.ld X (Rect.unit (s := S1x2816x1024) ![0, o, 0] S1x256x1024.size inb) (ix3 0 f j) = X (ix3 0 i j) := by
  refine View.ld_unit_apply_of X _ _ inb _ _ fun k => ?_
  fin_cases k
  · rfl
  · exact hi
  · show j.val = 0 + j.val
    omega

/-- A tile of the loaded slices is that tile of the network. -/
theorem part_ld (h : FVec Ideal S512x1024 .bf16) (X : Vec Ideal S1x1024x5632 .f32) (Y : Vec Ideal S1x2816x1024 .f32)
    (r : Fin 512) (j : Fin 1024) (b : Fin 11) (o o' : ℕ) (inb inb' inb'') (ho : o = b.val * 256) (ho' : o' = 2816 + b.val * 256) :
    part h (View.ld X (Rect.unit (s := S1x1024x5632) ![0, 0, o] S1x1024x256.size inb))
        (View.ld X (Rect.unit (s := S1x1024x5632) ![0, 0, o'] S1x1024x256.size inb'))
        (View.ld Y (Rect.unit (s := S1x2816x1024) ![0, o, 0] S1x256x1024.size inb'')) r j
      = tile (fun a => h (ix2 r a)) (fun a f => X (ix3 0 a f)) (fun f j => Y (ix3 0 f j)) j b := by
  unfold part tile
  have e1 : (fun (a : Fin 1024) (f : Fin 256) => View.ld X (Rect.unit (s := S1x1024x5632) ![0, 0, o] S1x1024x256.size inb) (ix3 0 a f))
      = fun a f => X (ix3 0 a ⟨b.val * 256 + f.val, by omega⟩) :=
    funext fun a => funext fun f => ld_gu X o inb a f _ (by show b.val * 256 + f.val = o + f.val; omega)
  have e2 : (fun (a : Fin 1024) (f : Fin 256) => View.ld X (Rect.unit (s := S1x1024x5632) ![0, 0, o'] S1x1024x256.size inb') (ix3 0 a f))
      = fun a f => X (ix3 0 a ⟨2816 + (b.val * 256 + f.val), by omega⟩) :=
    funext fun a => funext fun f => ld_gu X o' inb' a f _ (by show 2816 + (b.val * 256 + f.val) = o' + f.val; omega)
  have e3 : (fun (f : Fin 256) (j : Fin 1024) => View.ld Y (Rect.unit (s := S1x2816x1024) ![0, o, 0] S1x256x1024.size inb'') (ix3 0 f j))
      = fun f j => Y (ix3 0 ⟨b.val * 256 + f.val, by omega⟩ j) :=
    funext fun f => funext fun j => ld_d Y o inb'' f j _ (by show b.val * 256 + f.val = o + f.val; omega)
  exact congr (congr (congr (congrArg (chunk fun a => h (ix2 r a)) e1) e2) e3) rfl

/-- A point's block of the result. -/
theorem out_at (x : Vec Ideal S512x1024 .f32) (n : Vec Ideal S1x1x1024 .f32) (X : Vec Ideal S1x1024x5632 .f32)
    (Y : Vec Ideal S1x2816x1024 .f32) (r : Fin 512) (j : Fin 1024) :
    (out0_4 x n X Y : S512x1024.Idx → EReal) (ix2 r j)
      = x (ix2 r j) + Ideal.ofBits FTy.f32 0x3F000000#32
          * ffn (rms (fun a => x (ix2 r a)) (fun a => n (ix3 0 0 a))) (fun a f => X (ix3 0 a f)) (fun f j => Y (ix3 0 f j)) j := by
  have z2 : ∀ a : Fin 2, (![0, 0] : Fin 2 → ℕ) a = 0 := by decide
  have z3 : ∀ a : Fin 3, (![0, 0, 0] : Fin 3 → ℕ) a = 0 := by decide
  have e0 : View.ld x r0_0 = x := View.ld_unit_lit _ x z2
  have e1 : View.ld n r0_1 = n := View.ld_unit_lit _ n z3
  unfold out0_4 k0_pay12
  rw [View.canon_cons_unit_lit _ _ _ z2, e0, e1, pay1_at, pay10_at, pay8_at, pay6_at, pay4_at, pay3_at]
  have eh : (fun a => (k0_pay2 x n : S512x1024.Idx → EReal) (ix2 r a)) = rms (fun a => x (ix2 r a)) (fun a => n (ix3 0 0 a)) :=
    funext fun a => pay2_at r a x n
  rw [part_ld _ X Y r j 0 0 2816 _ _ _ rfl rfl, part_ld _ X Y r j 1 256 3072 _ _ _ rfl rfl,
    part_ld _ X Y r j 2 512 3328 _ _ _ rfl rfl, part_ld _ X Y r j 3 768 3584 _ _ _ rfl rfl,
    part_ld _ X Y r j 4 1024 3840 _ _ _ rfl rfl, part_ld _ X Y r j 5 1280 4096 _ _ _ rfl rfl,
    part_ld _ X Y r j 6 1536 4352 _ _ _ rfl rfl, part_ld _ X Y r j 7 1792 4608 _ _ _ rfl rfl,
    part_ld _ X Y r j 8 2048 4864 _ _ _ rfl rfl, part_ld _ X Y r j 9 2304 5120 _ _ _ rfl rfl,
    part_ld _ X Y r j 10 2560 5376 _ _ _ rfl rfl, eh, ffn_tiles]

/-! ## The blocks in the arguments' elements, and the result -/

variable (m : (ℓ : Loc nD τ sig) → Buf (Elt Ideal) ℓ) (c : Dev nD)

/-- The arguments. -/
def aX : Vec Ideal S17408x1024 .f32 := m ((c : Thread nD τ).loc main_arg0)
def aN : Vec Ideal S4x1024 .f32 := m ((c : Thread nD τ).loc main_arg1)
def aGu : Vec Ideal S4x1024x5632 .f32 := m ((c : Thread nD τ).loc main_arg2)
def aD : Vec Ideal S4x2816x1024 .f32 := m ((c : Thread nD τ).loc main_arg3)

/-- A row of the result, from the arguments. -/
def row (x : Vec Ideal S17408x1024 .f32) (n : Vec Ideal S4x1024 .f32) (w : Vec Ideal S4x1024x5632 .f32)
    (d : Vec Ideal S4x2816x1024 .f32) (i : Fin 17408) (j : Fin 1024) : EReal :=
  x (ix2 i j) + Ideal.ofBits FTy.f32 0x3F000000#32
    * ffn (rms (fun a => x (ix2 i a)) (fun a => n (ix2 3 a))) (fun a f => w (ix3 3 a f)) (fun f j => d (ix3 3 f j)) j

theorem v0_at (l : Fin 4) (j : Fin 1024) :
    (V m c main_v0 : S4x1x1024.Idx → EReal) (ix3 l 0 j) = aN m c (ix2 l j) := by
  entry_read
  pointwise
  rfl

/-- The blocks' places, by the point. -/
theorem places : ∀ t : Fin cfg0.N, win0_0.index t = ![t.val, 0] ∧ win0_1.index t = ![3, 0, 0]
    ∧ win0_2.index t = ![3, 0, 0] ∧ win0_3.index t = ![3, 0, 0] ∧ win0_4.index t = ![t.val, 0] :=
  (by decide +kernel : ∀ t : Fin grid0.N, _)

theorem flushes : ∀ t : Fin cfg0.N, (cfg0.win 4).flush t = true := (by decide +kernel : ∀ t : Fin grid0.N, _)

theorem b0_at (t : Fin cfg0.N) (ht : t.val < 34) (r : Fin 512) (j : Fin 1024) :
    (iblk m c 0 t : S512x1024.Idx → EReal) (ix2 r j) = aX m c (ix2 ⟨t.val * 512 + r.val, by omega⟩ j) := by
  blk_simp [iblk]
  refine (congrArg (V m c main_arg0) (funext fun a => Fin.ext ?_)).trans
    (congrFun (V_main_arg0 m c) (ix2 ⟨t.val * 512 + r.val, by omega⟩ j))
  show win0_0.index t a * S512x1024.size a + 1 * ((ix2 r j : S512x1024.Idx) a).val = _
  rw [(places t).1]
  fin_cases a
  · show t.val * 512 + 1 * r.val = t.val * 512 + r.val
    omega
  · show 0 * 1024 + 1 * j.val = j.val
    omega

theorem b1_at (t : Fin cfg0.N) (j : Fin 1024) :
    (iblk m c 1 t : S1x1x1024.Idx → EReal) (ix3 0 0 j) = aN m c (ix2 3 j) := by
  refine Eq.trans ?_ (v0_at m c 3 j)
  blk_simp [iblk]
  refine congrArg (V m c main_v0) (funext fun a => Fin.ext ?_)
  show win0_1.index t a * S1x1x1024.size a + 1 * ((ix3 0 0 j : S1x1x1024.Idx) a).val = _
  rw [(places t).2.1]
  fin_cases a
  · show 3 * 1 + 1 * 0 = 3
    omega
  · show 0 * 1 + 1 * 0 = 0
    omega
  · show 0 * 1024 + 1 * j.val = j.val
    omega

theorem b2_at (t : Fin cfg0.N) (k : Fin 1024) (j : Fin 5632) :
    (iblk m c 2 t : S1x1024x5632.Idx → EReal) (ix3 0 k j) = aGu m c (ix3 3 k j) := by
  blk_simp [iblk]
  refine (congrArg (V m c main_arg2) (funext fun a => Fin.ext ?_)).trans (congrFun (V_main_arg2 m c) (ix3 3 k j))
  show win0_2.index t a * S1x1024x5632.size a + 1 * ((ix3 0 k j : S1x1024x5632.Idx) a).val = _
  rw [(places t).2.2.1]
  fin_cases a
  · show 3 * 1 + 1 * 0 = 3
    omega
  · show 0 * 1024 + 1 * k.val = k.val
    omega
  · show 0 * 5632 + 1 * j.val = j.val
    omega

theorem b3_at (t : Fin cfg0.N) (k : Fin 2816) (j : Fin 1024) :
    (iblk m c 3 t : S1x2816x1024.Idx → EReal) (ix3 0 k j) = aD m c (ix3 3 k j) := by
  blk_simp [iblk]
  refine (congrArg (V m c main_arg3) (funext fun a => Fin.ext ?_)).trans (congrFun (V_main_arg3 m c) (ix3 3 k j))
  show win0_3.index t a * S1x2816x1024.size a + 1 * ((ix3 0 k j : S1x2816x1024.Idx) a).val = _
  rw [(places t).2.2.2.1]
  fin_cases a
  · show 3 * 1 + 1 * 0 = 3
    omega
  · show 0 * 2816 + 1 * k.val = k.val
    omega
  · show 0 * 1024 + 1 * j.val = j.val
    omega

/-- A point's block of the result, in the arguments' elements. -/
theorem blk_at (t : Fin cfg0.N) (ht : t.val < 34) (r : Fin 512) (j : Fin 1024) :
    ((out0_4 (iblk m c 0 t) (iblk m c 1 t) (iblk m c 2 t) (iblk m c 3 t)) : S512x1024.Idx → EReal) (ix2 r j)
      = row (aX m c) (aN m c) (aGu m c) (aD m c) ⟨t.val * 512 + r.val, by omega⟩ j := by
  refine (out_at (iblk m c 0 t) (iblk m c 1 t) (iblk m c 2 t) (iblk m c 3 t) r j).trans ?_
  have e0 := funext fun a => b0_at m c t ht r a
  have e1 := funext fun a => b1_at m c t a
  have e2 := funext fun k => funext fun a => b2_at m c t k a
  have e3 := funext fun k => funext fun a => b3_at m c t k a
  unfold row
  rw [e0, e1, e2, e3, b0_at m c t ht r j]

/-- Where a point's element lies. -/
theorem emb4 (t : Fin cfg0.N) (y : S512x1024.Idx) (a : Fin 2) :
    ((((cfg0.win 4).blk t).view.emb y : S17408x1024.Idx) a).val = (![t.val * 512, 0] : Fin 2 → ℕ) a + (y a).val := by
  show win0_4.index t a * S512x1024.size a + 1 * (y a).val = _
  rw [(places t).2.2.2.2]
  fin_cases a
  · show t.val * 512 + 1 * (y 0).val = t.val * 512 + (y 0).val
    omega
  · show 0 * 1024 + 1 * (y 1).val = 0 + (y 1).val
    omega

/-- The result's rows. -/
theorem value_at (i : Fin 17408) (j : Fin 1024) :
    ((dats m 0 c).arrAt 4 cfg0.N : S17408x1024.Idx → EReal) (ix2 i j) = row (aX m c) (aN m c) (aGu m c) (aD m c) i j := by
  have ht : i.val / 512 < 34 := by omega
  have h := congrFun ((Value.blocks4 m c ⟨i.val / 512, ht⟩ (flushes _)).trans (Value.flushed4 m c ⟨i.val / 512, ht⟩))
    (ix2 ⟨i.val % 512, by omega⟩ j)
  refine Eq.trans (congrArg ((dats m 0 c).arrAt 4 cfg0.N) (funext fun a => Fin.ext ?_))
    (h.trans ((blk_at m c ⟨i.val / 512, ht⟩ ht ⟨i.val % 512, by omega⟩ j).trans ?_))
  · rw [emb4]
    fin_cases a
    · show i.val = i.val / 512 * 512 + i.val % 512
      omega
    · show j.val = 0 + j.val
      omega
  · refine congrArg (fun i => row (aX m c) (aN m c) (aGu m c) (aD m c) i j) (Fin.ext ?_)
    show i.val / 512 * 512 + i.val % 512 = i.val
    omega

end Cert.Kernel2Ideal.Ffn

namespace Cert.Reference2Ideal.Ffn

open Idealize.ShloMosaic Idealize.ShloMosaic.TcCoe
open Cert.Reference2Ideal Cert.Reference2Ideal.Gen Cert.Reference2Ideal.Value

variable (m : (ℓ : Loc nD τ sig) → Buf (Elt Ideal) ℓ) (c : Dev nD)

/-- The reference's rows. -/
theorem value_at (i : Fin 17408) (j : Fin 1024) :
    (res_out0 m c : S17408x1024.Idx → EReal) (ix2 i j)
      = Cert.Kernel2Ideal.Ffn.row (m ((c : Thread nD τ).loc main_arg0)) (m ((c : Thread nD τ).loc main_arg1))
        (m ((c : Thread nD τ).loc main_arg2)) (m ((c : Thread nD τ).loc main_arg3)) i j := by
  unfold res_out0 res_main_v27
  pointwise
  rfl

end Cert.Reference2Ideal.Ffn

end
-- ==== Proof.Ple3.lean ====
/- The last per-layer update and the final normalisation, on the prompt's rows: kernel and reference, read row by row. -/
module

public import proofs.«01_k».proof.Proof.Rows
public import proofs.«01_k».proof.Proof.Gen.Kernel3Ideal.Value
public import proofs.«01_k».proof.Proof.Gen.Reference3Ideal.Run
public import Idealize.ShloMosaic.Lib.Claim
public import Idealize.ShloMosaic.Lib.Pipeline.ValueKit

@[expose] public section

set_option maxRecDepth 16384

noncomputable section

namespace Cert.Kernel3Ideal.Ple

open Idealize.ShloMosaic Idealize.ShloMosaic.TcCoe
open Cert.Kernel3Ideal Cert.Kernel3Ideal.Gen
open Cert.Rows

section

variable (v0 : Vec Ideal S512x1024 .f32) (v1 : Vec Ideal S1x512x256 .f32) (v3 : Vec Ideal S1x1x1024 .f32)
  (v18 : Vec Ideal S1x1024x1024 .bf16) (v22 : Vec Ideal S1x256x1024 .bf16) (v29 : Vec Ideal S1x1024 .f32)

/-- A row of the update, from the point's blocks. -/
def upd (r : Fin 512) : Fin 1024 → EReal :=
  ple (fun a => v0 (ix2 r a)) (fun a => v1 (ix3 0 r a)) (fun a => v3 (ix3 0 0 a)) (fun a j => v22 (ix3 0 a j))
    (fun a j => v18 (ix3 0 a j))

theorem pay2_at (r : Fin 512) (j : Fin 1024) :
    k0_pay2 v0 v1 v3 v18 v22 (ix2 r j) = upd v0 v1 v3 v18 v22 r j := by
  unfold k0_pay2
  pointwise
  rfl

/-- The mean square of the updated row. -/
theorem pay4_at (r : Fin 512) :
    k0_pay4 v0 v1 v3 v18 v22 (ix2 r 0)
      = Ideal.div (∑ a, upd v0 v1 v3 v18 v22 r a * upd v0 v1 v3 v18 v22 r a) (Ideal.ofBits FTy.f32 1149239296#32) := by
  unfold k0_pay4
  pointwise
  simp only [pay2_at]

theorem pay3_at (j : Fin 1024) : k0_pay3 v29 (ix2 0 j) = v29 (ix2 0 j) := by
  unfold k0_pay3
  pointwise

/-- The stored row. -/
theorem pay1_at (u : FVec Ideal S512x1024 .f32) (g : FVec Ideal S1x1024 .f32) (q : FVec Ideal S512x1 .f32) (r : Fin 512) (j : Fin 1024) :
    k0_pay1 u g q (Scalar.ofBits .f32 0x358637BD#32) (ix2 r j)
      = u (ix2 r j) * Ideal.rsqrt (q (ix2 r 0) + Ideal.ofBits FTy.f32 897988541#32) * g (ix2 0 j) := by
  unfold k0_pay1
  pointwise

/-- A point's block of the result. -/
theorem out_at (r : Fin 512) (j : Fin 1024) :
    (out0_6 v0 v1 v3 v22 v18 v29 : S512x1024.Idx → EReal) (ix2 r j)
      = rms (upd v0 v1 v3 v18 v22 r) (fun a => v29 (ix2 0 a)) j := by
  have z2 : ∀ a : Fin 2, (![0, 0] : Fin 2 → ℕ) a = 0 := by decide
  have z3 : ∀ a : Fin 3, (![0, 0, 0] : Fin 3 → ℕ) a = 0 := by decide
  have e0 : View.ld v0 r0_0 = v0 := View.ld_unit_lit _ v0 z2
  have e1 : View.ld v1 r0_1 = v1 := View.ld_unit_lit _ v1 z3
  have e2 : View.ld v3 r0_2 = v3 := View.ld_unit_lit _ v3 z3
  have e3 : View.ld v18 r0_3 = v18 := View.ld_unit_lit _ v18 z3
  have e4 : View.ld v22 r0_4 = v22 := View.ld_unit_lit _ v22 z3
  have e5 : View.ld v29 r0_5 = v29 := View.ld_unit_lit _ v29 z2
  unfold out0_6
  rw [View.canon_cons_unit_lit _ _ _ z2, e0, e1, e2, e3, e4, e5, pay1_at, pay2_at, pay3_at, pay4_at]
  rfl

end

variable (m : (ℓ : Loc nD τ sig) → Buf (Elt Ideal) ℓ) (c : Dev nD)

/-- The arguments. -/
def aX : Vec Ideal S17408x1024 .f32 := m ((c : Thread nD τ).loc main_arg0)
def aP : Vec Ideal S4x4x4096x256 .f32 := m ((c : Thread nD τ).loc main_arg1)
def aN : Vec Ideal S4x1024 .f32 := m ((c : Thread nD τ).loc main_arg2)
def aWp : Vec Ideal S4x256x1024 .f32 := m ((c : Thread nD τ).loc main_arg3)
def aWg : Vec Ideal S4x1024x1024 .f32 := m ((c : Thread nD τ).loc main_arg4)
def aF : Vec Ideal S1024 .f32 := m ((c : Thread nD τ).loc main_arg5)

/-- A row of the result, from the arguments. -/
def row (x : Vec Ideal S17408x1024 .f32) (p : Vec Ideal S4x4x4096x256 .f32) (n : Vec Ideal S4x1024 .f32)
    (wp : Vec Ideal S4x256x1024 .f32) (wg : Vec Ideal S4x1024x1024 .f32) (f : Vec Ideal S1024 .f32) (i : Fin 16384) :
    Fin 1024 → EReal :=
  rms (ple (fun a => x (ix2 ⟨i.val, by omega⟩ a))
    (fun a => p (ix4 3 ⟨i.val / 4096, by omega⟩ ⟨i.val % 4096, by omega⟩ a))
    (fun a => n (ix2 3 a)) (fun a j => wp (ix3 3 a j)) (fun a j => wg (ix3 3 a j))) (fun a => f (ix1 a))

theorem v0_at (l : Fin 4) (i : Fin 16384) (a : Fin 256) :
    (V m c main_v0 : S4x16384x256.Idx → EReal) (ix3 l i a)
      = aP m c (ix4 l ⟨i.val / 4096, by omega⟩ ⟨i.val % 4096, by omega⟩ a) := by
  entry_read
  pointwise
  rfl

theorem v1_at (l : Fin 4) (a : Fin 256) (j : Fin 1024) :
    (V m c main_v1 : S4x256x1024.Idx → EReal) (ix3 l a j) = aWp m c (ix3 l a j) := by
  entry_read
  pointwise
  rfl

theorem v2_at (l : Fin 4) (a j : Fin 1024) :
    (V m c main_v2 : S4x1024x1024.Idx → EReal) (ix3 l a j) = aWg m c (ix3 l a j) := by
  entry_read
  pointwise
  rfl

theorem v3_at (l : Fin 4) (j : Fin 1024) :
    (V m c main_v3 : S4x1x1024.Idx → EReal) (ix3 l 0 j) = aN m c (ix2 l j) := by
  entry_read
  pointwise
  rfl

theorem v4_at (j : Fin 1024) : (V m c main_v4 : S1x1024.Idx → EReal) (ix2 0 j) = aF m c (ix1 j) := by
  entry_read
  pointwise
  rfl

/-- The blocks' places, by the point. -/
theorem places : ∀ t : Fin cfg0.N, win0_0.index t = ![t.val, 0] ∧ win0_1.index t = ![3, t.val, 0]
    ∧ win0_2.index t = ![3, 0, 0] ∧ win0_3.index t = ![3, 0, 0] ∧ win0_4.index t = ![3, 0, 0] ∧ win0_5.index t = ![0, 0]
    ∧ win0_6.index t = ![t.val, 0] :=
  (by decide +kernel : ∀ t : Fin grid0.N, _)

theorem flushes : ∀ t : Fin cfg0.N, (cfg0.win 6).flush t = true := (by decide +kernel : ∀ t : Fin grid0.N, _)

theorem b0_at (t : Fin cfg0.N) (ht : t.val < 32) (r : Fin 512) (j : Fin 1024) :
    (iblk m c 0 t : S512x1024.Idx → EReal) (ix2 r j) = aX m c (ix2 ⟨t.val * 512 + r.val, by omega⟩ j) := by
  blk_simp [iblk]
  refine (congrArg (V m c main_arg0) (funext fun a => Fin.ext ?_)).trans
    (congrFun (V_main_arg0 m c) (ix2 ⟨t.val * 512 + r.val, by omega⟩ j))
  show win0_0.index t a * S512x1024.size a + 1 * ((ix2 r j : S512x1024.Idx) a).val = _
  rw [(places t).1]
  fin_cases a
  · show t.val * 512 + 1 * r.val = t.val * 512 + r.val
    omega
  · show 0 * 1024 + 1 * j.val = j.val
    omega

theorem b1_at (t : Fin cfg0.N) (ht : t.val < 32) (r : Fin 512) (j : Fin 256) :
    (iblk m c 1 t : S1x512x256.Idx → EReal) (ix3 0 r j)
      = aP m c (ix4 3 ⟨(t.val * 512 + r.val) / 4096, by omega⟩ ⟨(t.val * 512 + r.val) % 4096, by omega⟩ j) := by
  refine Eq.trans ?_ (v0_at m c 3 ⟨t.val * 512 + r.val, by omega⟩ j)
  blk_simp [iblk]
  refine congrArg (V m c main_v0) (funext fun a => Fin.ext ?_)
  show win0_1.index t a * S1x512x256.size a + 1 * ((ix3 0 r j : S1x512x256.Idx) a).val = _
  rw [(places t).2.1]
  fin_cases a
  · show 3 * 1 + 1 * 0 = 3
    omega
  · show t.val * 512 + 1 * r.val = t.val * 512 + r.val
    omega
  · show 0 * 256 + 1 * j.val = j.val
    omega

theorem b2_at (t : Fin cfg0.N) (j : Fin 1024) :
    (iblk m c 2 t : S1x1x1024.Idx → EReal) (ix3 0 0 j) = aN m c (ix2 3 j) := by
  refine Eq.trans ?_ (v3_at m c 3 j)
  blk_simp [iblk]
  refine congrArg (V m c main_v3) (funext fun a => Fin.ext ?_)
  show win0_2.index t a * S1x1x1024.size a + 1 * ((ix3 0 0 j : S1x1x1024.Idx) a).val = _
  rw [(places t).2.2.1]
  fin_cases a
  · show 3 * 1 + 1 * 0 = 3
    omega
  · show 0 * 1 + 1 * 0 = 0
    omega
  · show 0 * 1024 + 1 * j.val = j.val
    omega

theorem b3_at (t : Fin cfg0.N) (k : Fin 256) (j : Fin 1024) :
    (iblk m c 3 t : S1x256x1024.Idx → EReal) (ix3 0 k j) = aWp m c (ix3 3 k j) := by
  refine Eq.trans ?_ (v1_at m c 3 k j)
  blk_simp [iblk]
  refine congrArg (V m c main_v1) (funext fun a => Fin.ext ?_)
  show win0_3.index t a * S1x256x1024.size a + 1 * ((ix3 0 k j : S1x256x1024.Idx) a).val = _
  rw [(places t).2.2.2.1]
  fin_cases a
  · show 3 * 1 + 1 * 0 = 3
    omega
  · show 0 * 256 + 1 * k.val = k.val
    omega
  · show 0 * 1024 + 1 * j.val = j.val
    omega

theorem b4_at (t : Fin cfg0.N) (k j : Fin 1024) :
    (iblk m c 4 t : S1x1024x1024.Idx → EReal) (ix3 0 k j) = aWg m c (ix3 3 k j) := by
  refine Eq.trans ?_ (v2_at m c 3 k j)
  blk_simp [iblk]
  refine congrArg (V m c main_v2) (funext fun a => Fin.ext ?_)
  show win0_4.index t a * S1x1024x1024.size a + 1 * ((ix3 0 k j : S1x1024x1024.Idx) a).val = _
  rw [(places t).2.2.2.2.1]
  fin_cases a
  · show 3 * 1 + 1 * 0 = 3
    omega
  · show 0 * 1024 + 1 * k.val = k.val
    omega
  · show 0 * 1024 + 1 * j.val = j.val
    omega

theorem b5_at (t : Fin cfg0.N) (j : Fin 1024) :
    (iblk m c 5 t : S1x1024.Idx → EReal) (ix2 0 j) = aF m c (ix1 j) := by
  refine Eq.trans ?_ (v4_at m c j)
  blk_simp [iblk]
  refine congrArg (V m c main_v4) (funext fun a => Fin.ext ?_)
  show win0_5.index t a * S1x1024.size a + 1 * ((ix2 0 j : S1x1024.Idx) a).val = _
  rw [(places t).2.2.2.2.2.1]
  fin_cases a
  · show 0 * 1 + 1 * 0 = 0
    omega
  · show 0 * 1024 + 1 * j.val = j.val
    omega

/-- A point's block of the result, in the arguments' elements. -/
theorem blk_at (t : Fin cfg0.N) (ht : t.val < 32) (r : Fin 512) (j : Fin 1024) :
    ((out0_6 (iblk m c 0 t) (iblk m c 1 t) (iblk m c 2 t) (iblk m c 3 t) (iblk m c 4 t) (iblk m c 5 t)) : S512x1024.Idx → EReal)
        (ix2 r j)
      = row (aX m c) (aP m c) (aN m c) (aWp m c) (aWg m c) (aF m c) ⟨t.val * 512 + r.val, by omega⟩ j := by
  refine (out_at (iblk m c 0 t) (iblk m c 1 t) (iblk m c 2 t) (iblk m c 4 t) (iblk m c 3 t) (iblk m c 5 t) r j).trans ?_
  have e0 := funext fun a => b0_at m c t ht r a
  have e1 := funext fun a => b1_at m c t ht r a
  have e2 := funext fun a => b2_at m c t a
  have e3 := funext fun k => funext fun a => b3_at m c t k a
  have e4 := funext fun k => funext fun a => b4_at m c t k a
  have e5 := funext fun a => b5_at m c t a
  unfold upd row
  rw [e0, e1, e2, e3, e4, e5]

/-- Where a point's element lies. -/
theorem emb6 (t : Fin cfg0.N) (y : S512x1024.Idx) (a : Fin 2) :
    ((((cfg0.win 6).blk t).view.emb y : S16384x1024.Idx) a).val = (![t.val * 512, 0] : Fin 2 → ℕ) a + (y a).val := by
  show win0_6.index t a * S512x1024.size a + 1 * (y a).val = _
  rw [(places t).2.2.2.2.2.2]
  fin_cases a
  · show t.val * 512 + 1 * (y 0).val = t.val * 512 + (y 0).val
    omega
  · show 0 * 1024 + 1 * (y 1).val = 0 + (y 1).val
    omega

/-- The result's rows. -/
theorem value_at (i : Fin 16384) (j : Fin 1024) :
    ((dats m 0 c).arrAt 6 cfg0.N : S16384x1024.Idx → EReal) (ix2 i j)
      = row (aX m c) (aP m c) (aN m c) (aWp m c) (aWg m c) (aF m c) i j := by
  have ht : i.val / 512 < 32 := by omega
  have h := congrFun ((Value.blocks6 m c ⟨i.val / 512, ht⟩ (flushes _)).trans (Value.flushed6 m c ⟨i.val / 512, ht⟩))
    (ix2 ⟨i.val % 512, by omega⟩ j)
  refine Eq.trans (congrArg ((dats m 0 c).arrAt 6 cfg0.N) (funext fun a => Fin.ext ?_))
    (h.trans ((blk_at m c ⟨i.val / 512, ht⟩ ht ⟨i.val % 512, by omega⟩ j).trans ?_))
  · rw [emb6]
    fin_cases a
    · show i.val = i.val / 512 * 512 + i.val % 512
      omega
    · show j.val = 0 + j.val
      omega
  · refine congrArg (fun i => row (aX m c) (aP m c) (aN m c) (aWp m c) (aWg m c) (aF m c) i j) (Fin.ext ?_)
    show i.val / 512 * 512 + i.val % 512 = i.val
    omega

end Cert.Kernel3Ideal.Ple

namespace Cert.Reference3Ideal.Ple

open Idealize.ShloMosaic Idealize.ShloMosaic.TcCoe
open Cert.Reference3Ideal Cert.Reference3Ideal.Gen Cert.Reference3Ideal.Value

variable (m : (ℓ : Loc nD τ sig) → Buf (Elt Ideal) ℓ) (c : Dev nD)

/-- The reference's rows. -/
theorem value_at (i : Fin 16384) (j : Fin 1024) :
    (res_out0 m c : S16384x1024.Idx → EReal) (ix2 i j)
      = Cert.Kernel3Ideal.Ple.row (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) i j := by
  unfold res_out0 res_main_v45
  pointwise
  rfl

end Cert.Reference3Ideal.Ple

end
-- ==== Proof.Ple4.lean ====
/- The last per-layer update and the final normalisation, on the samples' rows: kernel and reference, read row by row. -/
module

public import proofs.«01_k».proof.Proof.Ple3
public import proofs.«01_k».proof.Proof.Gen.Kernel4Ideal.Value
public import proofs.«01_k».proof.Proof.Gen.Reference4Ideal.Run
public import Idealize.ShloMosaic.Lib.Claim
public import Idealize.ShloMosaic.Lib.Pipeline.ValueKit

@[expose] public section

set_option maxRecDepth 16384

noncomputable section

namespace Cert.Kernel4Ideal.Ple

open Idealize.ShloMosaic Idealize.ShloMosaic.TcCoe
open Cert.Kernel4Ideal Cert.Kernel4Ideal.Gen
open Cert.Rows

/-- A point's block of the result: the body is the prompt call's. -/
theorem out_at (v0 : Vec Ideal S512x1024 .f32) (v1 : Vec Ideal S1x512x256 .f32) (v3 : Vec Ideal S1x1x1024 .f32)
    (v18 : Vec Ideal S1x1024x1024 .bf16) (v22 : Vec Ideal S1x256x1024 .bf16) (v29 : Vec Ideal S1x1024 .f32)
    (r : Fin 512) (j : Fin 1024) :
    (out0_6 v0 v1 v3 v22 v18 v29 : S512x1024.Idx → EReal) (ix2 r j)
      = rms (Cert.Kernel3Ideal.Ple.upd v0 v1 v3 v18 v22 r) (fun a => v29 (ix2 0 a)) j :=
  Cert.Kernel3Ideal.Ple.out_at v0 v1 v3 v18 v22 v29 r j

variable (m : (ℓ : Loc nD τ sig) → Buf (Elt Ideal) ℓ) (c : Dev nD)

/-- The arguments. -/
def aX : Vec Ideal S17408x1024 .f32 := m ((c : Thread nD τ).loc main_arg0)
def aP : Vec Ideal S4x128x8x256 .f32 := m ((c : Thread nD τ).loc main_arg1)
def aN : Vec Ideal S4x1024 .f32 := m ((c : Thread nD τ).loc main_arg2)
def aWp : Vec Ideal S4x256x1024 .f32 := m ((c : Thread nD τ).loc main_arg3)
def aWg : Vec Ideal S4x1024x1024 .f32 := m ((c : Thread nD τ).loc main_arg4)
def aF : Vec Ideal S1024 .f32 := m ((c : Thread nD τ).loc main_arg5)

/-- A row of the result, from the arguments. -/
def row (x : Vec Ideal S17408x1024 .f32) (p : Vec Ideal S4x128x8x256 .f32) (n : Vec Ideal S4x1024 .f32)
    (wp : Vec Ideal S4x256x1024 .f32) (wg : Vec Ideal S4x1024x1024 .f32) (f : Vec Ideal S1024 .f32) (i : Fin 1024) :
    Fin 1024 → EReal :=
  rms (ple (fun a => x (ix2 ⟨16384 + i.val, by omega⟩ a))
    (fun a => p (ix4 3 ⟨i.val / 8, by omega⟩ ⟨i.val % 8, by omega⟩ a))
    (fun a => n (ix2 3 a)) (fun a j => wp (ix3 3 a j)) (fun a j => wg (ix3 3 a j))) (fun a => f (ix1 a))

theorem v0_at (l : Fin 4) (i : Fin 1024) (a : Fin 256) :
    (V m c main_v0 : S4x1024x256.Idx → EReal) (ix3 l i a)
      = aP m c (ix4 l ⟨i.val / 8, by omega⟩ ⟨i.val % 8, by omega⟩ a) := by
  entry_read
  pointwise
  rfl

theorem v1_at (l : Fin 4) (a : Fin 256) (j : Fin 1024) :
    (V m c main_v1 : S4x256x1024.Idx → EReal) (ix3 l a j) = aWp m c (ix3 l a j) := by
  entry_read
  pointwise
  rfl

theorem v2_at (l : Fin 4) (a j : Fin 1024) :
    (V m c main_v2 : S4x1024x1024.Idx → EReal) (ix3 l a j) = aWg m c (ix3 l a j) := by
  entry_read
  pointwise
  rfl

theorem v3_at (l : Fin 4) (j : Fin 1024) :
    (V m c main_v3 : S4x1x1024.Idx → EReal) (ix3 l 0 j) = aN m c (ix2 l j) := by
  entry_read
  pointwise
  rfl

theorem v4_at (j : Fin 1024) : (V m c main_v4 : S1x1024.Idx → EReal) (ix2 0 j) = aF m c (ix1 j) := by
  entry_read
  pointwise
  rfl

/-- The blocks' places, by the point. -/
theorem places : ∀ t : Fin cfg0.N, win0_0.index t = ![32 + t.val, 0] ∧ win0_1.index t = ![3, t.val, 0]
    ∧ win0_2.index t = ![3, 0, 0] ∧ win0_3.index t = ![3, 0, 0] ∧ win0_4.index t = ![3, 0, 0] ∧ win0_5.index t = ![0, 0]
    ∧ win0_6.index t = ![t.val, 0] :=
  (by decide +kernel : ∀ t : Fin grid0.N, _)

theorem flushes : ∀ t : Fin cfg0.N, (cfg0.win 6).flush t = true := (by decide +kernel : ∀ t : Fin grid0.N, _)

theorem b0_at (t : Fin cfg0.N) (ht : t.val < 2) (r : Fin 512) (j : Fin 1024) :
    (iblk m c 0 t : S512x1024.Idx → EReal) (ix2 r j) = aX m c (ix2 ⟨16384 + (t.val * 512 + r.val), by omega⟩ j) := by
  blk_simp [iblk]
  refine (congrArg (V m c main_arg0) (funext fun a => Fin.ext ?_)).trans
    (congrFun (V_main_arg0 m c) (ix2 ⟨16384 + (t.val * 512 + r.val), by omega⟩ j))
  show win0_0.index t a * S512x1024.size a + 1 * ((ix2 r j : S512x1024.Idx) a).val = _
  rw [(places t).1]
  fin_cases a
  · show (32 + t.val) * 512 + 1 * r.val = 16384 + (t.val * 512 + r.val)
    omega
  · show 0 * 1024 + 1 * j.val = j.val
    omega

theorem b1_at (t : Fin cfg0.N) (ht : t.val < 2) (r : Fin 512) (j : Fin 256) :
    (iblk m c 1 t : S1x512x256.Idx → EReal) (ix3 0 r j)
      = aP m c (ix4 3 ⟨(t.val * 512 + r.val) / 8, by omega⟩ ⟨(t.val * 512 + r.val) % 8, by omega⟩ j) := by
  refine Eq.trans ?_ (v0_at m c 3 ⟨t.val * 512 + r.val, by omega⟩ j)
  blk_simp [iblk]
  refine congrArg (V m c main_v0) (funext fun a => Fin.ext ?_)
  show win0_1.index t a * S1x512x256.size a + 1 * ((ix3 0 r j : S1x512x256.Idx) a).val = _
  rw [(places t).2.1]
  fin_cases a
  · show 3 * 1 + 1 * 0 = 3
    omega
  · show t.val * 512 + 1 * r.val = t.val * 512 + r.val
    omega
  · show 0 * 256 + 1 * j.val = j.val
    omega

theorem b2_at (t : Fin cfg0.N) (j : Fin 1024) :
    (iblk m c 2 t : S1x1x1024.Idx → EReal) (ix3 0 0 j) = aN m c (ix2 3 j) := by
  refine Eq.trans ?_ (v3_at m c 3 j)
  blk_simp [iblk]
  refine congrArg (V m c main_v3) (funext fun a => Fin.ext ?_)
  show win0_2.index t a * S1x1x1024.size a + 1 * ((ix3 0 0 j : S1x1x1024.Idx) a).val = _
  rw [(places t).2.2.1]
  fin_cases a
  · show 3 * 1 + 1 * 0 = 3
    omega
  · show 0 * 1 + 1 * 0 = 0
    omega
  · show 0 * 1024 + 1 * j.val = j.val
    omega

theorem b3_at (t : Fin cfg0.N) (k : Fin 256) (j : Fin 1024) :
    (iblk m c 3 t : S1x256x1024.Idx → EReal) (ix3 0 k j) = aWp m c (ix3 3 k j) := by
  refine Eq.trans ?_ (v1_at m c 3 k j)
  blk_simp [iblk]
  refine congrArg (V m c main_v1) (funext fun a => Fin.ext ?_)
  show win0_3.index t a * S1x256x1024.size a + 1 * ((ix3 0 k j : S1x256x1024.Idx) a).val = _
  rw [(places t).2.2.2.1]
  fin_cases a
  · show 3 * 1 + 1 * 0 = 3
    omega
  · show 0 * 256 + 1 * k.val = k.val
    omega
  · show 0 * 1024 + 1 * j.val = j.val
    omega

theorem b4_at (t : Fin cfg0.N) (k j : Fin 1024) :
    (iblk m c 4 t : S1x1024x1024.Idx → EReal) (ix3 0 k j) = aWg m c (ix3 3 k j) := by
  refine Eq.trans ?_ (v2_at m c 3 k j)
  blk_simp [iblk]
  refine congrArg (V m c main_v2) (funext fun a => Fin.ext ?_)
  show win0_4.index t a * S1x1024x1024.size a + 1 * ((ix3 0 k j : S1x1024x1024.Idx) a).val = _
  rw [(places t).2.2.2.2.1]
  fin_cases a
  · show 3 * 1 + 1 * 0 = 3
    omega
  · show 0 * 1024 + 1 * k.val = k.val
    omega
  · show 0 * 1024 + 1 * j.val = j.val
    omega

theorem b5_at (t : Fin cfg0.N) (j : Fin 1024) :
    (iblk m c 5 t : S1x1024.Idx → EReal) (ix2 0 j) = aF m c (ix1 j) := by
  refine Eq.trans ?_ (v4_at m c j)
  blk_simp [iblk]
  refine congrArg (V m c main_v4) (funext fun a => Fin.ext ?_)
  show win0_5.index t a * S1x1024.size a + 1 * ((ix2 0 j : S1x1024.Idx) a).val = _
  rw [(places t).2.2.2.2.2.1]
  fin_cases a
  · show 0 * 1 + 1 * 0 = 0
    omega
  · show 0 * 1024 + 1 * j.val = j.val
    omega

/-- A point's block of the result, in the arguments' elements. -/
theorem blk_at (t : Fin cfg0.N) (ht : t.val < 2) (r : Fin 512) (j : Fin 1024) :
    ((out0_6 (iblk m c 0 t) (iblk m c 1 t) (iblk m c 2 t) (iblk m c 3 t) (iblk m c 4 t) (iblk m c 5 t)) : S512x1024.Idx → EReal)
        (ix2 r j)
      = row (aX m c) (aP m c) (aN m c) (aWp m c) (aWg m c) (aF m c) ⟨t.val * 512 + r.val, by omega⟩ j := by
  refine (out_at (iblk m c 0 t) (iblk m c 1 t) (iblk m c 2 t) (iblk m c 4 t) (iblk m c 3 t) (iblk m c 5 t) r j).trans ?_
  have e0 := funext fun a => b0_at m c t ht r a
  have e1 := funext fun a => b1_at m c t ht r a
  have e2 := funext fun a => b2_at m c t a
  have e3 := funext fun k => funext fun a => b3_at m c t k a
  have e4 := funext fun k => funext fun a => b4_at m c t k a
  have e5 := funext fun a => b5_at m c t a
  unfold Cert.Kernel3Ideal.Ple.upd row
  rw [e0, e1, e2, e3, e4, e5]

/-- Where a point's element lies. -/
theorem emb6 (t : Fin cfg0.N) (y : S512x1024.Idx) (a : Fin 2) :
    ((((cfg0.win 6).blk t).view.emb y : S1024x1024.Idx) a).val = (![t.val * 512, 0] : Fin 2 → ℕ) a + (y a).val := by
  show win0_6.index t a * S512x1024.size a + 1 * (y a).val = _
  rw [(places t).2.2.2.2.2.2]
  fin_cases a
  · show t.val * 512 + 1 * (y 0).val = t.val * 512 + (y 0).val
    omega
  · show 0 * 1024 + 1 * (y 1).val = 0 + (y 1).val
    omega

/-- The result's rows. -/
theorem value_at (i : Fin 1024) (j : Fin 1024) :
    ((dats m 0 c).arrAt 6 cfg0.N : S1024x1024.Idx → EReal) (ix2 i j)
      = row (aX m c) (aP m c) (aN m c) (aWp m c) (aWg m c) (aF m c) i j := by
  have ht : i.val / 512 < 2 := by omega
  have h := congrFun ((Value.blocks6 m c ⟨i.val / 512, ht⟩ (flushes _)).trans (Value.flushed6 m c ⟨i.val / 512, ht⟩))
    (ix2 ⟨i.val % 512, by omega⟩ j)
  refine Eq.trans (congrArg ((dats m 0 c).arrAt 6 cfg0.N) (funext fun a => Fin.ext ?_))
    (h.trans ((blk_at m c ⟨i.val / 512, ht⟩ ht ⟨i.val % 512, by omega⟩ j).trans ?_))
  · rw [emb6]
    fin_cases a
    · show i.val = i.val / 512 * 512 + i.val % 512
      omega
    · show j.val = 0 + j.val
      omega
  · refine congrArg (fun i => row (aX m c) (aP m c) (aN m c) (aWp m c) (aWg m c) (aF m c) i j) (Fin.ext ?_)
    show i.val / 512 * 512 + i.val % 512 = i.val
    omega

end Cert.Kernel4Ideal.Ple

namespace Cert.Reference4Ideal.Ple

open Idealize.ShloMosaic Idealize.ShloMosaic.TcCoe
open Cert.Reference4Ideal Cert.Reference4Ideal.Gen Cert.Reference4Ideal.Value

variable (m : (ℓ : Loc nD τ sig) → Buf (Elt Ideal) ℓ) (c : Dev nD)

/-- The reference's rows. -/
theorem value_at (i : Fin 1024) (j : Fin 1024) :
    (res_out0 m c : S1024x1024.Idx → EReal) (ix2 i j)
      = Cert.Kernel4Ideal.Ple.row (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) i j := by
  unfold res_out0 res_main_v45
  pointwise
  rfl

end Cert.Reference4Ideal.Ple

end
-- ==== Proof.Ffn5.lean ====
/- The joined step ahead of a sliding-window layer: the per-layer update, the first feed-forward network with its residual
   and the projection to queries, keys and values; kernel and reference, read row by row. -/
module

public import proofs.«01_k».proof.Proof.Rows
public import proofs.«01_k».proof.Proof.Ffn2
public import proofs.«01_k».proof.Proof.Gen.Kernel5Ideal.Value
public import proofs.«01_k».proof.Proof.Gen.Reference5Ideal.Run
public import Idealize.ShloMosaic.Lib.Claim
public import Idealize.ShloMosaic.Lib.Pipeline.ValueKit

@[expose] public section

set_option maxRecDepth 16384

noncomputable section

namespace Cert.Kernel5Ideal.Ffn

open Idealize.ShloMosaic Idealize.ShloMosaic.TcCoe
open Cert.Kernel5Ideal Cert.Kernel5Ideal.Gen
open Cert.Rows

/-! ## The body's values: the updated row, its normalisation, the tiles of hidden units, the projection -/

section

variable (x v : FVec Ideal S512x1024 .f32) (n n' : Vec Ideal S1x1x1024 .f32)
  (h : FVec Ideal S512x1024 .bf16) (s : FVec Ideal S512x1024 .f32) (g u g' u' g'' u'' : Vec Ideal S1x1024x256 .bf16)
  (d d' d'' : Vec Ideal S1x256x1024 .bf16) (r : Fin 512) (j : Fin 1024)

/-- One tile of hidden units, from the loaded weights. -/
def part : EReal :=
  chunk (fun a => h (ix2 r a)) (fun a f => g (ix3 0 a f)) (fun a f => u (ix3 0 a f)) (fun f j => d (ix3 0 f j)) j

/-- The point's row of per-layer inputs: the prompt's block while the point's number is below 32, else the samples'. -/
def pick (i : grid0.Coords) (p q : Vec Ideal S1x512x256 .f32) (a : Fin 256) : EReal :=
  Scalar.select (IntOp.cmpi CmpIPredicate.slt (IntOp.addi (0#32) (BitVec.ofNat 32 ↑(i 0))) 32#32) (p (ix3 0 r a)) (q (ix3 0 r a))

/-- The updated row is the row and what is added to it. -/
theorem pay4_at (i : grid0.Coords) (p q : Vec Ideal S1x512x256 .f32) (wg : Vec Ideal S1x1024x1024 .bf16)
    (wp : Vec Ideal S1x256x1024 .bf16) :
    x (ix2 r j) + k0_pay3 i x p q n wg wp (ix2 r j)
      = ple (fun a => x (ix2 r a)) (pick r i p q) (fun a => n (ix3 0 0 a)) (fun a j => wp (ix3 0 a j)) (fun a j => wg (ix3 0 a j)) j := by
  unfold k0_pay3
  pointwise
  rfl

theorem pay4_add : k0_pay4 x v (ix2 r j) = x (ix2 r j) + v (ix2 r j) := by
  unfold k0_pay4
  pointwise

theorem pay5_at : k0_pay5 x v n (ix2 r j) = rms (fun a => x (ix2 r a) + v (ix2 r a)) (fun a => n (ix3 0 0 a)) j := by
  unfold k0_pay5
  pointwise
  rfl

theorem pay6_at : k0_pay6 x v n g u d (ix2 r j) = part (k0_pay5 x v n) g u d r j := by
  unfold k0_pay6
  pointwise
  rfl

theorem pay8_at : k0_pay8 (k0_pay5 x v n) s (k0_pay7 x v n g) u d g' u' d' (ix2 r j)
    = s (ix2 r j) + part (k0_pay5 x v n) g u d r j + part (k0_pay5 x v n) g' u' d' r j := by
  unfold k0_pay8 k0_pay7
  pointwise
  rfl

theorem pay10_at : k0_pay10 h s (k0_pay9 h g u) d g' u' d' g'' u'' d'' (ix2 r j)
    = s (ix2 r j) + part h g u d r j + part h g' u' d' r j + part h g'' u'' d'' r j := by
  unfold k0_pay10 k0_pay9
  pointwise
  rfl

theorem pay11_at : k0_pay11 h s g u d g' u' d' (ix2 r j) = s (ix2 r j) + part h g u d r j + part h g' u' d' r j := by
  unfold k0_pay11
  pointwise
  rfl

theorem pay13_at : k0_pay13 h s (k0_pay12 h g) u d g' u' d' (ix2 r j) = s (ix2 r j) + part h g u d r j + part h g' u' d' r j := by
  unfold k0_pay13 k0_pay12
  pointwise
  rfl

theorem pay1_at : k0_pay1 x s (k0_pay14 h u) (k0_pay15 h g) d (ix2 r j)
    = x (ix2 r j) + Ideal.ofBits FTy.f32 0x3F000000#32 * (s (ix2 r j) + part h g u d r j) := by
  unfold k0_pay1 k0_pay14 k0_pay15
  pointwise
  rfl

/-- The projection of the stored row. -/
theorem pay2_at (a b : FVec Ideal S512x256 .f32) (w : Vec Ideal S1x1024x1536 .bf16) (j : Fin 1536) :
    k0_pay2 x s a b d n' w (ix2 r j)
      = ∑ k, rms (fun k => k0_pay1 x s a b d (ix2 r k)) (fun k => n' (ix3 0 0 k)) k * w (ix3 0 k j) := by
  unfold k0_pay2 k0_pay1
  pointwise
  rfl

end

/-- A tile of the loaded slices is that tile of the network. -/
theorem part_ld (h : FVec Ideal S512x1024 .bf16) (X : Vec Ideal S1x1024x5632 .bf16) (Y : Vec Ideal S1x2816x1024 .bf16)
    (r : Fin 512) (j : Fin 1024) (b : Fin 11) (o o' : ℕ) (inb inb' inb'') (ho : o = b.val * 256) (ho' : o' = 2816 + b.val * 256) :
    part h (View.ld X (Rect.unit (s := S1x1024x5632) ![0, 0, o] S1x1024x256.size inb))
        (View.ld X (Rect.unit (s := S1x1024x5632) ![0, 0, o'] S1x1024x256.size inb'))
        (View.ld Y (Rect.unit (s := S1x2816x1024) ![0, o, 0] S1x256x1024.size inb'')) r j
      = tile (fun a => h (ix2 r a)) (fun a f => X (ix3 0 a f)) (fun f j => Y (ix3 0 f j)) j b :=
  Cert.Kernel2Ideal.Ffn.part_ld h X Y r j b o o' inb inb' inb'' ho ho'

section

variable (i : grid0.Coords) (x : Vec Ideal S512x1024 .f32) (n : Vec Ideal S1x1x1024 .f32) (X : Vec Ideal S1x1024x5632 .bf16)
  (Y : Vec Ideal S1x2816x1024 .bf16) (p q : Vec Ideal S1x512x256 .f32) (n' : Vec Ideal S1x1x1024 .f32)
  (wp : Vec Ideal S1x256x1024 .bf16) (wg : Vec Ideal S1x1024x1024 .bf16) (n'' : Vec Ideal S1x1x1024 .f32)
  (wq : Vec Ideal S1x1024x1536 .bf16) (r : Fin 512)

/-- The first result's row in the point's blocks: the feed-forward network's step on the updated row. -/
def step (x : Fin 1024 → EReal) (p : Fin 256 → EReal) (n n' : Fin 1024 → EReal) (w : Fin 1024 → Fin 5632 → EReal)
    (d : Fin 2816 → Fin 1024 → EReal) (wp : Fin 256 → Fin 1024 → EReal) (wg : Fin 1024 → Fin 1024 → EReal) (j : Fin 1024) : EReal :=
  ple x p n' wp wg j + Ideal.ofBits FTy.f32 0x3F000000#32 * ffn (rms (ple x p n' wp wg) n) w d j

def stepB : Fin 1024 → EReal :=
  step (fun a => x (ix2 r a)) (pick r i p q) (fun a => n (ix3 0 0 a)) (fun a => n' (ix3 0 0 a)) (fun a f => X (ix3 0 a f))
    (fun f j => Y (ix3 0 f j)) (fun a j => wp (ix3 0 a j)) (fun a j => wg (ix3 0 a j))

theorem y_at (j : Fin 1024) :
    k0_pay1 (k0_pay17 i x n X Y p q n' wp wg n'' wq) (k0_pay19 i x n X Y p q n' wp wg n'' wq)
        (k0_pay20 i x n X Y p q n' wp wg n'' wq) (k0_pay21 i x n X Y p q n' wp wg n'' wq) (View.ld Y r0_37) (ix2 r j)
      = stepB i x n X Y p q n' wp wg r j := by
  have z2 : ∀ a : Fin 2, (![0, 0] : Fin 2 → ℕ) a = 0 := by decide
  have z3 : ∀ a : Fin 3, (![0, 0, 0] : Fin 3 → ℕ) a = 0 := by decide
  have e0 : View.ld x r0_0 = x := View.ld_unit_lit _ x z2
  have e1 : View.ld n r0_2 = n := View.ld_unit_lit _ n z3
  have e2 : View.ld p r0_1 = p := View.ld_unit_lit _ p z3
  have e3 : View.ld q r0_1 = q := View.ld_unit_lit _ q z3
  have e4 : View.ld n' r0_2 = n' := View.ld_unit_lit _ n' z3
  have e5 : View.ld wg r0_3 = wg := View.ld_unit_lit _ wg z3
  have e6 : View.ld wp r0_4 = wp := View.ld_unit_lit _ wp z3
  unfold k0_pay19 k0_pay20 k0_pay21 k0_pay18 k0_pay17 k0_pay16
  rw [e0, e1, e2, e3, e4, e5, e6, pay1_at, pay13_at, pay11_at, pay10_at, pay8_at, pay6_at, pay4_add, pay4_at]
  have eh : (fun a => (k0_pay5 x (k0_pay3 i x p q n' wg wp) n : S512x1024.Idx → EReal) (ix2 r a))
      = rms (ple (fun a => x (ix2 r a)) (pick r i p q) (fun a => n' (ix3 0 0 a)) (fun a j => wp (ix3 0 a j)) (fun a j => wg (ix3 0 a j)))
        (fun a => n (ix3 0 0 a)) := by
    funext a
    rw [pay5_at]
    exact congrArg (fun z => rms z (fun a => n (ix3 0 0 a)) a) (funext fun k => pay4_at x n' r k i p q wg wp)
  rw [part_ld _ X Y r j 0 0 2816 _ _ _ rfl rfl, part_ld _ X Y r j 1 256 3072 _ _ _ rfl rfl,
    part_ld _ X Y r j 2 512 3328 _ _ _ rfl rfl, part_ld _ X Y r j 3 768 3584 _ _ _ rfl rfl,
    part_ld _ X Y r j 4 1024 3840 _ _ _ rfl rfl, part_ld _ X Y r j 5 1280 4096 _ _ _ rfl rfl,
    part_ld _ X Y r j 6 1536 4352 _ _ _ rfl rfl, part_ld _ X Y r j 7 1792 4608 _ _ _ rfl rfl,
    part_ld _ X Y r j 8 2048 4864 _ _ _ rfl rfl, part_ld _ X Y r j 9 2304 5120 _ _ _ rfl rfl,
    part_ld _ X Y r j 10 2560 5376 _ _ _ rfl rfl, eh]
  unfold stepB step
  rw [ffn_tiles]

/-- A point's block of the first result. -/
theorem out11_at (j : Fin 1024) :
    (out0_11 i x n X Y p q n' wp wg n'' wq : S512x1024.Idx → EReal) (ix2 r j) = stepB i x n X Y p q n' wp wg r j := by
  have z2 : ∀ a : Fin 2, (![0, 0] : Fin 2 → ℕ) a = 0 := by decide
  unfold out0_11
  rw [View.canon_cons_unit_lit _ _ _ z2, y_at]

/-- A point's block of the second result: the projection of the first one's rows. -/
theorem out12_at (j : Fin 1536) :
    (out0_12 i x n X Y p q n' wp wg n'' wq : S512x1536.Idx → EReal) (ix2 r j)
      = ∑ k, rms (stepB i x n X Y p q n' wp wg r) (fun k => n'' (ix3 0 0 k)) k * wq (ix3 0 k j) := by
  have z2 : ∀ a : Fin 2, (![0, 0] : Fin 2 → ℕ) a = 0 := by decide
  have z3 : ∀ a : Fin 3, (![0, 0, 0] : Fin 3 → ℕ) a = 0 := by decide
  have e0 : View.ld n'' r0_2 = n'' := View.ld_unit_lit _ n'' z3
  have e1 : View.ld wq r0_38 = wq := View.ld_unit_lit _ wq z3
  unfold out0_12
  rw [View.canon_cons_unit_lit _ _ _ z2, pay2_at, e0, e1]
  have ey := funext fun j => y_at i x n X Y p q n' wp wg n'' wq r j
  rw [ey]

end

/-! ## The blocks in the arguments' elements, and the results -/

variable (m : (ℓ : Loc nD τ sig) → Buf (Elt Ideal) ℓ) (c : Dev nD)

/-- The arguments. -/
def aX : Vec Ideal S17408x1024 .f32 := m ((c : Thread nD τ).loc main_arg0)
def aP : Vec Ideal S4x4x4096x256 .f32 := m ((c : Thread nD τ).loc main_arg1)
def aQ : Vec Ideal S4x128x8x256 .f32 := m ((c : Thread nD τ).loc main_arg2)
def aN : Vec Ideal S4x1024 .f32 := m ((c : Thread nD τ).loc main_arg3)
def aGu : Vec Ideal S4x1024x5632 .f32 := m ((c : Thread nD τ).loc main_arg4)
def aD : Vec Ideal S4x2816x1024 .f32 := m ((c : Thread nD τ).loc main_arg5)
def aNp : Vec Ideal S4x1024 .f32 := m ((c : Thread nD τ).loc main_arg6)
def aWp : Vec Ideal S4x256x1024 .f32 := m ((c : Thread nD τ).loc main_arg7)
def aWg : Vec Ideal S4x1024x1024 .f32 := m ((c : Thread nD τ).loc main_arg8)
def aNm : Vec Ideal S4x1024 .f32 := m ((c : Thread nD τ).loc main_arg9)
def aWq : Vec Ideal S2x1024x1536 .f32 := m ((c : Thread nD τ).loc main_arg10)

/-- One row of the layer's per-layer inputs: a prompt's row, or a sample's. -/
def prow (p : Vec Ideal S4x4x4096x256 .f32) (q : Vec Ideal S4x128x8x256 .f32) (i : Fin 17408) (a : Fin 256) : EReal :=
  if h : i.val < 16384 then p (ix4 2 ⟨i.val / 4096, by omega⟩ ⟨i.val % 4096, by omega⟩ a)
  else q (ix4 2 ⟨(i.val - 16384) / 8, by omega⟩ ⟨(i.val - 16384) % 8, by omega⟩ a)

/-- A row of the first result, from the arguments. -/
def row (x : Vec Ideal S17408x1024 .f32) (p : Vec Ideal S4x4x4096x256 .f32) (q : Vec Ideal S4x128x8x256 .f32)
    (n : Vec Ideal S4x1024 .f32) (w : Vec Ideal S4x1024x5632 .f32) (d : Vec Ideal S4x2816x1024 .f32) (n' : Vec Ideal S4x1024 .f32)
    (wp : Vec Ideal S4x256x1024 .f32) (wg : Vec Ideal S4x1024x1024 .f32) (i : Fin 17408) : Fin 1024 → EReal :=
  step (fun a => x (ix2 i a)) (prow p q i) (fun a => n (ix2 3 a)) (fun a => n' (ix2 2 a)) (fun a f => w (ix3 3 a f))
    (fun f j => d (ix3 3 f j)) (fun a j => wp (ix3 2 a j)) (fun a j => wg (ix3 2 a j))

/-- A row of the second result: the projection of the first one's row. -/
def qrow (y : Fin 1024 → EReal) (n : Vec Ideal S4x1024 .f32) (w : Vec Ideal S2x1024x1536 .f32) (j : Fin 1536) : EReal :=
  ∑ k, rms y (fun k => n (ix2 3 k)) k * w (ix3 1 k j)

theorem v0_at (l : Fin 4) (i : Fin 16384) (a : Fin 256) :
    (V m c main_v0 : S4x16384x256.Idx → EReal) (ix3 l i a)
      = aP m c (ix4 l ⟨i.val / 4096, by omega⟩ ⟨i.val % 4096, by omega⟩ a) := by
  entry_read
  pointwise
  rfl

theorem v1_at (l : Fin 4) (i : Fin 1024) (a : Fin 256) :
    (V m c main_v1 : S4x1024x256.Idx → EReal) (ix3 l i a)
      = aQ m c (ix4 l ⟨i.val / 8, by omega⟩ ⟨i.val % 8, by omega⟩ a) := by
  entry_read
  pointwise
  rfl

theorem v2_at (l : Fin 4) (j : Fin 1024) :
    (V m c main_v2 : S4x1x1024.Idx → EReal) (ix3 l 0 j) = aN m c (ix2 l j) := by
  entry_read
  pointwise
  rfl

theorem v3_at (l : Fin 4) (j : Fin 1024) :
    (V m c main_v3 : S4x1x1024.Idx → EReal) (ix3 l 0 j) = aNm m c (ix2 l j) := by
  entry_read
  pointwise
  rfl

theorem v4_at (l : Fin 4) (j : Fin 1024) :
    (V m c main_v4 : S4x1x1024.Idx → EReal) (ix3 l 0 j) = aNp m c (ix2 l j) := by
  entry_read
  pointwise
  rfl

theorem v5_at (l : Fin 4) (a : Fin 1024) (j : Fin 5632) :
    (V m c main_v5 : S4x1024x5632.Idx → EReal) (ix3 l a j) = aGu m c (ix3 l a j) := by
  entry_read
  pointwise
  rfl

theorem v6_at (l : Fin 4) (a : Fin 2816) (j : Fin 1024) :
    (V m c main_v6 : S4x2816x1024.Idx → EReal) (ix3 l a j) = aD m c (ix3 l a j) := by
  entry_read
  pointwise
  rfl

theorem v7_at (l : Fin 4) (a : Fin 256) (j : Fin 1024) :
    (V m c main_v7 : S4x256x1024.Idx → EReal) (ix3 l a j) = aWp m c (ix3 l a j) := by
  entry_read
  pointwise
  rfl

theorem v8_at (l : Fin 4) (a : Fin 1024) (j : Fin 1024) :
    (V m c main_v8 : S4x1024x1024.Idx → EReal) (ix3 l a j) = aWg m c (ix3 l a j) := by
  entry_read
  pointwise
  rfl

theorem v9_at (l : Fin 2) (a : Fin 1024) (j : Fin 1536) :
    (V m c main_v9 : S2x1024x1536.Idx → EReal) (ix3 l a j) = aWq m c (ix3 l a j) := by
  entry_read
  pointwise
  rfl

/-- The blocks' places, by the point. -/
theorem place0 : ∀ t : Fin cfg0.N, win0_0.index t = ![t.val, 0] := (by decide +kernel : ∀ t : Fin grid0.N, _)
theorem place1 : ∀ t : Fin cfg0.N, win0_1.index t = ![3, 0, 0] := (by decide +kernel : ∀ t : Fin grid0.N, _)
theorem place2 : ∀ t : Fin cfg0.N, win0_2.index t = ![3, 0, 0] := (by decide +kernel : ∀ t : Fin grid0.N, _)
theorem place3 : ∀ t : Fin cfg0.N, win0_3.index t = ![3, 0, 0] := (by decide +kernel : ∀ t : Fin grid0.N, _)
theorem place4 : ∀ t : Fin cfg0.N, win0_4.index t = ![2, min t.val 31, 0] := (by decide +kernel : ∀ t : Fin grid0.N, _)
theorem place5 : ∀ t : Fin cfg0.N, win0_5.index t = ![2, t.val - 32, 0] := (by decide +kernel : ∀ t : Fin grid0.N, _)
theorem place6 : ∀ t : Fin cfg0.N, win0_6.index t = ![2, 0, 0] := (by decide +kernel : ∀ t : Fin grid0.N, _)
theorem place7 : ∀ t : Fin cfg0.N, win0_7.index t = ![2, 0, 0] := (by decide +kernel : ∀ t : Fin grid0.N, _)
theorem place8 : ∀ t : Fin cfg0.N, win0_8.index t = ![2, 0, 0] := (by decide +kernel : ∀ t : Fin grid0.N, _)
theorem place9 : ∀ t : Fin cfg0.N, win0_9.index t = ![3, 0, 0] := (by decide +kernel : ∀ t : Fin grid0.N, _)
theorem place10 : ∀ t : Fin cfg0.N, win0_10.index t = ![1, 0, 0] := (by decide +kernel : ∀ t : Fin grid0.N, _)
theorem place11 : ∀ t : Fin cfg0.N, win0_11.index t = ![t.val, 0] := (by decide +kernel : ∀ t : Fin grid0.N, _)
theorem place12 : ∀ t : Fin cfg0.N, win0_12.index t = ![t.val, 0] := (by decide +kernel : ∀ t : Fin grid0.N, _)

theorem flushes11 : ∀ t : Fin cfg0.N, (cfg0.win 11).flush t = true := (by decide +kernel : ∀ t : Fin grid0.N, _)
theorem flushes12 : ∀ t : Fin cfg0.N, (cfg0.win 12).flush t = true := (by decide +kernel : ∀ t : Fin grid0.N, _)

/-- The body's comparison, by the point. -/
theorem first : ∀ t : Fin cfg0.N, IntOp.cmpi CmpIPredicate.slt (IntOp.addi (0#32) (BitVec.ofNat 32 ↑(grid0.coords t 0))) 32#32
    = if t.val < 32 then 1#1 else 0#1 := (by decide +kernel : ∀ t : Fin grid0.N, _)

theorem b0_at (t : Fin cfg0.N) (ht : t.val < 34) (r : Fin 512) (j : Fin 1024) :
    (iblk m c 0 t : S512x1024.Idx → EReal) (ix2 r j) = aX m c (ix2 ⟨t.val * 512 + r.val, by omega⟩ j) := by
  blk_simp [iblk]
  refine (congrArg (V m c main_arg0) (funext fun a => Fin.ext ?_)).trans
    (congrFun (V_main_arg0 m c) (ix2 ⟨t.val * 512 + r.val, by omega⟩ j))
  show win0_0.index t a * S512x1024.size a + 1 * ((ix2 r j : S512x1024.Idx) a).val = _
  rw [place0 t]
  fin_cases a
  · show t.val * 512 + 1 * r.val = t.val * 512 + r.val
    omega
  · show 0 * 1024 + 1 * j.val = j.val
    omega

theorem b4_at (t : Fin cfg0.N) (ht : t.val < 32) (r : Fin 512) (j : Fin 256) :
    (iblk m c 4 t : S1x512x256.Idx → EReal) (ix3 0 r j)
      = aP m c (ix4 2 ⟨(t.val * 512 + r.val) / 4096, by omega⟩ ⟨(t.val * 512 + r.val) % 4096, by omega⟩ j) := by
  refine Eq.trans ?_ (v0_at m c 2 ⟨t.val * 512 + r.val, by omega⟩ j)
  blk_simp [iblk]
  refine congrArg (V m c main_v0) (funext fun a => Fin.ext ?_)
  show win0_4.index t a * S1x512x256.size a + 1 * ((ix3 0 r j : S1x512x256.Idx) a).val = _
  rw [place4 t]
  fin_cases a
  · show 2 * 1 + 1 * 0 = 2
    omega
  · show min t.val 31 * 512 + 1 * r.val = t.val * 512 + r.val
    omega
  · show 0 * 256 + 1 * j.val = j.val
    omega

theorem b5_at (t : Fin cfg0.N) (ht : t.val < 34) (h : 32 ≤ t.val) (r : Fin 512) (j : Fin 256) :
    (iblk m c 5 t : S1x512x256.Idx → EReal) (ix3 0 r j)
      = aQ m c (ix4 2 ⟨(t.val * 512 + r.val - 16384) / 8, by omega⟩ ⟨(t.val * 512 + r.val - 16384) % 8, by omega⟩ j) := by
  refine Eq.trans ?_ (v1_at m c 2 ⟨t.val * 512 + r.val - 16384, by omega⟩ j)
  blk_simp [iblk]
  refine congrArg (V m c main_v1) (funext fun a => Fin.ext ?_)
  show win0_5.index t a * S1x512x256.size a + 1 * ((ix3 0 r j : S1x512x256.Idx) a).val = _
  rw [place5 t]
  fin_cases a
  · show 2 * 1 + 1 * 0 = 2
    omega
  · show (t.val - 32) * 512 + 1 * r.val = t.val * 512 + r.val - 16384
    omega
  · show 0 * 256 + 1 * j.val = j.val
    omega

/-- The chosen row of per-layer inputs. -/
theorem pick_at (t : Fin cfg0.N) (ht : t.val < 34) (r : Fin 512) :
    pick r (grid0.coords t) (iblk m c 4 t) (iblk m c 5 t) = prow (aP m c) (aQ m c) ⟨t.val * 512 + r.val, by omega⟩ := by
  funext a
  unfold pick prow
  rw [first t]
  by_cases h : t.val < 32
  · rw [if_pos h, dif_pos (by show t.val * 512 + r.val < 16384; omega)]
    exact b4_at m c t h r a
  · rw [if_neg h, dif_neg (by show ¬ t.val * 512 + r.val < 16384; omega)]
    exact b5_at m c t ht (by omega) r a

theorem b1_at (t : Fin cfg0.N) (j : Fin 1024) :
    (iblk m c 1 t : S1x1x1024.Idx → EReal) (ix3 0 0 j) = aN m c (ix2 3 j) := by
  refine Eq.trans ?_ (v2_at m c 3 j)
  blk_simp [iblk]
  refine congrArg (V m c main_v2) (funext fun a => Fin.ext ?_)
  show win0_1.index t a * S1x1x1024.size a + 1 * ((ix3 0 0 j : S1x1x1024.Idx) a).val = _
  rw [place1 t]
  fin_cases a
  · show 3 * 1 + 1 * 0 = 3
    omega
  · show 0 * 1 + 1 * 0 = 0
    omega
  · show 0 * 1024 + 1 * j.val = j.val
    omega

theorem b6_at (t : Fin cfg0.N) (j : Fin 1024) :
    (iblk m c 6 t : S1x1x1024.Idx → EReal) (ix3 0 0 j) = aNp m c (ix2 2 j) := by
  refine Eq.trans ?_ (v4_at m c 2 j)
  blk_simp [iblk]
  refine congrArg (V m c main_v4) (funext fun a => Fin.ext ?_)
  show win0_6.index t a * S1x1x1024.size a + 1 * ((ix3 0 0 j : S1x1x1024.Idx) a).val = _
  rw [place6 t]
  fin_cases a
  · show 2 * 1 + 1 * 0 = 2
    omega
  · show 0 * 1 + 1 * 0 = 0
    omega
  · show 0 * 1024 + 1 * j.val = j.val
    omega

theorem b9_at (t : Fin cfg0.N) (j : Fin 1024) :
    (iblk m c 9 t : S1x1x1024.Idx → EReal) (ix3 0 0 j) = aNm m c (ix2 3 j) := by
  refine Eq.trans ?_ (v3_at m c 3 j)
  blk_simp [iblk]
  refine congrArg (V m c main_v3) (funext fun a => Fin.ext ?_)
  show win0_9.index t a * S1x1x1024.size a + 1 * ((ix3 0 0 j : S1x1x1024.Idx) a).val = _
  rw [place9 t]
  fin_cases a
  · show 3 * 1 + 1 * 0 = 3
    omega
  · show 0 * 1 + 1 * 0 = 0
    omega
  · show 0 * 1024 + 1 * j.val = j.val
    omega

theorem b2_at (t : Fin cfg0.N) (k : Fin 1024) (j : Fin 5632) :
    (iblk m c 2 t : S1x1024x5632.Idx → EReal) (ix3 0 k j) = aGu m c (ix3 3 k j) := by
  refine Eq.trans ?_ (v5_at m c 3 k j)
  blk_simp [iblk]
  refine congrArg (V m c main_v5) (funext fun a => Fin.ext ?_)
  show win0_2.index t a * S1x1024x5632.size a + 1 * ((ix3 0 k j : S1x1024x5632.Idx) a).val = _
  rw [place2 t]
  fin_cases a
  · show 3 * 1 + 1 * 0 = 3
    omega
  · show 0 * 1024 + 1 * k.val = k.val
    omega
  · show 0 * 5632 + 1 * j.val = j.val
    omega

theorem b3_at (t : Fin cfg0.N) (k : Fin 2816) (j : Fin 1024) :
    (iblk m c 3 t : S1x2816x1024.Idx → EReal) (ix3 0 k j) = aD m c (ix3 3 k j) := by
  refine Eq.trans ?_ (v6_at m c 3 k j)
  blk_simp [iblk]
  refine congrArg (V m c main_v6) (funext fun a => Fin.ext ?_)
  show win0_3.index t a * S1x2816x1024.size a + 1 * ((ix3 0 k j : S1x2816x1024.Idx) a).val = _
  rw [place3 t]
  fin_cases a
  · show 3 * 1 + 1 * 0 = 3
    omega
  · show 0 * 2816 + 1 * k.val = k.val
    omega
  · show 0 * 1024 + 1 * j.val = j.val
    omega

theorem b7_at (t : Fin cfg0.N) (k : Fin 256) (j : Fin 1024) :
    (iblk m c 7 t : S1x256x1024.Idx → EReal) (ix3 0 k j) = aWp m c (ix3 2 k j) := by
  refine Eq.trans ?_ (v7_at m c 2 k j)
  blk_simp [iblk]
  refine congrArg (V m c main_v7) (funext fun a => Fin.ext ?_)
  show win0_7.index t a * S1x256x1024.size a + 1 * ((ix3 0 k j : S1x256x1024.Idx) a).val = _
  rw [place7 t]
  fin_cases a
  · show 2 * 1 + 1 * 0 = 2
    omega
  · show 0 * 256 + 1 * k.val = k.val
    omega
  · show 0 * 1024 + 1 * j.val = j.val
    omega

theorem b8_at (t : Fin cfg0.N) (k : Fin 1024) (j : Fin 1024) :
    (iblk m c 8 t : S1x1024x1024.Idx → EReal) (ix3 0 k j) = aWg m c (ix3 2 k j) := by
  refine Eq.trans ?_ (v8_at m c 2 k j)
  blk_simp [iblk]
  refine congrArg (V m c main_v8) (funext fun a => Fin.ext ?_)
  show win0_8.index t a * S1x1024x1024.size a + 1 * ((ix3 0 k j : S1x1024x1024.Idx) a).val = _
  rw [place8 t]
  fin_cases a
  · show 2 * 1 + 1 * 0 = 2
    omega
  · show 0 * 1024 + 1 * k.val = k.val
    omega
  · show 0 * 1024 + 1 * j.val = j.val
    omega

theorem b10_at (t : Fin cfg0.N) (k : Fin 1024) (j : Fin 1536) :
    (iblk m c 10 t : S1x1024x1536.Idx → EReal) (ix3 0 k j) = aWq m c (ix3 1 k j) := by
  refine Eq.trans ?_ (v9_at m c 1 k j)
  blk_simp [iblk]
  refine congrArg (V m c main_v9) (funext fun a => Fin.ext ?_)
  show win0_10.index t a * S1x1024x1536.size a + 1 * ((ix3 0 k j : S1x1024x1536.Idx) a).val = _
  rw [place10 t]
  fin_cases a
  · show 1 * 1 + 1 * 0 = 1
    omega
  · show 0 * 1024 + 1 * k.val = k.val
    omega
  · show 0 * 1536 + 1 * j.val = j.val
    omega

/-- A point's rows of the first result, in the arguments' elements. -/
theorem stepB_at (t : Fin cfg0.N) (ht : t.val < 34) (r : Fin 512) :
    stepB (grid0.coords t) (iblk m c 0 t) (iblk m c 1 t) (iblk m c 2 t) (iblk m c 3 t) (iblk m c 4 t) (iblk m c 5 t) (iblk m c 6 t)
        (iblk m c 7 t) (iblk m c 8 t) r
      = row (aX m c) (aP m c) (aQ m c) (aN m c) (aGu m c) (aD m c) (aNp m c) (aWp m c) (aWg m c)
        ⟨t.val * 512 + r.val, by omega⟩ := by
  have e0 := funext fun a => b0_at m c t ht r a
  have e1 := funext fun a => b1_at m c t a
  have e2 := funext fun k => funext fun a => b2_at m c t k a
  have e3 := funext fun k => funext fun a => b3_at m c t k a
  have e6 := funext fun a => b6_at m c t a
  have e7 := funext fun k => funext fun a => b7_at m c t k a
  have e8 := funext fun k => funext fun a => b8_at m c t k a
  unfold stepB row
  rw [e0, e1, e2, e3, e6, e7, e8, pick_at m c t ht r]

theorem blk11_at (t : Fin cfg0.N) (ht : t.val < 34) (r : Fin 512) (j : Fin 1024) :
    (out0_11 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) : S512x1024.Idx → EReal) (ix2 r j)
      = row (aX m c) (aP m c) (aQ m c) (aN m c) (aGu m c) (aD m c) (aNp m c) (aWp m c) (aWg m c)
        ⟨t.val * 512 + r.val, by omega⟩ j :=
  (out11_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans (congrFun (stepB_at m c t ht r) j)

theorem blk12_at (t : Fin cfg0.N) (ht : t.val < 34) (r : Fin 512) (j : Fin 1536) :
    (out0_12 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) : S512x1536.Idx → EReal) (ix2 r j)
      = qrow (row (aX m c) (aP m c) (aQ m c) (aN m c) (aGu m c) (aD m c) (aNp m c) (aWp m c) (aWg m c)
        ⟨t.val * 512 + r.val, by omega⟩) (aNm m c) (aWq m c) j := by
  refine (out12_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  have e9 := funext fun a => b9_at m c t a
  have e10 := funext fun k => b10_at m c t k j
  rw [stepB_at m c t ht r, e9]
  unfold qrow
  exact Finset.sum_congr rfl fun k _ => congrArg _ (congrFun e10 k)

/-- Where a point's element lies. -/
theorem emb11 (t : Fin cfg0.N) (y : S512x1024.Idx) (a : Fin 2) :
    ((((cfg0.win 11).blk t).view.emb y : S17408x1024.Idx) a).val = (![t.val * 512, 0] : Fin 2 → ℕ) a + (y a).val := by
  show win0_11.index t a * S512x1024.size a + 1 * (y a).val = _
  rw [place11 t]
  fin_cases a
  · show t.val * 512 + 1 * (y 0).val = t.val * 512 + (y 0).val
    omega
  · show 0 * 1024 + 1 * (y 1).val = 0 + (y 1).val
    omega

/-- The first result's rows. -/
theorem value11_at (i : Fin 17408) (j : Fin 1024) :
    ((dats m 0 c).arrAt 11 cfg0.N : S17408x1024.Idx → EReal) (ix2 i j)
      = row (aX m c) (aP m c) (aQ m c) (aN m c) (aGu m c) (aD m c) (aNp m c) (aWp m c) (aWg m c) i j := by
  have ht : i.val / 512 < 34 := by omega
  have h := congrFun ((Value.blocks11 m c ⟨i.val / 512, ht⟩ (flushes11 _)).trans (Value.flushed11 m c ⟨i.val / 512, ht⟩))
    (ix2 ⟨i.val % 512, by omega⟩ j)
  refine Eq.trans (congrArg ((dats m 0 c).arrAt 11 cfg0.N) (funext fun a => Fin.ext ?_))
    (h.trans ((blk11_at m c ⟨i.val / 512, ht⟩ ht ⟨i.val % 512, by omega⟩ j).trans ?_))
  · rw [emb11]
    fin_cases a
    · show i.val = i.val / 512 * 512 + i.val % 512
      omega
    · show j.val = 0 + j.val
      omega
  · refine congrArg (fun i => row (aX m c) (aP m c) (aQ m c) (aN m c) (aGu m c) (aD m c) (aNp m c) (aWp m c) (aWg m c) i j) (Fin.ext ?_)
    show i.val / 512 * 512 + i.val % 512 = i.val
    omega

/-- Where a point's element lies. -/
theorem emb12 (t : Fin cfg0.N) (y : S512x1536.Idx) (a : Fin 2) :
    ((((cfg0.win 12).blk t).view.emb y : S17408x1536.Idx) a).val = (![t.val * 512, 0] : Fin 2 → ℕ) a + (y a).val := by
  show win0_12.index t a * S512x1536.size a + 1 * (y a).val = _
  rw [place12 t]
  fin_cases a
  · show t.val * 512 + 1 * (y 0).val = t.val * 512 + (y 0).val
    omega
  · show 0 * 1536 + 1 * (y 1).val = 0 + (y 1).val
    omega

/-- The second result's rows. -/
theorem value12_at (i : Fin 17408) (j : Fin 1536) :
    ((dats m 0 c).arrAt 12 cfg0.N : S17408x1536.Idx → EReal) (ix2 i j)
      = qrow (row (aX m c) (aP m c) (aQ m c) (aN m c) (aGu m c) (aD m c) (aNp m c) (aWp m c) (aWg m c) i) (aNm m c) (aWq m c) j := by
  have ht : i.val / 512 < 34 := by omega
  have h := congrFun ((Value.blocks12 m c ⟨i.val / 512, ht⟩ (flushes12 _)).trans (Value.flushed12 m c ⟨i.val / 512, ht⟩))
    (ix2 ⟨i.val % 512, by omega⟩ j)
  refine Eq.trans (congrArg ((dats m 0 c).arrAt 12 cfg0.N) (funext fun a => Fin.ext ?_))
    (h.trans ((blk12_at m c ⟨i.val / 512, ht⟩ ht ⟨i.val % 512, by omega⟩ j).trans ?_))
  · rw [emb12]
    fin_cases a
    · show i.val = i.val / 512 * 512 + i.val % 512
      omega
    · show j.val = 0 + j.val
      omega
  · refine congrArg (fun i => qrow (row (aX m c) (aP m c) (aQ m c) (aN m c) (aGu m c) (aD m c) (aNp m c) (aWp m c) (aWg m c) i) (aNm m c) (aWq m c) j) (Fin.ext ?_)
    show i.val / 512 * 512 + i.val % 512 = i.val
    omega

end Cert.Kernel5Ideal.Ffn

namespace Cert.Reference5Ideal.Ffn

open Idealize.ShloMosaic Idealize.ShloMosaic.TcCoe
open Cert.Reference5Ideal Cert.Reference5Ideal.Gen Cert.Reference5Ideal.Value
open Cert.Kernel5Ideal.Ffn (prow row qrow)

/-- The two inputs' rows laid one after the other. -/
def cat (p : Vec Ideal S16384x256 .f32) (q : Vec Ideal S1024x256 .f32) : Vec Ideal S17408x256 .f32 :=
  concatenate S17408x256 0 [⟨S16384x256, p⟩, ⟨S1024x256, q⟩] concatenates_S16384x256_S1024x256_S17408x256_d0

/-- The prompt's rows of the layer, and the samples'. -/
def pp (p : Vec Ideal S4x4x4096x256 .f32) : Vec Ideal S16384x256 .f32 :=
  shapeCast _ (shapeCast _ (extractStridedSlice S1x4x4096x256 ![2, 0, 0, 0] p slices_S4x4x4096x256_S1x4x4096x256_2_0_0_0)
    shapeCasts_S1x4x4096x256_S4x4096x256) shapeCasts_S4x4096x256_S16384x256

def ps (q : Vec Ideal S4x128x8x256 .f32) : Vec Ideal S1024x256 .f32 :=
  shapeCast _ (shapeCast _ (extractStridedSlice S1x128x8x256 ![2, 0, 0, 0] q slices_S4x128x8x256_S1x128x8x256_2_0_0_0)
    shapeCasts_S1x128x8x256_S128x8x256) shapeCasts_S128x8x256_S1024x256

theorem pp_at (p : Vec Ideal S4x4x4096x256 .f32) (i : Fin 16384) (a : Fin 256) :
    pp p (ix2 i a) = p (ix4 2 ⟨i.val / 4096, by omega⟩ ⟨i.val % 4096, by omega⟩ a) := by
  unfold pp
  pointwise

theorem ps_at (q : Vec Ideal S4x128x8x256 .f32) (i : Fin 1024) (a : Fin 256) :
    ps q (ix2 i a) = q (ix4 2 ⟨i.val / 8, by omega⟩ ⟨i.val % 8, by omega⟩ a) := by
  unfold ps
  pointwise

theorem cat_at (p : Vec Ideal S4x4x4096x256 .f32) (q : Vec Ideal S4x128x8x256 .f32) (i : Fin 17408) (a : Fin 256) :
    cat (pp p) (ps q) (ix2 i a) = prow p q i a := by
  unfold cat prow
  by_cases h : i.val < 16384
  · rw [dif_pos h, concatenate_pair_apply_left (t := S17408x256) (s₁ := S16384x256) (s₂ := S1024x256) 0 _ _ _ (ix2 i a) rfl
      (ix2 ⟨i.val, h⟩ a) (fun b => by fin_cases b <;> rfl)]
    exact pp_at p ⟨i.val, h⟩ a
  · rw [dif_neg h, concatenate_pair_apply_right (t := S17408x256) (s₁ := S16384x256) (s₂ := S1024x256) 0 _ _ _ (ix2 i a) rfl rfl
      (ix2 ⟨i.val - 16384, by omega⟩ a) (fun b hb => by
        fin_cases b
        · exact absurd rfl hb
        · rfl) (by show i.val - 16384 + 16384 = i.val; omega)]
    exact ps_at q ⟨i.val - 16384, by omega⟩ a

/-- The reference's laid-out rows are these. -/
theorem cat_eq (p : Vec Ideal S4x4x4096x256 .f32) (q : Vec Ideal S4x128x8x256 .f32) :
    concatenate S17408x256 0 [⟨S16384x256, shapeCast _ (shapeCast _ (extractStridedSlice S1x4x4096x256 ![2, 0, 0, 0] p
        slices_S4x4x4096x256_S1x4x4096x256_2_0_0_0) shapeCasts_S1x4x4096x256_S4x4096x256) shapeCasts_S4x4096x256_S16384x256⟩,
      ⟨S1024x256, shapeCast _ (shapeCast _ (extractStridedSlice S1x128x8x256 ![2, 0, 0, 0] q
        slices_S4x128x8x256_S1x128x8x256_2_0_0_0) shapeCasts_S1x128x8x256_S128x8x256) shapeCasts_S128x8x256_S1024x256⟩]
      concatenates_S16384x256_S1024x256_S17408x256_d0 = cat (pp p) (ps q) := rfl

variable (m : (ℓ : Loc nD τ sig) → Buf (Elt Ideal) ℓ) (c : Dev nD)

/-- The reference's rows. -/
theorem value0_at (i : Fin 17408) (j : Fin 1024) :
    (res_out0 m c : S17408x1024.Idx → EReal) (ix2 i j)
      = row (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) i j := by
  unfold res_out0 res_main_v63
  rw [cat_eq]
  pointwise
  simp only [cat_at]
  rfl

theorem value1_at (i : Fin 17408) (j : Fin 1536) :
    (res_out1 m c : S17408x1536.Idx → EReal) (ix2 i j)
      = qrow (row (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) i) (m ((c : Thread nD τ).loc main_arg9)) (m ((c : Thread nD τ).loc main_arg10)) j := by
  unfold res_out1 res_main_v81
  rw [cat_eq]
  pointwise
  simp only [cat_at]
  rfl

end Cert.Reference5Ideal.Ffn

end
-- ==== Proof.Mamba6.lean ====
/- The state-space layer's input projection, cut into its three results: kernel and reference, read row by row. -/
module

public import proofs.«01_k».proof.Proof.Rows
public import proofs.«01_k».proof.Proof.Gen.Kernel6Ideal.Frame
public import proofs.«01_k».proof.Proof.Gen.Reference6Ideal.Run
public import Idealize.ShloMosaic.Lib.Claim
public import Idealize.ShloMosaic.Lib.Pipeline.Value
public import Idealize.ShloMosaic.Lib.Pipeline.ValueKit

@[expose] public section

set_option maxRecDepth 16384

noncomputable section

namespace Cert.Kernel6Ideal.Mamba

open Idealize.ShloMosaic Idealize.ShloMosaic.TcCoe
open Cert.Kernel6Ideal Cert.Kernel6Ideal.Gen
open Cert.Rows

/-! ## The body's values: the normalised rows times three groups of columns -/

section

variable (x : Vec Ideal S512x1024 .f32) (n : Vec Ideal S1x1x1024 .f32) (W : Vec Ideal S1024x5248 .bf16) (r : Fin 512)

/-- A normalised row times one column. -/
def col (x n w : Fin 1024 → EReal) : EReal := ∑ k, rms x n k * w k

theorem pay1_at (j : Fin 1024) : k0_pay1 x n (ix2 r j) = rms (fun a => x (ix2 r a)) (fun a => n (ix3 0 0 a)) j := by
  unfold k0_pay1
  pointwise
  rfl

theorem pay2_at (w : Vec Ideal S1024x2048 .bf16) (j : Fin 2048) :
    k0_pay2 x n w (ix2 r j) = col (fun a => x (ix2 r a)) (fun a => n (ix3 0 0 a)) (fun k => w (ix2 k j)) := by
  unfold k0_pay2
  pointwise
  simp only [pay1_at]
  rfl

theorem pay3_at (w : Vec Ideal S1024x3072 .bf16) (j : Fin 3072) :
    k0_pay3 x n w (ix2 r j) = col (fun a => x (ix2 r a)) (fun a => n (ix3 0 0 a)) (fun k => w (ix2 k j)) := by
  unfold k0_pay3
  pointwise
  simp only [pay1_at]
  rfl

theorem pay4_at (w : Vec Ideal S1024x128 .bf16) (j : Fin 128) :
    k0_pay4 x n w (ix2 r j) = col (fun a => x (ix2 r a)) (fun a => n (ix3 0 0 a)) (fun k => w (ix2 k j)) := by
  unfold k0_pay4
  pointwise
  simp only [pay1_at]
  rfl

end

section

variable (x : Vec Ideal S512x1024 .f32) (n : Vec Ideal S1x1x1024 .f32) (W : Vec Ideal S1024x5248 .bf16) (r : Fin 512)

/-- A point's block of the first result. -/
theorem out3_at (j : Fin 2048) :
    (out0_3 x n W : S512x2048.Idx → EReal) (ix2 r j)
      = col (fun a => x (ix2 r a)) (fun a => n (ix3 0 0 a)) (fun k => W (ix2 k ⟨0 + j.val, by omega⟩)) := by
  have z2 : ∀ a : Fin 2, (![0, 0] : Fin 2 → ℕ) a = 0 := by decide
  have z3 : ∀ a : Fin 3, (![0, 0, 0] : Fin 3 → ℕ) a = 0 := by decide
  have e0 : View.ld x r0_0 = x := View.ld_unit_lit _ x z2
  have e1 : View.ld n r0_1 = n := View.ld_unit_lit _ n z3
  have e2 (k : Fin 1024) : View.ld W r0_2 (ix2 k j) = W (ix2 k ⟨0 + j.val, by omega⟩) :=
    View.ld_unit_apply_of W _ _ _ _ _ fun a => by
      fin_cases a
      · show k.val = 0 + k.val
        omega
      · rfl
  unfold out0_3
  rw [View.canon_cons_unit_lit _ _ _ z2, e0, e1, pay2_at]
  exact congrArg (col _ _) (funext e2)

/-- A point's block of the second result. -/
theorem out4_at (j : Fin 3072) :
    (out0_4 x n W : S512x3072.Idx → EReal) (ix2 r j)
      = col (fun a => x (ix2 r a)) (fun a => n (ix3 0 0 a)) (fun k => W (ix2 k ⟨2048 + j.val, by omega⟩)) := by
  have z2 : ∀ a : Fin 2, (![0, 0] : Fin 2 → ℕ) a = 0 := by decide
  have z3 : ∀ a : Fin 3, (![0, 0, 0] : Fin 3 → ℕ) a = 0 := by decide
  have e0 : View.ld x r0_0 = x := View.ld_unit_lit _ x z2
  have e1 : View.ld n r0_1 = n := View.ld_unit_lit _ n z3
  have e2 (k : Fin 1024) : View.ld W r0_4 (ix2 k j) = W (ix2 k ⟨2048 + j.val, by omega⟩) :=
    View.ld_unit_apply_of W _ _ _ _ _ fun a => by
      fin_cases a
      · show k.val = 0 + k.val
        omega
      · rfl
  unfold out0_4
  rw [View.canon_cons_unit_lit _ _ _ z2, e0, e1, pay3_at]
  exact congrArg (col _ _) (funext e2)

/-- A point's block of the third result. -/
theorem out5_at (j : Fin 128) :
    (out0_5 x n W : S512x128.Idx → EReal) (ix2 r j)
      = col (fun a => x (ix2 r a)) (fun a => n (ix3 0 0 a)) (fun k => W (ix2 k ⟨5120 + j.val, by omega⟩)) := by
  have z2 : ∀ a : Fin 2, (![0, 0] : Fin 2 → ℕ) a = 0 := by decide
  have z3 : ∀ a : Fin 3, (![0, 0, 0] : Fin 3 → ℕ) a = 0 := by decide
  have e0 : View.ld x r0_0 = x := View.ld_unit_lit _ x z2
  have e1 : View.ld n r0_1 = n := View.ld_unit_lit _ n z3
  have e2 (k : Fin 1024) : View.ld W r0_6 (ix2 k j) = W (ix2 k ⟨5120 + j.val, by omega⟩) :=
    View.ld_unit_apply_of W _ _ _ _ _ fun a => by
      fin_cases a
      · show k.val = 0 + k.val
        omega
      · rfl
  unfold out0_5
  rw [View.canon_cons_unit_lit _ _ _ z2, e0, e1, pay4_at]
  exact congrArg (col _ _) (funext e2)

end

/-- The prompts' last three rows, from the result's rows. -/
def lastP (A : FVec Ideal S17408x3072 .f32) : FVec Ideal S1x4x3x3072 .f32 :=
  broadcastInDim S1x4x3x3072 ![1, 2, 3] bcast_S4x3x3072_S1x4x3x3072_1_2_3 (concatenate S4x3x3072 0
    [⟨S1x3x3072, broadcastInDim S1x3x3072 ![1, 2] bcast_S3x3072_S1x3x3072_1_2 (extractStridedSlice S3x3072 ![4093, 0] A slices_S17408x3072_S3x3072_4093_0)⟩,
     ⟨S1x3x3072, broadcastInDim S1x3x3072 ![1, 2] bcast_S3x3072_S1x3x3072_1_2 (extractStridedSlice S3x3072 ![8189, 0] A slices_S17408x3072_S3x3072_8189_0)⟩,
     ⟨S1x3x3072, broadcastInDim S1x3x3072 ![1, 2] bcast_S3x3072_S1x3x3072_1_2 (extractStridedSlice S3x3072 ![12285, 0] A slices_S17408x3072_S3x3072_12285_0)⟩,
     ⟨S1x3x3072, broadcastInDim S1x3x3072 ![1, 2] bcast_S3x3072_S1x3x3072_1_2 (extractStridedSlice S3x3072 ![16381, 0] A slices_S17408x3072_S3x3072_16381_0)⟩]
    concatenates_S1x3x3072_S1x3x3072_S1x3x3072_S1x3x3072_S4x3x3072_d0)

theorem lastP_at (A : FVec Ideal S17408x3072 .f32) (b : Fin 4) (k : Fin 3) (j : Fin 3072) :
    lastP A (ix4 0 b k j) = A (ix2 ⟨b.val * 4096 + 4093 + k.val, by omega⟩ j) := by
  unfold lastP
  pointwise
  split_ifs
  all_goals
    refine congrArg (fun r => A (ix2 r j)) (Fin.ext ?_)
    dsimp only
    omega

/-- The sample group's last three rows: of the states and eight rows for each sequence. -/
def lastS (s : FVec Ideal S1x128x3x3072 .f32) (A : FVec Ideal S17408x3072 .f32) : FVec Ideal S1x128x3x3072 .f32 :=
  broadcastInDim S1x128x3x3072 ![1, 2, 3] bcast_S128x3x3072_S1x128x3x3072_1_2_3 (extractStridedSlice S128x3x3072 ![0, 8, 0]
    (concatenate S128x11x3072 1 [⟨S128x3x3072, shapeCast S128x3x3072 s shapeCasts_S1x128x3x3072_S128x3x3072⟩,
      ⟨S128x8x3072, shapeCast S128x8x3072 (extractStridedSlice S1024x3072 ![16384, 0] A slices_S17408x3072_S1024x3072_16384_0)
        shapeCasts_S1024x3072_S128x8x3072⟩] concatenates_S128x3x3072_S128x8x3072_S128x11x3072_d1)
    slices_S128x11x3072_S128x3x3072_0_8_0)

theorem lastS_at (s : FVec Ideal S1x128x3x3072 .f32) (A : FVec Ideal S17408x3072 .f32) (b : Fin 128) (k : Fin 3)
    (j : Fin 3072) : lastS s A (ix4 0 b k j) = A (ix2 ⟨16384 + (b.val * 8 + 5 + k.val), by omega⟩ j) := by
  unfold lastS
  pointwise
  rw [dif_neg (by omega)]
  refine congrArg (fun r => A (ix2 r j)) (Fin.ext ?_)
  dsimp only
  omega

/-! ## The blocks in the arguments' elements, and the results -/

variable (m : (ℓ : Loc nD τ sig) → Buf (Elt Ideal) ℓ) (c : Dev nD)

/-- The arguments. -/
def aX : Vec Ideal S17408x1024 .f32 := m ((c : Thread nD τ).loc main_arg0)
def aN : Vec Ideal S4x1024 .f32 := m ((c : Thread nD τ).loc main_arg2)
def aW : Vec Ideal S1024x5152 .f32 := m ((c : Thread nD τ).loc main_arg3)

/-- One element of the projection, from the arguments. -/
def proj (x : Vec Ideal S17408x1024 .f32) (n : Vec Ideal S4x1024 .f32) (w : Vec Ideal S1024x5152 .f32) (i : Fin 17408)
    (j : Fin 5152) : EReal :=
  col (fun a => x (ix2 i a)) (fun a => n (ix2 2 a)) (fun k => w (ix2 k j))

/-- The time steps' columns: the heads' projections, then zeros. -/
def steps (x : Vec Ideal S17408x1024 .f32) (n : Vec Ideal S4x1024 .f32) (w : Vec Ideal S1024x5152 .f32) (i : Fin 17408)
    (j : Fin 128) : EReal :=
  if h : j.val < 32 then proj x n w i ⟨5120 + j.val, by omega⟩ else 0

theorem col_zero (x n : Fin 1024 → EReal) : col x n (fun _ => 0) = 0 := by
  unfold col
  simp only [mul_zero, Finset.sum_const_zero]

/-- The weights with zero columns behind them. -/
theorem v2_left (k : Fin 1024) (j : Fin 5248) (h : j.val < 5152) :
    (V m c main_v2 : S1024x5248.Idx → EReal) (ix2 k j) = aW m c (ix2 k ⟨j.val, h⟩) := by
  entry_read
  show concatenate S1024x5248 1 [⟨S1024x5152, aW m c⟩, ⟨S1024x96, broadcastInDim S1024x96 ![] bcast_S_S1024x96
    (constant S_ FTy.f32 0#32 : FVec Ideal S_ .f32)⟩] concatenates_S1024x5152_S1024x96_S1024x5248_d1 (ix2 k j) = _
  exact concatenate_pair_apply_left (t := S1024x5248) (s₁ := S1024x5152) (s₂ := S1024x96) 1 _ _ _ (ix2 k j) rfl
      (ix2 k ⟨j.val, h⟩) (fun b => by fin_cases b <;> rfl)

theorem v2_right (k : Fin 1024) (j : Fin 5248) (h : ¬ j.val < 5152) :
    (V m c main_v2 : S1024x5248.Idx → EReal) (ix2 k j) = (0 : EReal) := by
  entry_read
  show concatenate S1024x5248 1 [⟨S1024x5152, aW m c⟩, ⟨S1024x96, broadcastInDim S1024x96 ![] bcast_S_S1024x96
    (constant S_ FTy.f32 0#32 : FVec Ideal S_ .f32)⟩] concatenates_S1024x5152_S1024x96_S1024x5248_d1 (ix2 k j) = (0 : EReal)
  rw [concatenate_pair_apply_right (t := S1024x5248) (s₁ := S1024x5152) (s₂ := S1024x96) 1 _ _ _ (ix2 k j) rfl rfl
      (ix2 k ⟨j.val - 5152, by omega⟩) (fun b hb => by
        fin_cases b
        · rfl
        · exact absurd rfl hb) (by show j.val - 5152 + 5152 = j.val; omega)]
  pointwise

theorem v3_at (l : Fin 4) (j : Fin 1024) :
    (V m c main_v3 : S4x1x1024.Idx → EReal) (ix3 l 0 j) = aN m c (ix2 l j) := by
  show StableHlo.after hostOps0 (fun b => m (c, b)) (Proc.tc.devRef main_v3) (ix3 l 0 j) = _
  after_results
  pointwise
  rfl

/-- The blocks' places, by the point. -/
theorem place0 : ∀ t : Fin cfg0.N, win0_0.index t = ![t.val, 0] := (by decide +kernel : ∀ t : Fin grid0.N, _)
theorem place1 : ∀ t : Fin cfg0.N, win0_1.index t = ![2, 0, 0] := (by decide +kernel : ∀ t : Fin grid0.N, _)
theorem place2 : ∀ t : Fin cfg0.N, win0_2.index t = ![0, 0] := (by decide +kernel : ∀ t : Fin grid0.N, _)
theorem place3 : ∀ t : Fin cfg0.N, win0_3.index t = ![t.val, 0] := (by decide +kernel : ∀ t : Fin grid0.N, _)
theorem place4 : ∀ t : Fin cfg0.N, win0_4.index t = ![t.val, 0] := (by decide +kernel : ∀ t : Fin grid0.N, _)
theorem place5 : ∀ t : Fin cfg0.N, win0_5.index t = ![t.val, 0] := (by decide +kernel : ∀ t : Fin grid0.N, _)

theorem flushes3 : ∀ t : Fin cfg0.N, (cfg0.win 3).flush t = true := (by decide +kernel : ∀ t : Fin grid0.N, _)
theorem flushes4 : ∀ t : Fin cfg0.N, (cfg0.win 4).flush t = true := (by decide +kernel : ∀ t : Fin grid0.N, _)
theorem flushes5 : ∀ t : Fin cfg0.N, (cfg0.win 5).flush t = true := (by decide +kernel : ∀ t : Fin grid0.N, _)

theorem b0_at (t : Fin cfg0.N) (ht : t.val < 34) (r : Fin 512) (j : Fin 1024) :
    (iblk m c 0 t : S512x1024.Idx → EReal) (ix2 r j) = aX m c (ix2 ⟨t.val * 512 + r.val, by omega⟩ j) := by
  blk_simp [iblk]
  refine (congrArg (V m c main_arg0) (funext fun a => Fin.ext ?_)).trans
    (congrFun (V_main_arg0 m c) (ix2 ⟨t.val * 512 + r.val, by omega⟩ j))
  show win0_0.index t a * S512x1024.size a + 1 * ((ix2 r j : S512x1024.Idx) a).val = _
  rw [place0 t]
  fin_cases a
  · show t.val * 512 + 1 * r.val = t.val * 512 + r.val
    omega
  · show 0 * 1024 + 1 * j.val = j.val
    omega

theorem b1_at (t : Fin cfg0.N) (j : Fin 1024) :
    (iblk m c 1 t : S1x1x1024.Idx → EReal) (ix3 0 0 j) = aN m c (ix2 2 j) := by
  refine Eq.trans ?_ (v3_at m c 2 j)
  blk_simp [iblk]
  refine congrArg (V m c main_v3) (funext fun a => Fin.ext ?_)
  show win0_1.index t a * S1x1x1024.size a + 1 * ((ix3 0 0 j : S1x1x1024.Idx) a).val = _
  rw [place1 t]
  fin_cases a
  · show 2 * 1 + 1 * 0 = 2
    omega
  · show 0 * 1 + 1 * 0 = 0
    omega
  · show 0 * 1024 + 1 * j.val = j.val
    omega

theorem b2_at (t : Fin cfg0.N) (k : Fin 1024) (j : Fin 5248) :
    (iblk m c 2 t : S1024x5248.Idx → EReal) (ix2 k j) = V m c main_v2 (ix2 k j) := by
  blk_simp [iblk]
  refine congrArg (V m c main_v2) (funext fun a => Fin.ext ?_)
  show win0_2.index t a * S1024x5248.size a + 1 * ((ix2 k j : S1024x5248.Idx) a).val = _
  rw [place2 t]
  fin_cases a
  · show 0 * 1024 + 1 * k.val = k.val
    omega
  · show 0 * 5248 + 1 * j.val = j.val
    omega

/-- A normalised row of the point's block times a column of weights, or times a column of zeros. -/
theorem col_left (t : Fin cfg0.N) (ht : t.val < 34) (r : Fin 512) (j : Fin 5248) (h : j.val < 5152) :
    col (fun a => (iblk m c 0 t : S512x1024.Idx → EReal) (ix2 r a)) (fun a => (iblk m c 1 t : S1x1x1024.Idx → EReal) (ix3 0 0 a))
        (fun k => (iblk m c 2 t : S1024x5248.Idx → EReal) (ix2 k j))
      = proj (aX m c) (aN m c) (aW m c) ⟨t.val * 512 + r.val, by omega⟩ ⟨j.val, h⟩ := by
  have e0 := funext fun a => b0_at m c t ht r a
  have e1 := funext fun a => b1_at m c t a
  have e2 := funext fun k => (b2_at m c t k j).trans (v2_left m c k j h)
  unfold proj
  rw [e0, e1, e2]

theorem col_right (t : Fin cfg0.N) (r : Fin 512) (j : Fin 5248) (h : ¬ j.val < 5152) (x n : Fin 1024 → EReal) :
    col x n (fun k => (iblk m c 2 t : S1024x5248.Idx → EReal) (ix2 k j)) = (0 : EReal) := by
  have e2 := funext fun k => (b2_at m c t k j).trans (v2_right m c k j h)
  exact (congrArg (col x n) e2).trans (col_zero x n)

theorem blk3_at (t : Fin cfg0.N) (ht : t.val < 34) (r : Fin 512) (j : Fin 2048) :
    (out0_3 (iblk m c 0 t) (iblk m c 1 t) (iblk m c 2 t) : S512x2048.Idx → EReal) (ix2 r j)
      = proj (aX m c) (aN m c) (aW m c) ⟨t.val * 512 + r.val, by omega⟩ ⟨0 + j.val, by omega⟩ := by
  refine (out3_at (iblk m c 0 t) (iblk m c 1 t) (iblk m c 2 t) r j).trans ?_
  exact col_left m c t ht r _ (by show 0 + j.val < 5152; omega)

/-- Two points' blocks of this result lie apart. -/
theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (Fin.ext (by
    have h0 := congrFun ((place3 t).symm.trans (h.trans (place3 t'))) 0
    exact h0))

/-- A point's block of the result, read back, is what the body left. -/
theorem back3 (t : Fin cfg0.N) : ((cfg0.win 3).blk t).view.read (Elt Ideal) ((dats m 0 c).arrAt 3 cfg0.N)
    = (cfg0.win 3).cut (grid0.coords t) (out0_3 (iblk m c 0 t) (iblk m c 1 t) (iblk m c 2 t)) := by
  refine ((dats m 0 c).read_blk_arrAt_eq_flushed 3 apart3 cfg0.N t t.isLt (flushes3 t)).trans ?_
  show (cfg0.win 3).cut (grid0.coords t) ((dats m 0 c).after 3 t) = _
  rw [after0_3]

/-- Where a point's element lies. -/
theorem emb3 (t : Fin cfg0.N) (y : S512x2048.Idx) (a : Fin 2) :
    ((((cfg0.win 3).blk t).view.emb y : S17408x2048.Idx) a).val = (![t.val * 512, 0] : Fin 2 → ℕ) a + (y a).val := by
  show win0_3.index t a * S512x2048.size a + 1 * (y a).val = _
  rw [place3 t]
  fin_cases a
  · show t.val * 512 + 1 * (y 0).val = t.val * 512 + (y 0).val
    omega
  · show 0 * 2048 + 1 * (y 1).val = 0 + (y 1).val
    omega

/-- The first result's rows. -/
theorem value3_at (i : Fin 17408) (j : Fin 2048) :
    ((dats m 0 c).arrAt 3 cfg0.N : S17408x2048.Idx → EReal) (ix2 i j)
      = proj (aX m c) (aN m c) (aW m c) i ⟨0 + j.val, by omega⟩ := by
  have ht : i.val / 512 < 34 := by omega
  have h := congrFun (back3 m c ⟨i.val / 512, ht⟩)
    (ix2 ⟨i.val % 512, by omega⟩ j)
  refine Eq.trans (congrArg ((dats m 0 c).arrAt 3 cfg0.N) (funext fun a => Fin.ext ?_))
    (h.trans ((blk3_at m c ⟨i.val / 512, ht⟩ ht ⟨i.val % 512, by omega⟩ j).trans ?_))
  · rw [emb3]
    fin_cases a
    · show i.val = i.val / 512 * 512 + i.val % 512
      omega
    · show j.val = 0 + j.val
      omega
  · refine congrArg (fun i => proj (aX m c) (aN m c) (aW m c) i ⟨0 + j.val, by omega⟩) (Fin.ext ?_)
    show i.val / 512 * 512 + i.val % 512 = i.val
    omega

theorem blk4_at (t : Fin cfg0.N) (ht : t.val < 34) (r : Fin 512) (j : Fin 3072) :
    (out0_4 (iblk m c 0 t) (iblk m c 1 t) (iblk m c 2 t) : S512x3072.Idx → EReal) (ix2 r j)
      = proj (aX m c) (aN m c) (aW m c) ⟨t.val * 512 + r.val, by omega⟩ ⟨2048 + j.val, by omega⟩ := by
  refine (out4_at (iblk m c 0 t) (iblk m c 1 t) (iblk m c 2 t) r j).trans ?_
  exact col_left m c t ht r _ (by show 2048 + j.val < 5152; omega)

/-- Two points' blocks of this result lie apart. -/
theorem apart4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (Fin.ext (by
    have h0 := congrFun ((place4 t).symm.trans (h.trans (place4 t'))) 0
    exact h0))

/-- A point's block of the result, read back, is what the body left. -/
theorem back4 (t : Fin cfg0.N) : ((cfg0.win 4).blk t).view.read (Elt Ideal) ((dats m 0 c).arrAt 4 cfg0.N)
    = (cfg0.win 4).cut (grid0.coords t) (out0_4 (iblk m c 0 t) (iblk m c 1 t) (iblk m c 2 t)) := by
  refine ((dats m 0 c).read_blk_arrAt_eq_flushed 4 apart4 cfg0.N t t.isLt (flushes4 t)).trans ?_
  show (cfg0.win 4).cut (grid0.coords t) ((dats m 0 c).after 4 t) = _
  rw [after0_4]

/-- Where a point's element lies. -/
theorem emb4 (t : Fin cfg0.N) (y : S512x3072.Idx) (a : Fin 2) :
    ((((cfg0.win 4).blk t).view.emb y : S17408x3072.Idx) a).val = (![t.val * 512, 0] : Fin 2 → ℕ) a + (y a).val := by
  show win0_4.index t a * S512x3072.size a + 1 * (y a).val = _
  rw [place4 t]
  fin_cases a
  · show t.val * 512 + 1 * (y 0).val = t.val * 512 + (y 0).val
    omega
  · show 0 * 3072 + 1 * (y 1).val = 0 + (y 1).val
    omega

/-- The second result's rows. -/
theorem value4_at (i : Fin 17408) (j : Fin 3072) :
    ((dats m 0 c).arrAt 4 cfg0.N : S17408x3072.Idx → EReal) (ix2 i j)
      = proj (aX m c) (aN m c) (aW m c) i ⟨2048 + j.val, by omega⟩ := by
  have ht : i.val / 512 < 34 := by omega
  have h := congrFun (back4 m c ⟨i.val / 512, ht⟩)
    (ix2 ⟨i.val % 512, by omega⟩ j)
  refine Eq.trans (congrArg ((dats m 0 c).arrAt 4 cfg0.N) (funext fun a => Fin.ext ?_))
    (h.trans ((blk4_at m c ⟨i.val / 512, ht⟩ ht ⟨i.val % 512, by omega⟩ j).trans ?_))
  · rw [emb4]
    fin_cases a
    · show i.val = i.val / 512 * 512 + i.val % 512
      omega
    · show j.val = 0 + j.val
      omega
  · refine congrArg (fun i => proj (aX m c) (aN m c) (aW m c) i ⟨2048 + j.val, by omega⟩) (Fin.ext ?_)
    show i.val / 512 * 512 + i.val % 512 = i.val
    omega

theorem blk5_at (t : Fin cfg0.N) (ht : t.val < 34) (r : Fin 512) (j : Fin 128) :
    (out0_5 (iblk m c 0 t) (iblk m c 1 t) (iblk m c 2 t) : S512x128.Idx → EReal) (ix2 r j)
      = steps (aX m c) (aN m c) (aW m c) ⟨t.val * 512 + r.val, by omega⟩ j := by
  refine (out5_at (iblk m c 0 t) (iblk m c 1 t) (iblk m c 2 t) r j).trans ?_
  unfold steps
  by_cases h : j.val < 32
  · rw [dif_pos h]
    exact col_left m c t ht r _ (by show 5120 + j.val < 5152; omega)
  · rw [dif_neg h]
    exact col_right m c t r _ (by show ¬ 5120 + j.val < 5152; omega) _ _

/-- Two points' blocks of this result lie apart. -/
theorem apart5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (by
    have h0 := congrFun ((place5 t).symm.trans (h.trans (place5 t'))) 0
    exact h0))

/-- A point's block of the result, read back, is what the body left. -/
theorem back5 (t : Fin cfg0.N) : ((cfg0.win 5).blk t).view.read (Elt Ideal) ((dats m 0 c).arrAt 5 cfg0.N)
    = (cfg0.win 5).cut (grid0.coords t) (out0_5 (iblk m c 0 t) (iblk m c 1 t) (iblk m c 2 t)) := by
  refine ((dats m 0 c).read_blk_arrAt_eq_flushed 5 apart5 cfg0.N t t.isLt (flushes5 t)).trans ?_
  show (cfg0.win 5).cut (grid0.coords t) ((dats m 0 c).after 5 t) = _
  rw [after0_5]

/-- Where a point's element lies. -/
theorem emb5 (t : Fin cfg0.N) (y : S512x128.Idx) (a : Fin 2) :
    ((((cfg0.win 5).blk t).view.emb y : S17408x128.Idx) a).val = (![t.val * 512, 0] : Fin 2 → ℕ) a + (y a).val := by
  show win0_5.index t a * S512x128.size a + 1 * (y a).val = _
  rw [place5 t]
  fin_cases a
  · show t.val * 512 + 1 * (y 0).val = t.val * 512 + (y 0).val
    omega
  · show 0 * 128 + 1 * (y 1).val = 0 + (y 1).val
    omega

/-- The third result's rows. -/
theorem value5_at (i : Fin 17408) (j : Fin 128) :
    ((dats m 0 c).arrAt 5 cfg0.N : S17408x128.Idx → EReal) (ix2 i j)
      = steps (aX m c) (aN m c) (aW m c) i j := by
  have ht : i.val / 512 < 34 := by omega
  have h := congrFun (back5 m c ⟨i.val / 512, ht⟩)
    (ix2 ⟨i.val % 512, by omega⟩ j)
  refine Eq.trans (congrArg ((dats m 0 c).arrAt 5 cfg0.N) (funext fun a => Fin.ext ?_))
    (h.trans ((blk5_at m c ⟨i.val / 512, ht⟩ ht ⟨i.val % 512, by omega⟩ j).trans ?_))
  · rw [emb5]
    fin_cases a
    · show i.val = i.val / 512 * 512 + i.val % 512
      omega
    · show j.val = 0 + j.val
      omega
  · refine congrArg (fun i => steps (aX m c) (aN m c) (aW m c) i j) (Fin.ext ?_)
    show i.val / 512 * 512 + i.val % 512 = i.val
    omega

/-! ## The lines after the call: the convolution's last inputs -/

/-- The lines' results, from any contents of the buffers. -/
theorem lines19 (W : Valuation τ sig (Elt Ideal)) :
    StableHlo.after hostOps1 W (Proc.devRef .tc main_v19) = lastP (W (Proc.devRef .tc main_v4_1)) := by
  after_results
  rfl

theorem lines20 (W : Valuation τ sig (Elt Ideal)) : StableHlo.after hostOps1 W (Proc.devRef .tc main_v20)
    = lastS (W (Proc.devRef .tc main_arg1)) (W (Proc.devRef .tc main_v4_1)) := by
  after_results
  rfl

/-- The prompts' convolution inputs. -/
def stateP (x : Vec Ideal S17408x1024 .f32) (n : Vec Ideal S4x1024 .f32) (w : Vec Ideal S1024x5152 .f32) (b : Fin 4)
    (k : Fin 3) (j : Fin 3072) : EReal :=
  proj x n w ⟨b.val * 4096 + 4093 + k.val, by omega⟩ ⟨2048 + j.val, by omega⟩

/-- The samples' convolution inputs. -/
def stateS (x : Vec Ideal S17408x1024 .f32) (n : Vec Ideal S4x1024 .f32) (w : Vec Ideal S1024x5152 .f32) (b : Fin 128)
    (k : Fin 3) (j : Fin 3072) : EReal :=
  proj x n w ⟨16384 + (b.val * 8 + 5 + k.val), by omega⟩ ⟨2048 + j.val, by omega⟩

theorem tail19_at (b : Fin 4) (k : Fin 3) (j : Fin 3072) :
    (Pipeline.afterTail₀ cfgs (dats m) 0 (V0 m) [hostOps1] c main_v19 : S1x4x3x3072.Idx → EReal) (ix4 0 b k j)
      = stateP (aX m c) (aN m c) (aW m c) b k j := by
  have h := lines19 (Pipeline.withArrays (cfgs 0).spec c (V0 m c) fun w => (dats m 0 c).arrAt w (cfgs 0).N)
  have e : Pipeline.withArrays (cfgs 0).spec c (V0 m c) (fun w => (dats m 0 c).arrAt w (cfgs 0).N)
      (Proc.devRef .tc main_v4_1) = (dats m 0 c).arrAt 4 cfg0.N :=
    Pipeline.withArrays_arr spec0 launch0.win.arr_inj c _ _ 4
  rw [e] at h
  exact (congrFun h (ix4 0 b k j)).trans ((lastP_at _ b k j).trans (value4_at m c _ j))

theorem tail20_at (b : Fin 128) (k : Fin 3) (j : Fin 3072) :
    (Pipeline.afterTail₀ cfgs (dats m) 0 (V0 m) [hostOps1] c main_v20 : S1x128x3x3072.Idx → EReal) (ix4 0 b k j)
      = stateS (aX m c) (aN m c) (aW m c) b k j := by
  have h := lines20 (Pipeline.withArrays (cfgs 0).spec c (V0 m c) fun w => (dats m 0 c).arrAt w (cfgs 0).N)
  have e : Pipeline.withArrays (cfgs 0).spec c (V0 m c) (fun w => (dats m 0 c).arrAt w (cfgs 0).N)
      (Proc.devRef .tc main_v4_1) = (dats m 0 c).arrAt 4 cfg0.N :=
    Pipeline.withArrays_arr spec0 launch0.win.arr_inj c _ _ 4
  rw [e] at h
  exact (congrFun h (ix4 0 b k j)).trans ((lastS_at _ _ b k j).trans (value4_at m c _ j))

/-- The run, its five results named. -/
theorem run_at (ρ : Dev nD → PrngReg) : θ_run defs (onTc (τ := τ) (main (F := Ideal))) ⟨m, fun _ => 0, ρ⟩ fun r => ∀ c : Dev nD,
    r.2.mem ((c.tc : Thread nD τ).loc main_v4_0) = (dats m 0 c).arrAt 3 cfg0.N
    ∧ r.2.mem ((c.tc : Thread nD τ).loc main_v4_1) = (dats m 0 c).arrAt 4 cfg0.N
    ∧ r.2.mem ((c.tc : Thread nD τ).loc main_v4_2) = (dats m 0 c).arrAt 5 cfg0.N
    ∧ r.2.mem ((c.tc : Thread nD τ).loc main_v19) = Pipeline.afterTail₀ cfgs (dats m) 0 (V0 m) [hostOps1] c main_v19
    ∧ r.2.mem ((c.tc : Thread nD τ).loc main_v20) = Pipeline.afterTail₀ cfgs (dats m) 0 (V0 m) [hostOps1] c main_v20
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h.1 c).1 3, (h.1 c).1 4, (h.1 c).1 5,
      (h.1 c).2 main_v19 (Pipeline.mem_restRefs_of main_v19 (by decide) (by decide)),
      (h.1 c).2 main_v20 (Pipeline.mem_restRefs_of main_v20 (by decide) (by decide)), h.2 c⟩)
    (θ_run_and (run_main m ρ) (unchanged m ρ))

end Cert.Kernel6Ideal.Mamba

namespace Cert.Reference6Ideal.Mamba

open Idealize.ShloMosaic Idealize.ShloMosaic.TcCoe
open Cert.Reference6Ideal Cert.Reference6Ideal.Gen Cert.Reference6Ideal.Value
open Cert.Kernel6Ideal.Mamba (proj steps)

variable (m : (ℓ : Loc nD τ sig) → Buf (Elt Ideal) ℓ) (c : Dev nD)

/-- The reference's product, before it is cut. -/
def prod : FVec Ideal S17408x5152 .f32 :=
  Host.dotGeneral (φ₂ := .f32) dot_S17408x1024_S1024x5152_S17408x5152_1_0_0_1_n_n none (mulf (mulf (m ((c : Thread nD τ).loc
    main_arg0)) (broadcastInDim S17408x1024 ![0, 1] bcast_S17408x1_S17408x1024_0_1 (Host.rsqrt (addf (Host.divf
    (broadcastInDim S17408x1 ![0] bcast_S17408_S17408x1_0 (Host.reduceAdd (mulf (m ((c : Thread nD τ).loc main_arg0)) (m ((c
    : Thread nD τ).loc main_arg0))) (constant S_ .f32 0x00000000#32) reducesTo_S17408x1024_S17408_d1 h_S_)) (broadcastInDim
    S17408x1 ![] bcast_S_S17408x1 (constant S_ .f32 0x44800000#32))) (broadcastInDim S17408x1 ![] bcast_S_S17408x1 (constant
    S_ .f32 0x358637BD#32)))))) (broadcastInDim S17408x1024 ![0, 1] bcast_S1x1024_S17408x1024_0_1 (broadcastInDim S1x1024
    ![1] bcast_S1024_S1x1024_1 (shapeCast _ (extractStridedSlice S1x1024 ![2, 0] (m ((c : Thread nD τ).loc main_arg2))
    slices_S4x1024_S1x1024_2_0) shapeCasts_S1x1024_S1024)))) (m ((c : Thread nD τ).loc main_arg3))

theorem prod_at (i : Fin 17408) (j : Fin 5152) :
    prod m c (ix2 i j) = proj (m ((c : Thread nD τ).loc main_arg0)) (m ((c : Thread nD τ).loc main_arg2))
      (m ((c : Thread nD τ).loc main_arg3)) i j := by
  unfold prod
  pointwise
  rfl

theorem value0_at (i : Fin 17408) (j : Fin 2048) :
    extractStridedSlice S17408x2048 ![0, 0] (prod m c) slices_S17408x5152_S17408x2048_0_0 (ix2 i j)
      = proj (m ((c : Thread nD τ).loc main_arg0)) (m ((c : Thread nD τ).loc main_arg2))
        (m ((c : Thread nD τ).loc main_arg3)) i ⟨0 + j.val, by omega⟩ := by
  refine Eq.trans (congrArg (prod m c) (funext fun a => Fin.ext ?_)) (prod_at m c i ⟨0 + j.val, by omega⟩)
  fin_cases a
  · show 0 + i.val = i.val
    omega
  · rfl

theorem value1_at (i : Fin 17408) (j : Fin 3072) :
    extractStridedSlice S17408x3072 ![0, 2048] (prod m c) slices_S17408x5152_S17408x3072_0_2048 (ix2 i j)
      = proj (m ((c : Thread nD τ).loc main_arg0)) (m ((c : Thread nD τ).loc main_arg2))
        (m ((c : Thread nD τ).loc main_arg3)) i ⟨2048 + j.val, by omega⟩ := by
  refine Eq.trans (congrArg (prod m c) (funext fun a => Fin.ext ?_)) (prod_at m c i ⟨2048 + j.val, by omega⟩)
  fin_cases a
  · show 0 + i.val = i.val
    omega
  · rfl

theorem value2_at (i : Fin 17408) (j : Fin 128) :
    pad S17408x128 ![0, 0] ![0, 96] ![0, 0] (extractStridedSlice S17408x32 ![0, 5120] (prod m c)
        slices_S17408x5152_S17408x32_0_5120) (sitofp .f32 (constantI S_ 32 0#32) : FVec Ideal S_ .f32) pads_S17408x32_S17408x128_000_0960 h_S_ (ix2 i j)
      = steps (m ((c : Thread nD τ).loc main_arg0)) (m ((c : Thread nD τ).loc main_arg2))
        (m ((c : Thread nD τ).loc main_arg3)) i j := by
  pointwise
  unfold steps
  by_cases h : j.val < 32
  · rw [dif_pos h, dif_pos h]
    exact prod_at m c i _
  · rw [dif_neg h, dif_neg h]
    show ((((0#32 : BitVec 32).toInt : ℤ) : ℝ) : EReal) = 0
    simp

/-- The reference's last three rows of the prompts, behind zeros, from the convolution's inputs. -/
def lastP (A : FVec Ideal S17408x3072 .f32) : FVec Ideal S1x4x3x3072 .f32 :=
  broadcastInDim S1x4x3x3072 ![1, 2, 3] bcast_S4x3x3072_S1x4x3x3072_1_2_3 (extractStridedSlice S4x3x3072 ![0, 4096, 0]
    (concatenate S4x4099x3072 1 [⟨S4x3x3072, broadcastInDim S4x3x3072 ![] bcast_S_S4x3x3072 (constant S_ .f32 0x00000000#32)⟩,
      ⟨S4x4096x3072, shapeCast S4x4096x3072 (extractStridedSlice S16384x3072 ![0, 0] A slices_S17408x3072_S16384x3072_0_0)
        shapeCasts_S16384x3072_S4x4096x3072⟩] concatenates_S4x3x3072_S4x4096x3072_S4x4099x3072_d1)
    slices_S4x4099x3072_S4x3x3072_0_4096_0)

theorem lastP_at (A : FVec Ideal S17408x3072 .f32) (b : Fin 4) (k : Fin 3) (j : Fin 3072) :
    lastP A (ix4 0 b k j) = A (ix2 ⟨b.val * 4096 + 4093 + k.val, by omega⟩ j) := by
  unfold lastP
  pointwise
  rw [dif_neg (by omega)]
  refine congrArg (fun r => A (ix2 r j)) (Fin.ext ?_)
  dsimp only
  omega

theorem value3_at (b : Fin 4) (k : Fin 3) (j : Fin 3072) :
    lastP (extractStridedSlice S17408x3072 ![0, 2048] (prod m c) slices_S17408x5152_S17408x3072_0_2048) (ix4 0 b k j)
      = Cert.Kernel6Ideal.Mamba.stateP (m ((c : Thread nD τ).loc main_arg0)) (m ((c : Thread nD τ).loc main_arg2))
        (m ((c : Thread nD τ).loc main_arg3)) b k j :=
  (lastP_at _ b k j).trans (value1_at m c _ j)

theorem value4_at (b : Fin 128) (k : Fin 3) (j : Fin 3072) :
    Cert.Kernel6Ideal.Mamba.lastS (m ((c : Thread nD τ).loc main_arg1))
        (extractStridedSlice S17408x3072 ![0, 2048] (prod m c) slices_S17408x5152_S17408x3072_0_2048) (ix4 0 b k j)
      = Cert.Kernel6Ideal.Mamba.stateS (m ((c : Thread nD τ).loc main_arg0)) (m ((c : Thread nD τ).loc main_arg2))
        (m ((c : Thread nD τ).loc main_arg3)) b k j :=
  (Cert.Kernel6Ideal.Mamba.lastS_at _ _ b k j).trans (value1_at m c _ j)

end Cert.Reference6Ideal.Mamba

end
-- ==== Proof.Ffn7.lean ====
/- The joined step ahead of a latent-attention or state-space layer: the per-layer update and the first feed-forward network
   with its residual; kernel and reference, read row by row. The point's arithmetic is that of the longer joined step. -/
module

public import proofs.«01_k».proof.Proof.Rows
public import proofs.«01_k».proof.Proof.Ffn5
public import proofs.«01_k».proof.Proof.Gen.Kernel7Ideal.Value
public import proofs.«01_k».proof.Proof.Gen.Reference7Ideal.Run
public import Idealize.ShloMosaic.Lib.Claim
public import Idealize.ShloMosaic.Lib.Pipeline.ValueKit

@[expose] public section

set_option maxRecDepth 16384

noncomputable section

namespace Cert.Kernel7Ideal.Ffn

open Idealize.ShloMosaic Idealize.ShloMosaic.TcCoe
open Cert.Kernel7Ideal Cert.Kernel7Ideal.Gen
open Cert.Rows
open Cert.Kernel5Ideal.Ffn (step pick)

section

variable (i : grid0.Coords) (x : Vec Ideal S512x1024 .f32) (n : Vec Ideal S1x1x1024 .f32) (X : Vec Ideal S1x1024x5632 .bf16)
  (Y : Vec Ideal S1x2816x1024 .bf16) (p q : Vec Ideal S1x512x256 .f32) (n' : Vec Ideal S1x1x1024 .f32)
  (wp : Vec Ideal S1x256x1024 .bf16) (wg : Vec Ideal S1x1024x1024 .bf16) (r : Fin 512)

/-- The result's row in the point's blocks. -/
def stepB : Fin 1024 → EReal :=
  step (fun a => x (ix2 r a)) (pick r i p q) (fun a => n (ix3 0 0 a)) (fun a => n' (ix3 0 0 a)) (fun a f => X (ix3 0 a f))
    (fun f j => Y (ix3 0 f j)) (fun a j => wp (ix3 0 a j)) (fun a j => wg (ix3 0 a j))

/-- A point's block of the result: the first result of the longer step, whatever its projection. -/
theorem out9_at (j : Fin 1024) :
    (out0_9 i x n X Y p q n' wp wg : S512x1024.Idx → EReal) (ix2 r j) = stepB i x n X Y p q n' wp wg r j :=
  Cert.Kernel5Ideal.Ffn.out11_at i x n X Y p q n' wp wg n' (fun _ => (0 : EReal)) r j

end

/-! ## The blocks in the arguments' elements, and the results -/

variable (m : (ℓ : Loc nD τ sig) → Buf (Elt Ideal) ℓ) (c : Dev nD)

/-- The arguments. -/
def aX : Vec Ideal S17408x1024 .f32 := m ((c : Thread nD τ).loc main_arg0)
def aP : Vec Ideal S4x4x4096x256 .f32 := m ((c : Thread nD τ).loc main_arg1)
def aQ : Vec Ideal S4x128x8x256 .f32 := m ((c : Thread nD τ).loc main_arg2)
def aN : Vec Ideal S4x1024 .f32 := m ((c : Thread nD τ).loc main_arg3)
def aGu : Vec Ideal S4x1024x5632 .f32 := m ((c : Thread nD τ).loc main_arg4)
def aD : Vec Ideal S4x2816x1024 .f32 := m ((c : Thread nD τ).loc main_arg5)
def aNp : Vec Ideal S4x1024 .f32 := m ((c : Thread nD τ).loc main_arg6)
def aWp : Vec Ideal S4x256x1024 .f32 := m ((c : Thread nD τ).loc main_arg7)
def aWg : Vec Ideal S4x1024x1024 .f32 := m ((c : Thread nD τ).loc main_arg8)
/-- One row of the layer's per-layer inputs: a prompt's row, or a sample's. -/
def prow (p : Vec Ideal S4x4x4096x256 .f32) (q : Vec Ideal S4x128x8x256 .f32) (i : Fin 17408) (a : Fin 256) : EReal :=
  if h : i.val < 16384 then p (ix4 0 ⟨i.val / 4096, by omega⟩ ⟨i.val % 4096, by omega⟩ a)
  else q (ix4 0 ⟨(i.val - 16384) / 8, by omega⟩ ⟨(i.val - 16384) % 8, by omega⟩ a)

/-- A row of the result, from the arguments. -/
def row (x : Vec Ideal S17408x1024 .f32) (p : Vec Ideal S4x4x4096x256 .f32) (q : Vec Ideal S4x128x8x256 .f32)
    (n : Vec Ideal S4x1024 .f32) (w : Vec Ideal S4x1024x5632 .f32) (d : Vec Ideal S4x2816x1024 .f32) (n' : Vec Ideal S4x1024 .f32)
    (wp : Vec Ideal S4x256x1024 .f32) (wg : Vec Ideal S4x1024x1024 .f32) (i : Fin 17408) : Fin 1024 → EReal :=
  step (fun a => x (ix2 i a)) (prow p q i) (fun a => n (ix2 1 a)) (fun a => n' (ix2 0 a)) (fun a f => w (ix3 1 a f))
    (fun f j => d (ix3 1 f j)) (fun a j => wp (ix3 0 a j)) (fun a j => wg (ix3 0 a j))

theorem v0_at (l : Fin 4) (i : Fin 16384) (a : Fin 256) :
    (V m c main_v0 : S4x16384x256.Idx → EReal) (ix3 l i a)
      = aP m c (ix4 l ⟨i.val / 4096, by omega⟩ ⟨i.val % 4096, by omega⟩ a) := by
  entry_read
  pointwise
  rfl

theorem v1_at (l : Fin 4) (i : Fin 1024) (a : Fin 256) :
    (V m c main_v1 : S4x1024x256.Idx → EReal) (ix3 l i a)
      = aQ m c (ix4 l ⟨i.val / 8, by omega⟩ ⟨i.val % 8, by omega⟩ a) := by
  entry_read
  pointwise
  rfl

theorem v2_at (l : Fin 4) (j : Fin 1024) :
    (V m c main_v2 : S4x1x1024.Idx → EReal) (ix3 l 0 j) = aN m c (ix2 l j) := by
  entry_read
  pointwise
  rfl

theorem v3_at (l : Fin 4) (j : Fin 1024) :
    (V m c main_v3 : S4x1x1024.Idx → EReal) (ix3 l 0 j) = aNp m c (ix2 l j) := by
  entry_read
  pointwise
  rfl

theorem v4_at (l : Fin 4) (a : Fin 1024) (j : Fin 5632) :
    (V m c main_v4 : S4x1024x5632.Idx → EReal) (ix3 l a j) = aGu m c (ix3 l a j) := by
  entry_read
  pointwise
  rfl

theorem v5_at (l : Fin 4) (a : Fin 2816) (j : Fin 1024) :
    (V m c main_v5 : S4x2816x1024.Idx → EReal) (ix3 l a j) = aD m c (ix3 l a j) := by
  entry_read
  pointwise
  rfl

theorem v6_at (l : Fin 4) (a : Fin 256) (j : Fin 1024) :
    (V m c main_v6 : S4x256x1024.Idx → EReal) (ix3 l a j) = aWp m c (ix3 l a j) := by
  entry_read
  pointwise
  rfl

theorem v7_at (l : Fin 4) (a : Fin 1024) (j : Fin 1024) :
    (V m c main_v7 : S4x1024x1024.Idx → EReal) (ix3 l a j) = aWg m c (ix3 l a j) := by
  entry_read
  pointwise
  rfl

/-- The blocks' places, by the point. -/
theorem place0 : ∀ t : Fin cfg0.N, win0_0.index t = ![t.val, 0] := (by decide +kernel : ∀ t : Fin grid0.N, _)
theorem place1 : ∀ t : Fin cfg0.N, win0_1.index t = ![1, 0, 0] := (by decide +kernel : ∀ t : Fin grid0.N, _)
theorem place2 : ∀ t : Fin cfg0.N, win0_2.index t = ![1, 0, 0] := (by decide +kernel : ∀ t : Fin grid0.N, _)
theorem place3 : ∀ t : Fin cfg0.N, win0_3.index t = ![1, 0, 0] := (by decide +kernel : ∀ t : Fin grid0.N, _)
theorem place4 : ∀ t : Fin cfg0.N, win0_4.index t = ![0, min t.val 31, 0] := (by decide +kernel : ∀ t : Fin grid0.N, _)
theorem place5 : ∀ t : Fin cfg0.N, win0_5.index t = ![0, t.val - 32, 0] := (by decide +kernel : ∀ t : Fin grid0.N, _)
theorem place6 : ∀ t : Fin cfg0.N, win0_6.index t = ![0, 0, 0] := (by decide +kernel : ∀ t : Fin grid0.N, _)
theorem place7 : ∀ t : Fin cfg0.N, win0_7.index t = ![0, 0, 0] := (by decide +kernel : ∀ t : Fin grid0.N, _)
theorem place8 : ∀ t : Fin cfg0.N, win0_8.index t = ![0, 0, 0] := (by decide +kernel : ∀ t : Fin grid0.N, _)
theorem place9 : ∀ t : Fin cfg0.N, win0_9.index t = ![t.val, 0] := (by decide +kernel : ∀ t : Fin grid0.N, _)
theorem flushes9 : ∀ t : Fin cfg0.N, (cfg0.win 9).flush t = true := (by decide +kernel : ∀ t : Fin grid0.N, _)
/-- The body's comparison, by the point. -/
theorem first : ∀ t : Fin cfg0.N, IntOp.cmpi CmpIPredicate.slt (IntOp.addi (0#32) (BitVec.ofNat 32 ↑(grid0.coords t 0))) 32#32
    = if t.val < 32 then 1#1 else 0#1 := (by decide +kernel : ∀ t : Fin grid0.N, _)

theorem b0_at (t : Fin cfg0.N) (ht : t.val < 34) (r : Fin 512) (j : Fin 1024) :
    (iblk m c 0 t : S512x1024.Idx → EReal) (ix2 r j) = aX m c (ix2 ⟨t.val * 512 + r.val, by omega⟩ j) := by
  blk_simp [iblk]
  refine (congrArg (V m c main_arg0) (funext fun a => Fin.ext ?_)).trans
    (congrFun (V_main_arg0 m c) (ix2 ⟨t.val * 512 + r.val, by omega⟩ j))
  show win0_0.index t a * S512x1024.size a + 1 * ((ix2 r j : S512x1024.Idx) a).val = _
  rw [place0 t]
  fin_cases a
  · show t.val * 512 + 1 * r.val = t.val * 512 + r.val
    omega
  · show 0 * 1024 + 1 * j.val = j.val
    omega

theorem b4_at (t : Fin cfg0.N) (ht : t.val < 32) (r : Fin 512) (j : Fin 256) :
    (iblk m c 4 t : S1x512x256.Idx → EReal) (ix3 0 r j)
      = aP m c (ix4 0 ⟨(t.val * 512 + r.val) / 4096, by omega⟩ ⟨(t.val * 512 + r.val) % 4096, by omega⟩ j) := by
  refine Eq.trans ?_ (v0_at m c 0 ⟨t.val * 512 + r.val, by omega⟩ j)
  blk_simp [iblk]
  refine congrArg (V m c main_v0) (funext fun a => Fin.ext ?_)
  show win0_4.index t a * S1x512x256.size a + 1 * ((ix3 0 r j : S1x512x256.Idx) a).val = _
  rw [place4 t]
  fin_cases a
  · show 0 * 1 + 1 * 0 = 0
    omega
  · show min t.val 31 * 512 + 1 * r.val = t.val * 512 + r.val
    omega
  · show 0 * 256 + 1 * j.val = j.val
    omega

theorem b5_at (t : Fin cfg0.N) (ht : t.val < 34) (h : 32 ≤ t.val) (r : Fin 512) (j : Fin 256) :
    (iblk m c 5 t : S1x512x256.Idx → EReal) (ix3 0 r j)
      = aQ m c (ix4 0 ⟨(t.val * 512 + r.val - 16384) / 8, by omega⟩ ⟨(t.val * 512 + r.val - 16384) % 8, by omega⟩ j) := by
  refine Eq.trans ?_ (v1_at m c 0 ⟨t.val * 512 + r.val - 16384, by omega⟩ j)
  blk_simp [iblk]
  refine congrArg (V m c main_v1) (funext fun a => Fin.ext ?_)
  show win0_5.index t a * S1x512x256.size a + 1 * ((ix3 0 r j : S1x512x256.Idx) a).val = _
  rw [place5 t]
  fin_cases a
  · show 0 * 1 + 1 * 0 = 0
    omega
  · show (t.val - 32) * 512 + 1 * r.val = t.val * 512 + r.val - 16384
    omega
  · show 0 * 256 + 1 * j.val = j.val
    omega

/-- The chosen row of per-layer inputs. -/
theorem pick_at (t : Fin cfg0.N) (ht : t.val < 34) (r : Fin 512) :
    pick r (grid0.coords t) (iblk m c 4 t) (iblk m c 5 t) = prow (aP m c) (aQ m c) ⟨t.val * 512 + r.val, by omega⟩ := by
  funext a
  unfold pick prow
  rw [first t]
  by_cases h : t.val < 32
  · rw [if_pos h, dif_pos (by show t.val * 512 + r.val < 16384; omega)]
    exact b4_at m c t h r a
  · rw [if_neg h, dif_neg (by show ¬ t.val * 512 + r.val < 16384; omega)]
    exact b5_at m c t ht (by omega) r a

theorem b1_at (t : Fin cfg0.N) (j : Fin 1024) :
    (iblk m c 1 t : S1x1x1024.Idx → EReal) (ix3 0 0 j) = aN m c (ix2 1 j) := by
  refine Eq.trans ?_ (v2_at m c 1 j)
  blk_simp [iblk]
  refine congrArg (V m c main_v2) (funext fun a => Fin.ext ?_)
  show win0_1.index t a * S1x1x1024.size a + 1 * ((ix3 0 0 j : S1x1x1024.Idx) a).val = _
  rw [place1 t]
  fin_cases a
  · show 1 * 1 + 1 * 0 = 1
    omega
  · show 0 * 1 + 1 * 0 = 0
    omega
  · show 0 * 1024 + 1 * j.val = j.val
    omega

theorem b6_at (t : Fin cfg0.N) (j : Fin 1024) :
    (iblk m c 6 t : S1x1x1024.Idx → EReal) (ix3 0 0 j) = aNp m c (ix2 0 j) := by
  refine Eq.trans ?_ (v3_at m c 0 j)
  blk_simp [iblk]
  refine congrArg (V m c main_v3) (funext fun a => Fin.ext ?_)
  show win0_6.index t a * S1x1x1024.size a + 1 * ((ix3 0 0 j : S1x1x1024.Idx) a).val = _
  rw [place6 t]
  fin_cases a
  · show 0 * 1 + 1 * 0 = 0
    omega
  · show 0 * 1 + 1 * 0 = 0
    omega
  · show 0 * 1024 + 1 * j.val = j.val
    omega

theorem b2_at (t : Fin cfg0.N) (k : Fin 1024) (j : Fin 5632) :
    (iblk m c 2 t : S1x1024x5632.Idx → EReal) (ix3 0 k j) = aGu m c (ix3 1 k j) := by
  refine Eq.trans ?_ (v4_at m c 1 k j)
  blk_simp [iblk]
  refine congrArg (V m c main_v4) (funext fun a => Fin.ext ?_)
  show win0_2.index t a * S1x1024x5632.size a + 1 * ((ix3 0 k j : S1x1024x5632.Idx) a).val = _
  rw [place2 t]
  fin_cases a
  · show 1 * 1 + 1 * 0 = 1
    omega
  · show 0 * 1024 + 1 * k.val = k.val
    omega
  · show 0 * 5632 + 1 * j.val = j.val
    omega

theorem b3_at (t : Fin cfg0.N) (k : Fin 2816) (j : Fin 1024) :
    (iblk m c 3 t : S1x2816x1024.Idx → EReal) (ix3 0 k j) = aD m c (ix3 1 k j) := by
  refine Eq.trans ?_ (v5_at m c 1 k j)
  blk_simp [iblk]
  refine congrArg (V m c main_v5) (funext fun a => Fin.ext ?_)
  show win0_3.index t a * S1x2816x1024.size a + 1 * ((ix3 0 k j : S1x2816x1024.Idx) a).val = _
  rw [place3 t]
  fin_cases a
  · show 1 * 1 + 1 * 0 = 1
    omega
  · show 0 * 2816 + 1 * k.val = k.val
    omega
  · show 0 * 1024 + 1 * j.val = j.val
    omega

theorem b7_at (t : Fin cfg0.N) (k : Fin 256) (j : Fin 1024) :
    (iblk m c 7 t : S1x256x1024.Idx → EReal) (ix3 0 k j) = aWp m c (ix3 0 k j) := by
  refine Eq.trans ?_ (v6_at m c 0 k j)
  blk_simp [iblk]
  refine congrArg (V m c main_v6) (funext fun a => Fin.ext ?_)
  show win0_7.index t a * S1x256x1024.size a + 1 * ((ix3 0 k j : S1x256x1024.Idx) a).val = _
  rw [place7 t]
  fin_cases a
  · show 0 * 1 + 1 * 0 = 0
    omega
  · show 0 * 256 + 1 * k.val = k.val
    omega
  · show 0 * 1024 + 1 * j.val = j.val
    omega

theorem b8_at (t : Fin cfg0.N) (k : Fin 1024) (j : Fin 1024) :
    (iblk m c 8 t : S1x1024x1024.Idx → EReal) (ix3 0 k j) = aWg m c (ix3 0 k j) := by
  refine Eq.trans ?_ (v7_at m c 0 k j)
  blk_simp [iblk]
  refine congrArg (V m c main_v7) (funext fun a => Fin.ext ?_)
  show win0_8.index t a * S1x1024x1024.size a + 1 * ((ix3 0 k j : S1x1024x1024.Idx) a).val = _
  rw [place8 t]
  fin_cases a
  · show 0 * 1 + 1 * 0 = 0
    omega
  · show 0 * 1024 + 1 * k.val = k.val
    omega
  · show 0 * 1024 + 1 * j.val = j.val
    omega

/-- A point's rows of the result, in the arguments' elements. -/
theorem stepB_at (t : Fin cfg0.N) (ht : t.val < 34) (r : Fin 512) :
    stepB (grid0.coords t) (iblk m c 0 t) (iblk m c 1 t) (iblk m c 2 t) (iblk m c 3 t) (iblk m c 4 t) (iblk m c 5 t) (iblk m c 6 t)
        (iblk m c 7 t) (iblk m c 8 t) r
      = row (aX m c) (aP m c) (aQ m c) (aN m c) (aGu m c) (aD m c) (aNp m c) (aWp m c) (aWg m c)
        ⟨t.val * 512 + r.val, by omega⟩ := by
  have e0 := funext fun a => b0_at m c t ht r a
  have e1 := funext fun a => b1_at m c t a
  have e2 := funext fun k => funext fun a => b2_at m c t k a
  have e3 := funext fun k => funext fun a => b3_at m c t k a
  have e6 := funext fun a => b6_at m c t a
  have e7 := funext fun k => funext fun a => b7_at m c t k a
  have e8 := funext fun k => funext fun a => b8_at m c t k a
  unfold stepB row
  rw [e0, e1, e2, e3, e6, e7, e8, pick_at m c t ht r]

theorem blk9_at (t : Fin cfg0.N) (ht : t.val < 34) (r : Fin 512) (j : Fin 1024) :
    (out0_9 (grid0.coords t) (iblk m c 0 t) (iblk m c 1 t) (iblk m c 2 t) (iblk m c 3 t) (iblk m c 4 t) (iblk m c 5 t)
        (iblk m c 6 t) (iblk m c 7 t) (iblk m c 8 t) : S512x1024.Idx → EReal) (ix2 r j)
      = row (aX m c) (aP m c) (aQ m c) (aN m c) (aGu m c) (aD m c) (aNp m c) (aWp m c) (aWg m c)
        ⟨t.val * 512 + r.val, by omega⟩ j :=
  (out9_at (grid0.coords t) (iblk m c 0 t) (iblk m c 1 t) (iblk m c 2 t) (iblk m c 3 t) (iblk m c 4 t) (iblk m c 5 t) (iblk m c 6 t) (iblk m c 7 t) (iblk m c 8 t) r j).trans (congrFun (stepB_at m c t ht r) j)

/-- Where a point's element lies. -/
theorem emb9 (t : Fin cfg0.N) (y : S512x1024.Idx) (a : Fin 2) :
    ((((cfg0.win 9).blk t).view.emb y : S17408x1024.Idx) a).val = (![t.val * 512, 0] : Fin 2 → ℕ) a + (y a).val := by
  show win0_9.index t a * S512x1024.size a + 1 * (y a).val = _
  rw [place9 t]
  fin_cases a
  · show t.val * 512 + 1 * (y 0).val = t.val * 512 + (y 0).val
    omega
  · show 0 * 1024 + 1 * (y 1).val = 0 + (y 1).val
    omega

/-- The result's rows. -/
theorem value9_at (i : Fin 17408) (j : Fin 1024) :
    ((dats m 0 c).arrAt 9 cfg0.N : S17408x1024.Idx → EReal) (ix2 i j)
      = row (aX m c) (aP m c) (aQ m c) (aN m c) (aGu m c) (aD m c) (aNp m c) (aWp m c) (aWg m c) i j := by
  have ht : i.val / 512 < 34 := by omega
  have h := congrFun ((Value.blocks9 m c ⟨i.val / 512, ht⟩ (flushes9 _)).trans (Value.flushed9 m c ⟨i.val / 512, ht⟩))
    (ix2 ⟨i.val % 512, by omega⟩ j)
  refine Eq.trans (congrArg ((dats m 0 c).arrAt 9 cfg0.N) (funext fun a => Fin.ext ?_))
    (h.trans ((blk9_at m c ⟨i.val / 512, ht⟩ ht ⟨i.val % 512, by omega⟩ j).trans ?_))
  · rw [emb9]
    fin_cases a
    · show i.val = i.val / 512 * 512 + i.val % 512
      omega
    · show j.val = 0 + j.val
      omega
  · refine congrArg (fun i => row (aX m c) (aP m c) (aQ m c) (aN m c) (aGu m c) (aD m c) (aNp m c) (aWp m c) (aWg m c) i j) (Fin.ext ?_)
    show i.val / 512 * 512 + i.val % 512 = i.val
    omega

end Cert.Kernel7Ideal.Ffn

namespace Cert.Reference7Ideal.Ffn

open Idealize.ShloMosaic Idealize.ShloMosaic.TcCoe
open Cert.Reference7Ideal Cert.Reference7Ideal.Gen Cert.Reference7Ideal.Value
open Cert.Kernel7Ideal.Ffn (prow row)

/-- The two inputs' rows laid one after the other. -/
def cat (p : Vec Ideal S16384x256 .f32) (q : Vec Ideal S1024x256 .f32) : Vec Ideal S17408x256 .f32 :=
  concatenate S17408x256 0 [⟨S16384x256, p⟩, ⟨S1024x256, q⟩] concatenates_S16384x256_S1024x256_S17408x256_d0

/-- The prompt's rows of the layer, and the samples'. -/
def pp (p : Vec Ideal S4x4x4096x256 .f32) : Vec Ideal S16384x256 .f32 :=
  shapeCast _ (shapeCast _ (extractStridedSlice S1x4x4096x256 ![0, 0, 0, 0] p slices_S4x4x4096x256_S1x4x4096x256_0_0_0_0)
    shapeCasts_S1x4x4096x256_S4x4096x256) shapeCasts_S4x4096x256_S16384x256

def ps (q : Vec Ideal S4x128x8x256 .f32) : Vec Ideal S1024x256 .f32 :=
  shapeCast _ (shapeCast _ (extractStridedSlice S1x128x8x256 ![0, 0, 0, 0] q slices_S4x128x8x256_S1x128x8x256_0_0_0_0)
    shapeCasts_S1x128x8x256_S128x8x256) shapeCasts_S128x8x256_S1024x256

theorem pp_at (p : Vec Ideal S4x4x4096x256 .f32) (i : Fin 16384) (a : Fin 256) :
    pp p (ix2 i a) = p (ix4 0 ⟨i.val / 4096, by omega⟩ ⟨i.val % 4096, by omega⟩ a) := by
  unfold pp
  pointwise

theorem ps_at (q : Vec Ideal S4x128x8x256 .f32) (i : Fin 1024) (a : Fin 256) :
    ps q (ix2 i a) = q (ix4 0 ⟨i.val / 8, by omega⟩ ⟨i.val % 8, by omega⟩ a) := by
  unfold ps
  pointwise

theorem cat_at (p : Vec Ideal S4x4x4096x256 .f32) (q : Vec Ideal S4x128x8x256 .f32) (i : Fin 17408) (a : Fin 256) :
    cat (pp p) (ps q) (ix2 i a) = prow p q i a := by
  unfold cat prow
  by_cases h : i.val < 16384
  · rw [dif_pos h, concatenate_pair_apply_left (t := S17408x256) (s₁ := S16384x256) (s₂ := S1024x256) 0 _ _ _ (ix2 i a) rfl
      (ix2 ⟨i.val, h⟩ a) (fun b => by fin_cases b <;> rfl)]
    exact pp_at p ⟨i.val, h⟩ a
  · rw [dif_neg h, concatenate_pair_apply_right (t := S17408x256) (s₁ := S16384x256) (s₂ := S1024x256) 0 _ _ _ (ix2 i a) rfl rfl
      (ix2 ⟨i.val - 16384, by omega⟩ a) (fun b hb => by
        fin_cases b
        · exact absurd rfl hb
        · rfl) (by show i.val - 16384 + 16384 = i.val; omega)]
    exact ps_at q ⟨i.val - 16384, by omega⟩ a

/-- The reference's laid-out rows are these. -/
theorem cat_eq (p : Vec Ideal S4x4x4096x256 .f32) (q : Vec Ideal S4x128x8x256 .f32) :
    concatenate S17408x256 0 [⟨S16384x256, shapeCast _ (shapeCast _ (extractStridedSlice S1x4x4096x256 ![0, 0, 0, 0] p
        slices_S4x4x4096x256_S1x4x4096x256_0_0_0_0) shapeCasts_S1x4x4096x256_S4x4096x256) shapeCasts_S4x4096x256_S16384x256⟩,
      ⟨S1024x256, shapeCast _ (shapeCast _ (extractStridedSlice S1x128x8x256 ![0, 0, 0, 0] q
        slices_S4x128x8x256_S1x128x8x256_0_0_0_0) shapeCasts_S1x128x8x256_S128x8x256) shapeCasts_S128x8x256_S1024x256⟩]
      concatenates_S16384x256_S1024x256_S17408x256_d0 = cat (pp p) (ps q) := rfl

variable (m : (ℓ : Loc nD τ sig) → Buf (Elt Ideal) ℓ) (c : Dev nD)

/-- The reference's rows. -/
theorem value_at (i : Fin 17408) (j : Fin 1024) :
    (res_out0 m c : S17408x1024.Idx → EReal) (ix2 i j)
      = row (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) i j := by
  unfold res_out0 res_main_v63
  rw [cat_eq]
  pointwise
  simp only [cat_at]
  rfl

end Cert.Reference7Ideal.Ffn

end
-- ==== Proof.Ffn8.lean ====
/- The joined step of the first layer: the first feed-forward network with its residual on the two groups' rows and the
   projection to queries, keys and values; kernel and reference, read row by row. The point's
   rows are chosen from the two groups by its number. -/
module

public import proofs.«01_k».proof.Proof.Rows
public import proofs.«01_k».proof.Proof.Ffn2
public import proofs.«01_k».proof.Proof.Gen.Kernel8Ideal.Value
public import proofs.«01_k».proof.Proof.Gen.Reference8Ideal.Run
public import Idealize.ShloMosaic.Lib.Claim
public import Idealize.ShloMosaic.Lib.Pipeline.ValueKit

@[expose] public section

set_option maxRecDepth 16384

noncomputable section

namespace Cert.Kernel8Ideal.Ffn

open Idealize.ShloMosaic Idealize.ShloMosaic.TcCoe
open Cert.Kernel8Ideal Cert.Kernel8Ideal.Gen
open Cert.Rows

/-- The point's rows: the prompt's block while the point's number is below 32, else the samples'. -/
def pick (i : grid0.Coords) (p q : Vec Ideal S512x1024 .f32) : Vec Ideal S512x1024 .f32 := fun y =>
  Scalar.select (IntOp.cmpi CmpIPredicate.slt (IntOp.addi (0#32) (BitVec.ofNat 32 ↑(i 0))) 32#32) (p y) (q y)

section

variable (i : grid0.Coords) (p q x s : FVec Ideal S512x1024 .f32) (n : Vec Ideal S1x1x1024 .f32) (h : FVec Ideal S512x1024 .bf16)
  (g u g' u' g'' u'' : Vec Ideal S1x1024x256 .bf16) (d d' d'' : Vec Ideal S1x256x1024 .bf16) (r : Fin 512) (j : Fin 1024)

/-- One tile of hidden units, from the loaded weights. -/
def part : EReal :=
  chunk (fun a => h (ix2 r a)) (fun a f => g (ix3 0 a f)) (fun a f => u (ix3 0 a f)) (fun f j => d (ix3 0 f j)) j

/-- The chosen rows are chosen element by element. -/
theorem pay2_at : k0_pay2 (F := Ideal) i p q (ix2 r j) = pick i p q (ix2 r j) := by
  unfold k0_pay2 pick
  pointwise

theorem pay3_at : k0_pay3 i p q n (ix2 r j) = rms (fun a => pick i p q (ix2 r a)) (fun a => n (ix3 0 0 a)) j := by
  unfold k0_pay3
  pointwise
  simp only [pay2_at]
  rfl

theorem pay6_at : k0_pay6 (k0_pay3 i p q n) (k0_pay4 (F := Ideal)) (k0_pay5 i p q n g u) d g' u' d' g'' u'' d'' (ix2 r j)
    = part (k0_pay3 i p q n) g u d r j + part (k0_pay3 i p q n) g' u' d' r j + part (k0_pay3 i p q n) g'' u'' d'' r j := by
  unfold k0_pay6 k0_pay5 k0_pay4
  pointwise
  rfl

theorem pay7_at : k0_pay7 h s g u d g' u' d' (ix2 r j) = s (ix2 r j) + part h g u d r j + part h g' u' d' r j := by
  unfold k0_pay7
  pointwise
  rfl

theorem pay9_at : k0_pay9 h s (k0_pay8 h g) u d g' u' d' (ix2 r j) = s (ix2 r j) + part h g u d r j + part h g' u' d' r j := by
  unfold k0_pay9 k0_pay8
  pointwise
  rfl

theorem pay11_at : k0_pay11 h s (k0_pay10 h g u) d g' u' d' g'' u'' d'' (ix2 r j)
    = s (ix2 r j) + part h g u d r j + part h g' u' d' r j + part h g'' u'' d'' r j := by
  unfold k0_pay11 k0_pay10
  pointwise
  rfl

theorem pay12_at : k0_pay12 x h s g u d (ix2 r j)
    = x (ix2 r j) + Ideal.ofBits FTy.f32 0x3F000000#32 * (s (ix2 r j) + part h g u d r j) := by
  unfold k0_pay12
  pointwise
  rfl

end

/-- A tile of the loaded slices is that tile of the network. -/
theorem part_ld (h : FVec Ideal S512x1024 .bf16) (X : Vec Ideal S1x1024x5632 .bf16) (Y : Vec Ideal S1x2816x1024 .bf16)
    (r : Fin 512) (j : Fin 1024) (b : Fin 11) (o o' : ℕ) (inb inb' inb'') (ho : o = b.val * 256) (ho' : o' = 2816 + b.val * 256) :
    part h (View.ld X (Rect.unit (s := S1x1024x5632) ![0, 0, o] S1x1024x256.size inb))
        (View.ld X (Rect.unit (s := S1x1024x5632) ![0, 0, o'] S1x1024x256.size inb'))
        (View.ld Y (Rect.unit (s := S1x2816x1024) ![0, o, 0] S1x256x1024.size inb'')) r j
      = tile (fun a => h (ix2 r a)) (fun a f => X (ix3 0 a f)) (fun f j => Y (ix3 0 f j)) j b :=
  Cert.Kernel2Ideal.Ffn.part_ld h X Y r j b o o' inb inb' inb'' ho ho'

section

variable (i : grid0.Coords) (p q : Vec Ideal S512x1024 .f32) (n : Vec Ideal S1x1x1024 .f32) (X : Vec Ideal S1x1024x5632 .bf16)
  (Y : Vec Ideal S1x2816x1024 .bf16) (n' : Vec Ideal S1x1x1024 .f32) (wq : Vec Ideal S1x1024x1536 .bf16) (r : Fin 512)

/-- The network's step on a row. -/
def step (x n : Fin 1024 → EReal) (w : Fin 1024 → Fin 5632 → EReal) (d : Fin 2816 → Fin 1024 → EReal) (j : Fin 1024) : EReal :=
  x j + Ideal.ofBits FTy.f32 0x3F000000#32 * ffn (rms x n) w d j

/-- The first result's row in the point's blocks. -/
def stepB : Fin 1024 → EReal :=
  step (fun a => pick i p q (ix2 r a)) (fun a => n (ix3 0 0 a)) (fun a f => X (ix3 0 a f)) (fun f j => Y (ix3 0 f j))

/-- The projection of the stored row. -/
theorem pay1_at (x s : FVec Ideal S512x1024 .f32) (h : FVec Ideal S512x1024 .bf16) (g u : Vec Ideal S1x1024x256 .bf16)
    (d : Vec Ideal S1x256x1024 .bf16) (j : Fin 1536) :
    k0_pay1 (k0_pay13 x h s g u d n') (k0_pay14 wq) (ix2 r j)
      = ∑ k, rms (fun k => k0_pay12 x h s g u d (ix2 r k)) (fun k => n' (ix3 0 0 k)) k * wq (ix3 0 k j) := by
  unfold k0_pay1 k0_pay13 k0_pay14 k0_pay12
  pointwise
  rfl

/-- The stored row: the network's step on the chosen row. -/
theorem y_at (j : Fin 1024) :
    k0_pay12 (k0_pay15 i p q n X Y n' wq) (k0_pay16 i p q n X Y n' wq) (k0_pay17 i p q n X Y n' wq) (View.ld X r0_32)
        (View.ld X r0_33) (View.ld Y r0_34) (ix2 r j) = stepB i p q n X Y r j := by
  have z2 : ∀ a : Fin 2, (![0, 0] : Fin 2 → ℕ) a = 0 := by decide
  have z3 : ∀ a : Fin 3, (![0, 0, 0] : Fin 3 → ℕ) a = 0 := by decide
  have e0 : View.ld p r0_0 = p := View.ld_unit_lit _ p z2
  have e1 : View.ld q r0_0 = q := View.ld_unit_lit _ q z2
  have e2 : View.ld n r0_1 = n := View.ld_unit_lit _ n z3
  unfold k0_pay17 k0_pay16 k0_pay15
  rw [e0, e1, e2, pay12_at, pay11_at, pay9_at, pay7_at, pay6_at]
  have ep : k0_pay2 (F := Ideal) i p q (ix2 r j) = pick i p q (ix2 r j) := pay2_at i p q r j
  rw [ep]
  have eh : (fun a => (k0_pay3 i p q n : S512x1024.Idx → EReal) (ix2 r a))
      = rms (fun a => pick i p q (ix2 r a)) (fun a => n (ix3 0 0 a)) := funext fun a => pay3_at i p q n r a
  rw [part_ld _ X Y r j 0 0 2816 _ _ _ rfl rfl, part_ld _ X Y r j 1 256 3072 _ _ _ rfl rfl,
    part_ld _ X Y r j 2 512 3328 _ _ _ rfl rfl, part_ld _ X Y r j 3 768 3584 _ _ _ rfl rfl,
    part_ld _ X Y r j 4 1024 3840 _ _ _ rfl rfl, part_ld _ X Y r j 5 1280 4096 _ _ _ rfl rfl,
    part_ld _ X Y r j 6 1536 4352 _ _ _ rfl rfl, part_ld _ X Y r j 7 1792 4608 _ _ _ rfl rfl,
    part_ld _ X Y r j 8 2048 4864 _ _ _ rfl rfl, part_ld _ X Y r j 9 2304 5120 _ _ _ rfl rfl,
    part_ld _ X Y r j 10 2560 5376 _ _ _ rfl rfl, eh]
  unfold stepB step
  rw [ffn_tiles]

/-- A point's block of the first result. -/
theorem out7_at (j : Fin 1024) :
    (out0_7 i p q n X Y n' wq : S512x1024.Idx → EReal) (ix2 r j) = stepB i p q n X Y r j := by
  have z2 : ∀ a : Fin 2, (![0, 0] : Fin 2 → ℕ) a = 0 := by decide
  unfold out0_7
  rw [View.canon_cons_unit_lit _ _ _ z2, y_at]

/-- A point's block of the second result: the projection of the first one's rows. -/
theorem out8_at (j : Fin 1536) :
    (out0_8 i p q n X Y n' wq : S512x1536.Idx → EReal) (ix2 r j)
      = ∑ k, rms (stepB i p q n X Y r) (fun k => n' (ix3 0 0 k)) k * wq (ix3 0 k j) := by
  have z2 : ∀ a : Fin 2, (![0, 0] : Fin 2 → ℕ) a = 0 := by decide
  have z3 : ∀ a : Fin 3, (![0, 0, 0] : Fin 3 → ℕ) a = 0 := by decide
  have e0 : View.ld n' r0_1 = n' := View.ld_unit_lit _ n' z3
  have e1 : View.ld wq r0_35 = wq := View.ld_unit_lit _ wq z3
  unfold out0_8
  rw [View.canon_cons_unit_lit _ _ _ z2, pay1_at, e0, e1]
  have ey := funext fun j => y_at i p q n X Y n' wq r j
  rw [ey]

end

/-! ## The blocks in the arguments' elements, and the results -/

variable (m : (ℓ : Loc nD τ sig) → Buf (Elt Ideal) ℓ) (c : Dev nD)

/-- The arguments. -/
def aP : Vec Ideal S4x4096x1024 .f32 := m ((c : Thread nD τ).loc main_arg0)
def aQ : Vec Ideal S128x8x1024 .f32 := m ((c : Thread nD τ).loc main_arg1)
def aN : Vec Ideal S4x1024 .f32 := m ((c : Thread nD τ).loc main_arg2)
def aGu : Vec Ideal S4x1024x5632 .f32 := m ((c : Thread nD τ).loc main_arg3)
def aD : Vec Ideal S4x2816x1024 .f32 := m ((c : Thread nD τ).loc main_arg4)
def aNm : Vec Ideal S4x1024 .f32 := m ((c : Thread nD τ).loc main_arg5)
def aWq : Vec Ideal S2x1024x1536 .f32 := m ((c : Thread nD τ).loc main_arg6)

/-- One row of the layer's input: a prompt's row, or a sample's. -/
def xrow (p : Vec Ideal S4x4096x1024 .f32) (q : Vec Ideal S128x8x1024 .f32) (i : Fin 17408) (a : Fin 1024) : EReal :=
  if h : i.val < 16384 then p (ix3 ⟨i.val / 4096, by omega⟩ ⟨i.val % 4096, by omega⟩ a)
  else q (ix3 ⟨(i.val - 16384) / 8, by omega⟩ ⟨(i.val - 16384) % 8, by omega⟩ a)

/-- A row of the first result, from the arguments. -/
def row (p : Vec Ideal S4x4096x1024 .f32) (q : Vec Ideal S128x8x1024 .f32) (n : Vec Ideal S4x1024 .f32)
    (w : Vec Ideal S4x1024x5632 .f32) (d : Vec Ideal S4x2816x1024 .f32) (i : Fin 17408) : Fin 1024 → EReal :=
  step (xrow p q i) (fun a => n (ix2 0 a)) (fun a f => w (ix3 0 a f)) (fun f j => d (ix3 0 f j))

/-- A row of the second result: the projection of the first one's row. -/
def qrow (y : Fin 1024 → EReal) (n : Vec Ideal S4x1024 .f32) (w : Vec Ideal S2x1024x1536 .f32) (j : Fin 1536) : EReal :=
  ∑ k, rms y (fun k => n (ix2 0 k)) k * w (ix3 0 k j)

theorem v0_at (i : Fin 16384) (a : Fin 1024) :
    (V m c main_v0 : S16384x1024.Idx → EReal) (ix2 i a) = aP m c (ix3 ⟨i.val / 4096, by omega⟩ ⟨i.val % 4096, by omega⟩ a) := by
  entry_read
  pointwise
  rfl

theorem v1_at (i : Fin 1024) (a : Fin 1024) :
    (V m c main_v1 : S1024x1024.Idx → EReal) (ix2 i a) = aQ m c (ix3 ⟨i.val / 8, by omega⟩ ⟨i.val % 8, by omega⟩ a) := by
  entry_read
  pointwise
  rfl

theorem v2_at (l : Fin 4) (j : Fin 1024) :
    (V m c main_v2 : S4x1x1024.Idx → EReal) (ix3 l 0 j) = aN m c (ix2 l j) := by
  entry_read
  pointwise
  rfl

theorem v3_at (l : Fin 4) (j : Fin 1024) :
    (V m c main_v3 : S4x1x1024.Idx → EReal) (ix3 l 0 j) = aNm m c (ix2 l j) := by
  entry_read
  pointwise
  rfl

theorem v4_at (l : Fin 4) (a : Fin 1024) (j : Fin 5632) :
    (V m c main_v4 : S4x1024x5632.Idx → EReal) (ix3 l a j) = aGu m c (ix3 l a j) := by
  entry_read
  pointwise
  rfl

theorem v5_at (l : Fin 4) (a : Fin 2816) (j : Fin 1024) :
    (V m c main_v5 : S4x2816x1024.Idx → EReal) (ix3 l a j) = aD m c (ix3 l a j) := by
  entry_read
  pointwise
  rfl

theorem v6_at (l : Fin 2) (a : Fin 1024) (j : Fin 1536) :
    (V m c main_v6 : S2x1024x1536.Idx → EReal) (ix3 l a j) = aWq m c (ix3 l a j) := by
  entry_read
  pointwise
  rfl

/-- The blocks' places, by the point. -/
theorem place0 : ∀ t : Fin cfg0.N, win0_0.index t = ![min t.val 31, 0] := (by decide +kernel : ∀ t : Fin grid0.N, _)
theorem place1 : ∀ t : Fin cfg0.N, win0_1.index t = ![t.val - 32, 0] := (by decide +kernel : ∀ t : Fin grid0.N, _)
theorem place2 : ∀ t : Fin cfg0.N, win0_2.index t = ![0, 0, 0] := (by decide +kernel : ∀ t : Fin grid0.N, _)
theorem place3 : ∀ t : Fin cfg0.N, win0_3.index t = ![0, 0, 0] := (by decide +kernel : ∀ t : Fin grid0.N, _)
theorem place4 : ∀ t : Fin cfg0.N, win0_4.index t = ![0, 0, 0] := (by decide +kernel : ∀ t : Fin grid0.N, _)
theorem place5 : ∀ t : Fin cfg0.N, win0_5.index t = ![0, 0, 0] := (by decide +kernel : ∀ t : Fin grid0.N, _)
theorem place6 : ∀ t : Fin cfg0.N, win0_6.index t = ![0, 0, 0] := (by decide +kernel : ∀ t : Fin grid0.N, _)
theorem place7 : ∀ t : Fin cfg0.N, win0_7.index t = ![t.val, 0] := (by decide +kernel : ∀ t : Fin grid0.N, _)
theorem place8 : ∀ t : Fin cfg0.N, win0_8.index t = ![t.val, 0] := (by decide +kernel : ∀ t : Fin grid0.N, _)

theorem flushes7 : ∀ t : Fin cfg0.N, (cfg0.win 7).flush t = true := (by decide +kernel : ∀ t : Fin grid0.N, _)
theorem flushes8 : ∀ t : Fin cfg0.N, (cfg0.win 8).flush t = true := (by decide +kernel : ∀ t : Fin grid0.N, _)

/-- The body's comparison, by the point. -/
theorem first : ∀ t : Fin cfg0.N, IntOp.cmpi CmpIPredicate.slt (IntOp.addi (0#32) (BitVec.ofNat 32 ↑(grid0.coords t 0))) 32#32
    = if t.val < 32 then 1#1 else 0#1 := (by decide +kernel : ∀ t : Fin grid0.N, _)

theorem b0_at (t : Fin cfg0.N) (ht : t.val < 32) (r : Fin 512) (j : Fin 1024) :
    (iblk m c 0 t : S512x1024.Idx → EReal) (ix2 r j)
      = aP m c (ix3 ⟨(t.val * 512 + r.val) / 4096, by omega⟩ ⟨(t.val * 512 + r.val) % 4096, by omega⟩ j) := by
  refine Eq.trans ?_ (v0_at m c ⟨t.val * 512 + r.val, by omega⟩ j)
  blk_simp [iblk]
  refine congrArg (V m c main_v0) (funext fun a => Fin.ext ?_)
  show win0_0.index t a * S512x1024.size a + 1 * ((ix2 r j : S512x1024.Idx) a).val = _
  rw [place0 t]
  fin_cases a
  · show min t.val 31 * 512 + 1 * r.val = t.val * 512 + r.val
    omega
  · show 0 * 1024 + 1 * j.val = j.val
    omega

theorem b1_at (t : Fin cfg0.N) (ht : t.val < 34) (h : 32 ≤ t.val) (r : Fin 512) (j : Fin 1024) :
    (iblk m c 1 t : S512x1024.Idx → EReal) (ix2 r j)
      = aQ m c (ix3 ⟨(t.val * 512 + r.val - 16384) / 8, by omega⟩ ⟨(t.val * 512 + r.val - 16384) % 8, by omega⟩ j) := by
  refine Eq.trans ?_ (v1_at m c ⟨t.val * 512 + r.val - 16384, by omega⟩ j)
  blk_simp [iblk]
  refine congrArg (V m c main_v1) (funext fun a => Fin.ext ?_)
  show win0_1.index t a * S512x1024.size a + 1 * ((ix2 r j : S512x1024.Idx) a).val = _
  rw [place1 t]
  fin_cases a
  · show (t.val - 32) * 512 + 1 * r.val = t.val * 512 + r.val - 16384
    omega
  · show 0 * 1024 + 1 * j.val = j.val
    omega

/-- The chosen row. -/
theorem pick_at (t : Fin cfg0.N) (ht : t.val < 34) (r : Fin 512) (a : Fin 1024) :
    pick (grid0.coords t) (iblk m c 0 t) (iblk m c 1 t) (ix2 r a) = xrow (aP m c) (aQ m c) ⟨t.val * 512 + r.val, by omega⟩ a := by
  unfold pick xrow
  rw [first t]
  by_cases h : t.val < 32
  · rw [if_pos h, dif_pos (by show t.val * 512 + r.val < 16384; omega)]
    exact b0_at m c t h r a
  · rw [if_neg h, dif_neg (by show ¬ t.val * 512 + r.val < 16384; omega)]
    exact b1_at m c t ht (by omega) r a

theorem b2_at (t : Fin cfg0.N) (j : Fin 1024) :
    (iblk m c 2 t : S1x1x1024.Idx → EReal) (ix3 0 0 j) = aN m c (ix2 0 j) := by
  refine Eq.trans ?_ (v2_at m c 0 j)
  blk_simp [iblk]
  refine congrArg (V m c main_v2) (funext fun a => Fin.ext ?_)
  show win0_2.index t a * S1x1x1024.size a + 1 * ((ix3 0 0 j : S1x1x1024.Idx) a).val = _
  rw [place2 t]
  fin_cases a
  · show 0 * 1 + 1 * 0 = 0
    omega
  · show 0 * 1 + 1 * 0 = 0
    omega
  · show 0 * 1024 + 1 * j.val = j.val
    omega

theorem b5_at (t : Fin cfg0.N) (j : Fin 1024) :
    (iblk m c 5 t : S1x1x1024.Idx → EReal) (ix3 0 0 j) = aNm m c (ix2 0 j) := by
  refine Eq.trans ?_ (v3_at m c 0 j)
  blk_simp [iblk]
  refine congrArg (V m c main_v3) (funext fun a => Fin.ext ?_)
  show win0_5.index t a * S1x1x1024.size a + 1 * ((ix3 0 0 j : S1x1x1024.Idx) a).val = _
  rw [place5 t]
  fin_cases a
  · show 0 * 1 + 1 * 0 = 0
    omega
  · show 0 * 1 + 1 * 0 = 0
    omega
  · show 0 * 1024 + 1 * j.val = j.val
    omega

theorem b3_at (t : Fin cfg0.N) (k : Fin 1024) (j : Fin 5632) :
    (iblk m c 3 t : S1x1024x5632.Idx → EReal) (ix3 0 k j) = aGu m c (ix3 0 k j) := by
  refine Eq.trans ?_ (v4_at m c 0 k j)
  blk_simp [iblk]
  refine congrArg (V m c main_v4) (funext fun a => Fin.ext ?_)
  show win0_3.index t a * S1x1024x5632.size a + 1 * ((ix3 0 k j : S1x1024x5632.Idx) a).val = _
  rw [place3 t]
  fin_cases a
  · show 0 * 1 + 1 * 0 = 0
    omega
  · show 0 * 1024 + 1 * k.val = k.val
    omega
  · show 0 * 5632 + 1 * j.val = j.val
    omega

theorem b4_at (t : Fin cfg0.N) (k : Fin 2816) (j : Fin 1024) :
    (iblk m c 4 t : S1x2816x1024.Idx → EReal) (ix3 0 k j) = aD m c (ix3 0 k j) := by
  refine Eq.trans ?_ (v5_at m c 0 k j)
  blk_simp [iblk]
  refine congrArg (V m c main_v5) (funext fun a => Fin.ext ?_)
  show win0_4.index t a * S1x2816x1024.size a + 1 * ((ix3 0 k j : S1x2816x1024.Idx) a).val = _
  rw [place4 t]
  fin_cases a
  · show 0 * 1 + 1 * 0 = 0
    omega
  · show 0 * 2816 + 1 * k.val = k.val
    omega
  · show 0 * 1024 + 1 * j.val = j.val
    omega

theorem b6_at (t : Fin cfg0.N) (k : Fin 1024) (j : Fin 1536) :
    (iblk m c 6 t : S1x1024x1536.Idx → EReal) (ix3 0 k j) = aWq m c (ix3 0 k j) := by
  refine Eq.trans ?_ (v6_at m c 0 k j)
  blk_simp [iblk]
  refine congrArg (V m c main_v6) (funext fun a => Fin.ext ?_)
  show win0_6.index t a * S1x1024x1536.size a + 1 * ((ix3 0 k j : S1x1024x1536.Idx) a).val = _
  rw [place6 t]
  fin_cases a
  · show 0 * 1 + 1 * 0 = 0
    omega
  · show 0 * 1024 + 1 * k.val = k.val
    omega
  · show 0 * 1536 + 1 * j.val = j.val
    omega

/-- A point's rows of the first result, in the arguments' elements. -/
theorem stepB_at (t : Fin cfg0.N) (ht : t.val < 34) (r : Fin 512) :
    stepB (grid0.coords t) (iblk m c 0 t) (iblk m c 1 t) (iblk m c 2 t) (iblk m c 3 t) (iblk m c 4 t) r
      = row (aP m c) (aQ m c) (aN m c) (aGu m c) (aD m c) ⟨t.val * 512 + r.val, by omega⟩ := by
  have e0 := funext fun a => pick_at m c t ht r a
  have e2 := funext fun a => b2_at m c t a
  have e3 := funext fun k => funext fun a => b3_at m c t k a
  have e4 := funext fun k => funext fun a => b4_at m c t k a
  unfold stepB row
  rw [e0, e2, e3, e4]

theorem blk7_at (t : Fin cfg0.N) (ht : t.val < 34) (r : Fin 512) (j : Fin 1024) :
    (out0_7 (grid0.coords t) (iblk m c 0 t) (iblk m c 1 t) (iblk m c 2 t) (iblk m c 3 t) (iblk m c 4 t) (iblk m c 5 t) (iblk m c 6 t) :
        S512x1024.Idx → EReal) (ix2 r j)
      = row (aP m c) (aQ m c) (aN m c) (aGu m c) (aD m c) ⟨t.val * 512 + r.val, by omega⟩ j :=
  (out7_at (grid0.coords t) (iblk m c 0 t) (iblk m c 1 t) (iblk m c 2 t) (iblk m c 3 t) (iblk m c 4 t) (iblk m c 5 t) (iblk m c 6 t) r j).trans
    (congrFun (stepB_at m c t ht r) j)

theorem blk8_at (t : Fin cfg0.N) (ht : t.val < 34) (r : Fin 512) (j : Fin 1536) :
    (out0_8 (grid0.coords t) (iblk m c 0 t) (iblk m c 1 t) (iblk m c 2 t) (iblk m c 3 t) (iblk m c 4 t) (iblk m c 5 t) (iblk m c 6 t) :
        S512x1536.Idx → EReal) (ix2 r j)
      = qrow (row (aP m c) (aQ m c) (aN m c) (aGu m c) (aD m c) ⟨t.val * 512 + r.val, by omega⟩) (aNm m c) (aWq m c) j := by
  refine (out8_at (grid0.coords t) (iblk m c 0 t) (iblk m c 1 t) (iblk m c 2 t) (iblk m c 3 t) (iblk m c 4 t) (iblk m c 5 t) (iblk m c 6 t) r j).trans ?_
  have e5 := funext fun a => b5_at m c t a
  have e6 := funext fun k => b6_at m c t k j
  rw [stepB_at m c t ht r, e5]
  unfold qrow
  exact Finset.sum_congr rfl fun k _ => congrArg _ (congrFun e6 k)

/-- Where a point's element lies. -/
theorem emb7 (t : Fin cfg0.N) (y : S512x1024.Idx) (a : Fin 2) :
    ((((cfg0.win 7).blk t).view.emb y : S17408x1024.Idx) a).val = (![t.val * 512, 0] : Fin 2 → ℕ) a + (y a).val := by
  show win0_7.index t a * S512x1024.size a + 1 * (y a).val = _
  rw [place7 t]
  fin_cases a
  · show t.val * 512 + 1 * (y 0).val = t.val * 512 + (y 0).val
    omega
  · show 0 * 1024 + 1 * (y 1).val = 0 + (y 1).val
    omega

/-- The first result's rows. -/
theorem value7_at (i : Fin 17408) (j : Fin 1024) :
    ((dats m 0 c).arrAt 7 cfg0.N : S17408x1024.Idx → EReal) (ix2 i j)
      = row (aP m c) (aQ m c) (aN m c) (aGu m c) (aD m c) i j := by
  have ht : i.val / 512 < 34 := by omega
  have h := congrFun ((Value.blocks7 m c ⟨i.val / 512, ht⟩ (flushes7 _)).trans (Value.flushed7 m c ⟨i.val / 512, ht⟩))
    (ix2 ⟨i.val % 512, by omega⟩ j)
  refine Eq.trans (congrArg ((dats m 0 c).arrAt 7 cfg0.N) (funext fun a => Fin.ext ?_))
    (h.trans ((blk7_at m c ⟨i.val / 512, ht⟩ ht ⟨i.val % 512, by omega⟩ j).trans ?_))
  · rw [emb7]
    fin_cases a
    · show i.val = i.val / 512 * 512 + i.val % 512
      omega
    · show j.val = 0 + j.val
      omega
  · refine congrArg (fun i => row (aP m c) (aQ m c) (aN m c) (aGu m c) (aD m c) i j) (Fin.ext ?_)
    show i.val / 512 * 512 + i.val % 512 = i.val
    omega

/-- Where a point's element lies. -/
theorem emb8 (t : Fin cfg0.N) (y : S512x1536.Idx) (a : Fin 2) :
    ((((cfg0.win 8).blk t).view.emb y : S17408x1536.Idx) a).val = (![t.val * 512, 0] : Fin 2 → ℕ) a + (y a).val := by
  show win0_8.index t a * S512x1536.size a + 1 * (y a).val = _
  rw [place8 t]
  fin_cases a
  · show t.val * 512 + 1 * (y 0).val = t.val * 512 + (y 0).val
    omega
  · show 0 * 1536 + 1 * (y 1).val = 0 + (y 1).val
    omega

/-- The second result's rows. -/
theorem value8_at (i : Fin 17408) (j : Fin 1536) :
    ((dats m 0 c).arrAt 8 cfg0.N : S17408x1536.Idx → EReal) (ix2 i j)
      = qrow (row (aP m c) (aQ m c) (aN m c) (aGu m c) (aD m c) i) (aNm m c) (aWq m c) j := by
  have ht : i.val / 512 < 34 := by omega
  have h := congrFun ((Value.blocks8 m c ⟨i.val / 512, ht⟩ (flushes8 _)).trans (Value.flushed8 m c ⟨i.val / 512, ht⟩))
    (ix2 ⟨i.val % 512, by omega⟩ j)
  refine Eq.trans (congrArg ((dats m 0 c).arrAt 8 cfg0.N) (funext fun a => Fin.ext ?_))
    (h.trans ((blk8_at m c ⟨i.val / 512, ht⟩ ht ⟨i.val % 512, by omega⟩ j).trans ?_))
  · rw [emb8]
    fin_cases a
    · show i.val = i.val / 512 * 512 + i.val % 512
      omega
    · show j.val = 0 + j.val
      omega
  · refine congrArg (fun i => qrow (row (aP m c) (aQ m c) (aN m c) (aGu m c) (aD m c) i) (aNm m c) (aWq m c) j) (Fin.ext ?_)
    show i.val / 512 * 512 + i.val % 512 = i.val
    omega

end Cert.Kernel8Ideal.Ffn

namespace Cert.Reference8Ideal.Ffn

open Idealize.ShloMosaic Idealize.ShloMosaic.TcCoe
open Cert.Reference8Ideal Cert.Reference8Ideal.Gen Cert.Reference8Ideal.Value
open Cert.Kernel8Ideal.Ffn (xrow row qrow)

/-- The two groups' rows laid one after the other. -/
def cat (p : Vec Ideal S16384x1024 .f32) (q : Vec Ideal S1024x1024 .f32) : Vec Ideal S17408x1024 .f32 :=
  concatenate S17408x1024 0 [⟨S16384x1024, p⟩, ⟨S1024x1024, q⟩] concatenates_S16384x1024_S1024x1024_S17408x1024_d0

/-- The prompt's rows, and the samples'. -/
def pp (p : Vec Ideal S4x4096x1024 .f32) : Vec Ideal S16384x1024 .f32 := shapeCast _ p shapeCasts_S4x4096x1024_S16384x1024

def ps (q : Vec Ideal S128x8x1024 .f32) : Vec Ideal S1024x1024 .f32 := shapeCast _ q shapeCasts_S128x8x1024_S1024x1024

theorem pp_at (p : Vec Ideal S4x4096x1024 .f32) (i : Fin 16384) (a : Fin 1024) :
    pp p (ix2 i a) = p (ix3 ⟨i.val / 4096, by omega⟩ ⟨i.val % 4096, by omega⟩ a) := by
  unfold pp
  pointwise

theorem ps_at (q : Vec Ideal S128x8x1024 .f32) (i : Fin 1024) (a : Fin 1024) :
    ps q (ix2 i a) = q (ix3 ⟨i.val / 8, by omega⟩ ⟨i.val % 8, by omega⟩ a) := by
  unfold ps
  pointwise

theorem cat_at (p : Vec Ideal S4x4096x1024 .f32) (q : Vec Ideal S128x8x1024 .f32) (i : Fin 17408) (a : Fin 1024) :
    cat (pp p) (ps q) (ix2 i a) = xrow p q i a := by
  unfold cat xrow
  by_cases h : i.val < 16384
  · rw [dif_pos h, concatenate_pair_apply_left (t := S17408x1024) (s₁ := S16384x1024) (s₂ := S1024x1024) 0 _ _ _ (ix2 i a) rfl
      (ix2 ⟨i.val, h⟩ a) (fun b => by fin_cases b <;> rfl)]
    exact pp_at p ⟨i.val, h⟩ a
  · rw [dif_neg h, concatenate_pair_apply_right (t := S17408x1024) (s₁ := S16384x1024) (s₂ := S1024x1024) 0 _ _ _ (ix2 i a) rfl rfl
      (ix2 ⟨i.val - 16384, by omega⟩ a) (fun b hb => by
        fin_cases b
        · exact absurd rfl hb
        · rfl) (by show i.val - 16384 + 16384 = i.val; omega)]
    exact ps_at q ⟨i.val - 16384, by omega⟩ a

/-- The reference's laid-out rows are these. -/
theorem cat_eq (p : Vec Ideal S4x4096x1024 .f32) (q : Vec Ideal S128x8x1024 .f32) :
    concatenate S17408x1024 0 [⟨S16384x1024, shapeCast _ p shapeCasts_S4x4096x1024_S16384x1024⟩,
      ⟨S1024x1024, shapeCast _ q shapeCasts_S128x8x1024_S1024x1024⟩]
      concatenates_S16384x1024_S1024x1024_S17408x1024_d0 = cat (pp p) (ps q) := rfl

variable (m : (ℓ : Loc nD τ sig) → Buf (Elt Ideal) ℓ) (c : Dev nD)

/-- The reference's rows. -/
theorem value0_at (i : Fin 17408) (j : Fin 1024) :
    (res_out0 m c : S17408x1024.Idx → EReal) (ix2 i j)
      = row (m ((c : Thread nD τ).loc main_arg0)) (m ((c : Thread nD τ).loc main_arg1)) (m ((c : Thread nD τ).loc main_arg2))
        (m ((c : Thread nD τ).loc main_arg3)) (m ((c : Thread nD τ).loc main_arg4)) i j := by
  unfold res_out0 res_main_v30
  rw [cat_eq]
  pointwise
  simp only [cat_at]
  rfl

theorem value1_at (i : Fin 17408) (j : Fin 1536) :
    (res_out1 m c : S17408x1536.Idx → EReal) (ix2 i j)
      = qrow (row (m ((c : Thread nD τ).loc main_arg0)) (m ((c : Thread nD τ).loc main_arg1)) (m ((c : Thread nD τ).loc main_arg2))
        (m ((c : Thread nD τ).loc main_arg3)) (m ((c : Thread nD τ).loc main_arg4)) i) (m ((c : Thread nD τ).loc main_arg5))
        (m ((c : Thread nD τ).loc main_arg6)) j := by
  unfold res_out1 res_main_v48
  rw [cat_eq]
  pointwise
  simp only [cat_at]
  rfl

end Cert.Reference8Ideal.Ffn

end
-- ==== Proof.Out9.lean ====
/- The state-space layer's output projection onto the prompt's rows, added to the residual; kernel and reference, read row by
   row. The other rows stay as they are. -/
module

public import proofs.«01_k».proof.Proof.Rows
public import proofs.«01_k».proof.Proof.Gen.Kernel9Ideal.Value
public import proofs.«01_k».proof.Proof.Gen.Reference9Ideal.Run
public import Idealize.ShloMosaic.Lib.Claim
public import Idealize.ShloMosaic.Lib.Pipeline.ValueKit

@[expose] public section

set_option maxRecDepth 16384

noncomputable section

namespace Cert.Kernel9Ideal.Out

open Idealize.ShloMosaic Idealize.ShloMosaic.TcCoe
open Cert.Kernel9Ideal Cert.Kernel9Ideal.Gen
open Cert.Rows

/-- The body's value: the row and the projected row. -/
theorem pay1_at (x : Vec Ideal S512x1024 .f32) (y : Vec Ideal S512x2048 .f32) (w : Vec Ideal S1x2048x1024 .bf16) (r : Fin 512)
    (j : Fin 1024) : k0_pay1 x y w (ix2 r j) = x (ix2 r j) + ∑ k, y (ix2 r k) * w (ix3 0 k j) := by
  unfold k0_pay1
  pointwise

/-- A point's block of the result. -/
theorem out_at (x : Vec Ideal S512x1024 .f32) (y : Vec Ideal S512x2048 .f32) (w : Vec Ideal S1x2048x1024 .bf16) (r : Fin 512)
    (j : Fin 1024) : (out0_3 x y w : S512x1024.Idx → EReal) (ix2 r j) = x (ix2 r j) + ∑ k, y (ix2 r k) * w (ix3 0 k j) := by
  have z2 : ∀ a : Fin 2, (![0, 0] : Fin 2 → ℕ) a = 0 := by decide
  have z3 : ∀ a : Fin 3, (![0, 0, 0] : Fin 3 → ℕ) a = 0 := by decide
  have e0 : View.ld x r0_0 = x := View.ld_unit_lit _ x z2
  have e1 : View.ld y r0_1 = y := View.ld_unit_lit _ y z2
  have e2 : View.ld w r0_2 = w := View.ld_unit_lit _ w z3
  unfold out0_3
  rw [View.canon_cons_unit_lit _ _ _ z2, e0, e1, e2, pay1_at]

variable (m : (ℓ : Loc nD τ sig) → Buf (Elt Ideal) ℓ) (c : Dev nD)

/-- The arguments. -/
def aX : Vec Ideal S17408x1024 .f32 := m ((c : Thread nD τ).loc main_arg0)
def aY : Vec Ideal S16384x2048 .f32 := m ((c : Thread nD τ).loc main_arg1)
def aW : Vec Ideal S2048x1024 .f32 := m ((c : Thread nD τ).loc main_arg2)

/-- An element of the result, from the arguments: the projection is added on the prompt's rows only. -/
def elem (x : Vec Ideal S17408x1024 .f32) (y : Vec Ideal S16384x2048 .f32) (w : Vec Ideal S2048x1024 .f32) (i : Fin 17408)
    (j : Fin 1024) : EReal :=
  if h : i.val < 16384 then x (ix2 i j) + ∑ k, y (ix2 ⟨i.val, h⟩ k) * w (ix2 k j) else x (ix2 i j)

theorem vW_at (a : Fin 2048) (j : Fin 1024) :
    (V m c main_v1 : S1x2048x1024.Idx → EReal) (ix3 0 a j) = aW m c (ix2 a j) := by
  entry_read
  pointwise
  rfl

/-- The blocks' places, by the point. -/
theorem place0 : ∀ t : Fin cfg0.N, win0_0.index t = ![t.val, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![0, 0, 0] := (by decide +kernel : ∀ t : Fin grid0.N, _)
theorem place3 : ∀ t : Fin cfg0.N, win0_3.index t = ![t.val, 0] := (by decide +kernel : ∀ t : Fin grid0.N, _)
theorem points : cfg0.N = 32 := (by decide +kernel : grid0.N = 32)

theorem flushes : ∀ t : Fin cfg0.N, (cfg0.win 3).flush t = true := (by decide +kernel : ∀ t : Fin grid0.N, _)

theorem b0_at (t : Fin cfg0.N) (ht : t.val < 32) (r : Fin 512) (j : Fin 1024) :
    (iblk m c 0 t : S512x1024.Idx → EReal) (ix2 r j) = aX m c (ix2 ⟨t.val * 512 + r.val, by omega⟩ j) := by
  blk_simp [iblk]
  refine (congrArg (V m c main_arg0) (funext fun a => Fin.ext ?_)).trans
    (congrFun (V_main_arg0 m c) (ix2 ⟨t.val * 512 + r.val, by omega⟩ j))
  show win0_0.index t a * S512x1024.size a + 1 * ((ix2 r j : S512x1024.Idx) a).val = _
  rw [place0 t]
  fin_cases a
  · show t.val * 512 + 1 * r.val = t.val * 512 + r.val
    omega
  · show 0 * 1024 + 1 * j.val = j.val
    omega

theorem b1_at (t : Fin cfg0.N) (ht : t.val < 32) (r : Fin 512) (j : Fin 2048) :
    (iblk m c 1 t : S512x2048.Idx → EReal) (ix2 r j) = aY m c (ix2 ⟨t.val * 512 + r.val, by omega⟩ j) := by
  blk_simp [iblk]
  refine (congrArg (V m c main_arg1) (funext fun a => Fin.ext ?_)).trans
    (congrFun (V_main_arg1 m c) (ix2 ⟨t.val * 512 + r.val, by omega⟩ j))
  show win0_1.index t a * S512x2048.size a + 1 * ((ix2 r j : S512x2048.Idx) a).val = _
  rw [place1 t]
  fin_cases a
  · show t.val * 512 + 1 * r.val = t.val * 512 + r.val
    omega
  · show 0 * 2048 + 1 * j.val = j.val
    omega

theorem b2_at (t : Fin cfg0.N) (k : Fin 2048) (j : Fin 1024) :
    (iblk m c 2 t : S1x2048x1024.Idx → EReal) (ix3 0 k j) = aW m c (ix2 k j) := by
  refine Eq.trans ?_ (vW_at m c k j)
  blk_simp [iblk]
  refine congrArg (V m c main_v1) (funext fun a => Fin.ext ?_)
  show win0_2.index t a * S1x2048x1024.size a + 1 * ((ix3 0 k j : S1x2048x1024.Idx) a).val = _
  rw [place2 t]
  fin_cases a
  · show 0 * 1 + 1 * 0 = 0
    omega
  · show 0 * 2048 + 1 * k.val = k.val
    omega
  · show 0 * 1024 + 1 * j.val = j.val
    omega

/-- A point's block of the result, in the arguments' elements. -/
theorem blk_at (t : Fin cfg0.N) (ht : t.val < 32) (r : Fin 512) (j : Fin 1024) :
    (out0_3 (iblk m c 0 t) (iblk m c 1 t) (iblk m c 2 t) : S512x1024.Idx → EReal) (ix2 r j)
      = aX m c (ix2 ⟨t.val * 512 + r.val, by omega⟩ j) + ∑ k, aY m c (ix2 ⟨t.val * 512 + r.val, by omega⟩ k) * aW m c (ix2 k j) := by
  refine (out_at (iblk m c 0 t) (iblk m c 1 t) (iblk m c 2 t) r j).trans ?_
  rw [b0_at m c t ht r j]
  exact congrArg _ (Finset.sum_congr rfl fun k _ => congr (congrArg _ (b1_at m c t ht r k)) (b2_at m c t k j))

/-- Where a point's element lies. -/
theorem emb (t : Fin cfg0.N) (y : S512x1024.Idx) (a : Fin 2) :
    ((((cfg0.win 3).blk t).view.emb y : S17408x1024.Idx) a).val = (![t.val * 512, 0] : Fin 2 → ℕ) a + (y a).val := by
  show win0_3.index t a * S512x1024.size a + 1 * (y a).val = _
  rw [place3 t]
  fin_cases a
  · show t.val * 512 + 1 * (y 0).val = t.val * 512 + (y 0).val
    omega
  · show 0 * 1024 + 1 * (y 1).val = 0 + (y 1).val
    omega

/-- A row of the other group lies in no point's block. -/
theorem outside (i : Fin 17408) (j : Fin 1024) (h : ¬ i.val < 16384) (t : Fin cfg0.N) :
    (ix2 i j : S17408x1024.Idx) ∉ ((cfg0.win 3).blk t).view.set := by
  intro hm
  mem_blk [place3 t] at hm
  have e : ((ix2 i j : S17408x1024.Idx) 0).val = i.val := rfl
  idx_bounds
  omega

/-- The result's array starts as the residual. -/
theorem v2_at (i : Fin 17408) (j : Fin 1024) : (V m c main_v2 : S17408x1024.Idx → EReal) (ix2 i j) = aX m c (ix2 i j) := by
  entry_read
  pointwise
  rfl

/-- The result's rows. -/
theorem value_at (i : Fin 17408) (j : Fin 1024) :
    ((dats m 0 c).arrAt 3 cfg0.N : S17408x1024.Idx → EReal) (ix2 i j) = elem (aX m c) (aY m c) (aW m c) i j := by
  unfold elem
  by_cases hi : i.val < 16384
  · rw [dif_pos hi]
    have ht : i.val / 512 < 32 := by omega
    have h := congrFun ((Value.blocks3 m c ⟨i.val / 512, ht⟩ (flushes _)).trans (Value.flushed3 m c ⟨i.val / 512, ht⟩))
      (ix2 ⟨i.val % 512, by omega⟩ j)
    refine Eq.trans (congrArg ((dats m 0 c).arrAt 3 cfg0.N) (funext fun a => Fin.ext ?_))
      (h.trans ((blk_at m c ⟨i.val / 512, ht⟩ ht ⟨i.val % 512, by omega⟩ j).trans ?_))
    · rw [emb]
      fin_cases a
      · show i.val = i.val / 512 * 512 + i.val % 512
        omega
      · show j.val = 0 + j.val
        omega
    · have e : (⟨i.val / 512 * 512 + i.val % 512, by omega⟩ : Fin 17408) = i := Fin.ext (by show i.val / 512 * 512 + i.val % 512 = i.val; omega)
      have e' : (⟨i.val / 512 * 512 + i.val % 512, by omega⟩ : Fin 16384) = ⟨i.val, hi⟩ :=
        Fin.ext (by show i.val / 512 * 512 + i.val % 512 = i.val; omega)
      exact congr (congrArg HAdd.hAdd (congrArg (fun i => aX m c (ix2 i j)) e))
        (congrArg (fun i => ∑ k, aY m c (ix2 i k) * aW m c (ix2 k j)) e')
  · rw [dif_neg hi]
    exact (Value.entry3 m c (ix2 i j) fun t _ => outside i j hi t).trans (v2_at m c i j)

end Cert.Kernel9Ideal.Out

namespace Cert.Reference9Ideal.Out

open Idealize.ShloMosaic Idealize.ShloMosaic.TcCoe
open Cert.Reference9Ideal Cert.Reference9Ideal.Gen Cert.Reference9Ideal.Value
open Cert.Kernel9Ideal.Out (elem)

/-- The prompt's rows and the samples', laid one after the other. -/
def cat (p : FVec Ideal S16384x1024 .f32) (q : FVec Ideal S1024x1024 .f32) : FVec Ideal S17408x1024 .f32 :=
  concatenate S17408x1024 0 [⟨S16384x1024, p⟩, ⟨S1024x1024, q⟩] concatenates_S16384x1024_S1024x1024_S17408x1024_d0

theorem cat_left (p : FVec Ideal S16384x1024 .f32) (q : FVec Ideal S1024x1024 .f32) (i : Fin 17408) (j : Fin 1024)
    (h : i.val < 16384) : cat p q (ix2 i j) = p (ix2 ⟨i.val, h⟩ j) := by
  unfold cat
  exact concatenate_pair_apply_left (t := S17408x1024) (s₁ := S16384x1024) (s₂ := S1024x1024) 0 _ _ _ (ix2 i j) rfl
    (ix2 ⟨i.val, h⟩ j) (fun b => by fin_cases b <;> rfl)

theorem cat_right (p : FVec Ideal S16384x1024 .f32) (q : FVec Ideal S1024x1024 .f32) (i : Fin 17408) (j : Fin 1024)
    (h : ¬ i.val < 16384) : cat p q (ix2 i j) = q (ix2 ⟨i.val - 16384, by omega⟩ j) := by
  unfold cat
  exact concatenate_pair_apply_right (t := S17408x1024) (s₁ := S16384x1024) (s₂ := S1024x1024) 0 _ _ _ (ix2 i j) rfl rfl
    (ix2 ⟨i.val - 16384, by omega⟩ j) (fun b hb => by
      fin_cases b
      · exact absurd rfl hb
      · rfl) (by show i.val - 16384 + 16384 = i.val; omega)

/-- The prompt's rows of the residual, and the samples'. -/
def xp (x : FVec Ideal S17408x1024 .f32) : FVec Ideal S16384x1024 .f32 :=
  extractStridedSlice S16384x1024 ![0, 0] x slices_S17408x1024_S16384x1024_0_0

def xs (x : FVec Ideal S17408x1024 .f32) : FVec Ideal S1024x1024 .f32 :=
  extractStridedSlice S1024x1024 ![16384, 0] x slices_S17408x1024_S1024x1024_16384_0

theorem xp_at (x : FVec Ideal S17408x1024 .f32) (i : Fin 17408) (j : Fin 1024) (h : i.val < 16384) :
    xp x (ix2 ⟨i.val, h⟩ j) = x (ix2 i j) :=
  congrArg x (funext fun a => Fin.ext (by
    fin_cases a
    · show 0 + i.val = i.val
      omega
    · show 0 + j.val = j.val
      omega))

theorem xs_at (x : FVec Ideal S17408x1024 .f32) (i : Fin 17408) (j : Fin 1024) (h : ¬ i.val < 16384) :
    xs x (ix2 ⟨i.val - 16384, by omega⟩ j) = x (ix2 i j) :=
  congrArg x (funext fun a => Fin.ext (by
    fin_cases a
    · show 16384 + (i.val - 16384) = i.val
      omega
    · show 0 + j.val = j.val
      omega))

/-- The projected rows. -/
def prod (y : FVec Ideal S16384x2048 .f32) (w : FVec Ideal S2048x1024 .f32) : FVec Ideal S16384x1024 .f32 :=
  Host.dotGeneral (φ₂ := .f32) dot_S16384x2048_S2048x1024_S16384x1024_1_0_0_1_n_n none y w

theorem prod_at (y : FVec Ideal S16384x2048 .f32) (w : FVec Ideal S2048x1024 .f32) (i : Fin 16384) (j : Fin 1024) :
    prod y w (ix2 i j) = ∑ k, y (ix2 i k) * w (ix2 k j) := by
  unfold prod
  pointwise

/-- The reference's result. -/
def res (x : FVec Ideal S17408x1024 .f32) (y : FVec Ideal S16384x2048 .f32) (w : FVec Ideal S2048x1024 .f32) :
    FVec Ideal S17408x1024 .f32 :=
  cat (addf (xp x) (prod y w)) (xs x)

/-- The reference's rows. -/
theorem value_at (x : FVec Ideal S17408x1024 .f32) (y : FVec Ideal S16384x2048 .f32) (w : FVec Ideal S2048x1024 .f32)
    (i : Fin 17408) (j : Fin 1024) : res x y w (ix2 i j) = elem x y w i j := by
  unfold res elem
  by_cases h : i.val < 16384
  · rw [cat_left _ _ i j h, dif_pos h]
    exact congr (congrArg HAdd.hAdd (xp_at x i j h)) (prod_at y w _ j)
  · rw [cat_right _ _ i j h, dif_neg h]
    exact xs_at x i j h

end Cert.Reference9Ideal.Out

end
-- ==== Proof.Out10.lean ====
/- The state-space layer's output projection onto the samples' rows, added to the residual; kernel and reference, read row by
   row. The other rows stay as they are. -/
module

public import proofs.«01_k».proof.Proof.Rows
public import proofs.«01_k».proof.Proof.Gen.Kernel10Ideal.Value
public import proofs.«01_k».proof.Proof.Gen.Reference10Ideal.Run
public import Idealize.ShloMosaic.Lib.Claim
public import Idealize.ShloMosaic.Lib.Pipeline.ValueKit

@[expose] public section

set_option maxRecDepth 16384

noncomputable section

namespace Cert.Kernel10Ideal.Out

open Idealize.ShloMosaic Idealize.ShloMosaic.TcCoe
open Cert.Kernel10Ideal Cert.Kernel10Ideal.Gen
open Cert.Rows

/-- The body's value: the row and the projected row. -/
theorem pay1_at (x : Vec Ideal S512x1024 .f32) (y : Vec Ideal S512x2048 .f32) (w : Vec Ideal S1x2048x1024 .bf16) (r : Fin 512)
    (j : Fin 1024) : k0_pay1 x y w (ix2 r j) = x (ix2 r j) + ∑ k, y (ix2 r k) * w (ix3 0 k j) := by
  unfold k0_pay1
  pointwise

/-- A point's block of the result. -/
theorem out_at (x : Vec Ideal S512x1024 .f32) (y : Vec Ideal S512x2048 .f32) (w : Vec Ideal S1x2048x1024 .bf16) (r : Fin 512)
    (j : Fin 1024) : (out0_3 x y w : S512x1024.Idx → EReal) (ix2 r j) = x (ix2 r j) + ∑ k, y (ix2 r k) * w (ix3 0 k j) := by
  have z2 : ∀ a : Fin 2, (![0, 0] : Fin 2 → ℕ) a = 0 := by decide
  have z3 : ∀ a : Fin 3, (![0, 0, 0] : Fin 3 → ℕ) a = 0 := by decide
  have e0 : View.ld x r0_0 = x := View.ld_unit_lit _ x z2
  have e1 : View.ld y r0_1 = y := View.ld_unit_lit _ y z2
  have e2 : View.ld w r0_2 = w := View.ld_unit_lit _ w z3
  unfold out0_3
  rw [View.canon_cons_unit_lit _ _ _ z2, e0, e1, e2, pay1_at]

variable (m : (ℓ : Loc nD τ sig) → Buf (Elt Ideal) ℓ) (c : Dev nD)

/-- The arguments. -/
def aX : Vec Ideal S17408x1024 .f32 := m ((c : Thread nD τ).loc main_arg0)
def aY : Vec Ideal S1024x2048 .f32 := m ((c : Thread nD τ).loc main_arg1)
def aW : Vec Ideal S2048x1024 .f32 := m ((c : Thread nD τ).loc main_arg2)

/-- An element of the result, from the arguments: the projection is added on the samples' rows only. -/
def elem (x : Vec Ideal S17408x1024 .f32) (y : Vec Ideal S1024x2048 .f32) (w : Vec Ideal S2048x1024 .f32) (i : Fin 17408)
    (j : Fin 1024) : EReal :=
  if h : 16384 ≤ i.val then x (ix2 i j) + ∑ k, y (ix2 ⟨i.val - 16384, by omega⟩ k) * w (ix2 k j) else x (ix2 i j)

theorem vW_at (a : Fin 2048) (j : Fin 1024) :
    (V m c main_v1 : S1x2048x1024.Idx → EReal) (ix3 0 a j) = aW m c (ix2 a j) := by
  entry_read
  pointwise
  rfl

/-- The blocks' places, by the point. -/
theorem place0 : ∀ t : Fin cfg0.N, win0_0.index t = ![t.val + 32, 0] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![0, 0, 0] := (by decide +kernel : ∀ t : Fin grid0.N, _)
theorem place3 : ∀ t : Fin cfg0.N, win0_3.index t = ![t.val + 32, 0] := (by decide +kernel : ∀ t : Fin grid0.N, _)
theorem points : cfg0.N = 2 := (by decide +kernel : grid0.N = 2)

theorem flushes : ∀ t : Fin cfg0.N, (cfg0.win 3).flush t = true := (by decide +kernel : ∀ t : Fin grid0.N, _)

theorem b0_at (t : Fin cfg0.N) (ht : t.val < 2) (r : Fin 512) (j : Fin 1024) :
    (iblk m c 0 t : S512x1024.Idx → EReal) (ix2 r j) = aX m c (ix2 ⟨(t.val + 32) * 512 + r.val, by omega⟩ j) := by
  blk_simp [iblk]
  refine (congrArg (V m c main_arg0) (funext fun a => Fin.ext ?_)).trans
    (congrFun (V_main_arg0 m c) (ix2 ⟨(t.val + 32) * 512 + r.val, by omega⟩ j))
  show win0_0.index t a * S512x1024.size a + 1 * ((ix2 r j : S512x1024.Idx) a).val = _
  rw [place0 t]
  fin_cases a
  · show (t.val + 32) * 512 + 1 * r.val = (t.val + 32) * 512 + r.val
    omega
  · show 0 * 1024 + 1 * j.val = j.val
    omega

theorem b1_at (t : Fin cfg0.N) (ht : t.val < 2) (r : Fin 512) (j : Fin 2048) :
    (iblk m c 1 t : S512x2048.Idx → EReal) (ix2 r j) = aY m c (ix2 ⟨t.val * 512 + r.val, by omega⟩ j) := by
  blk_simp [iblk]
  refine (congrArg (V m c main_arg1) (funext fun a => Fin.ext ?_)).trans
    (congrFun (V_main_arg1 m c) (ix2 ⟨t.val * 512 + r.val, by omega⟩ j))
  show win0_1.index t a * S512x2048.size a + 1 * ((ix2 r j : S512x2048.Idx) a).val = _
  rw [place1 t]
  fin_cases a
  · show t.val * 512 + 1 * r.val = t.val * 512 + r.val
    omega
  · show 0 * 2048 + 1 * j.val = j.val
    omega

theorem b2_at (t : Fin cfg0.N) (k : Fin 2048) (j : Fin 1024) :
    (iblk m c 2 t : S1x2048x1024.Idx → EReal) (ix3 0 k j) = aW m c (ix2 k j) := by
  refine Eq.trans ?_ (vW_at m c k j)
  blk_simp [iblk]
  refine congrArg (V m c main_v1) (funext fun a => Fin.ext ?_)
  show win0_2.index t a * S1x2048x1024.size a + 1 * ((ix3 0 k j : S1x2048x1024.Idx) a).val = _
  rw [place2 t]
  fin_cases a
  · show 0 * 1 + 1 * 0 = 0
    omega
  · show 0 * 2048 + 1 * k.val = k.val
    omega
  · show 0 * 1024 + 1 * j.val = j.val
    omega

/-- A point's block of the result, in the arguments' elements. -/
theorem blk_at (t : Fin cfg0.N) (ht : t.val < 2) (r : Fin 512) (j : Fin 1024) :
    (out0_3 (iblk m c 0 t) (iblk m c 1 t) (iblk m c 2 t) : S512x1024.Idx → EReal) (ix2 r j)
      = aX m c (ix2 ⟨(t.val + 32) * 512 + r.val, by omega⟩ j) + ∑ k, aY m c (ix2 ⟨t.val * 512 + r.val, by omega⟩ k) * aW m c (ix2 k j) := by
  refine (out_at (iblk m c 0 t) (iblk m c 1 t) (iblk m c 2 t) r j).trans ?_
  rw [b0_at m c t ht r j]
  exact congrArg _ (Finset.sum_congr rfl fun k _ => congr (congrArg _ (b1_at m c t ht r k)) (b2_at m c t k j))

/-- Where a point's element lies. -/
theorem emb (t : Fin cfg0.N) (y : S512x1024.Idx) (a : Fin 2) :
    ((((cfg0.win 3).blk t).view.emb y : S17408x1024.Idx) a).val = (![(t.val + 32) * 512, 0] : Fin 2 → ℕ) a + (y a).val := by
  show win0_3.index t a * S512x1024.size a + 1 * (y a).val = _
  rw [place3 t]
  fin_cases a
  · show (t.val + 32) * 512 + 1 * (y 0).val = (t.val + 32) * 512 + (y 0).val
    omega
  · show 0 * 1024 + 1 * (y 1).val = 0 + (y 1).val
    omega

/-- A row of the other group lies in no point's block. -/
theorem outside (i : Fin 17408) (j : Fin 1024) (h : ¬ 16384 ≤ i.val) (t : Fin cfg0.N) :
    (ix2 i j : S17408x1024.Idx) ∉ ((cfg0.win 3).blk t).view.set := by
  intro hm
  mem_blk [place3 t] at hm
  have e : ((ix2 i j : S17408x1024.Idx) 0).val = i.val := rfl
  idx_bounds
  omega

/-- The result's array starts as the residual. -/
theorem v2_at (i : Fin 17408) (j : Fin 1024) : (V m c main_v2 : S17408x1024.Idx → EReal) (ix2 i j) = aX m c (ix2 i j) := by
  entry_read
  pointwise
  rfl

/-- The result's rows. -/
theorem value_at (i : Fin 17408) (j : Fin 1024) :
    ((dats m 0 c).arrAt 3 cfg0.N : S17408x1024.Idx → EReal) (ix2 i j) = elem (aX m c) (aY m c) (aW m c) i j := by
  unfold elem
  by_cases hi : 16384 ≤ i.val
  · rw [dif_pos hi]
    have ht : (i.val / 512 - 32) < 2 := by omega
    have h := congrFun ((Value.blocks3 m c ⟨(i.val / 512 - 32), ht⟩ (flushes _)).trans (Value.flushed3 m c ⟨(i.val / 512 - 32), ht⟩))
      (ix2 ⟨i.val % 512, by omega⟩ j)
    refine Eq.trans (congrArg ((dats m 0 c).arrAt 3 cfg0.N) (funext fun a => Fin.ext ?_))
      (h.trans ((blk_at m c ⟨(i.val / 512 - 32), ht⟩ ht ⟨i.val % 512, by omega⟩ j).trans ?_))
    · rw [emb]
      fin_cases a
      · show i.val = (i.val / 512 - 32 + 32) * 512 + i.val % 512
        omega
      · show j.val = 0 + j.val
        omega
    · have e : (⟨(i.val / 512 - 32 + 32) * 512 + i.val % 512, by omega⟩ : Fin 17408) = i := Fin.ext (by show (i.val / 512 - 32 + 32) * 512 + i.val % 512 = i.val; omega)
      have e' : (⟨(i.val / 512 - 32) * 512 + i.val % 512, by omega⟩ : Fin 1024) = ⟨i.val - 16384, by omega⟩ :=
        Fin.ext (by show (i.val / 512 - 32) * 512 + i.val % 512 = i.val - 16384; omega)
      exact congr (congrArg HAdd.hAdd (congrArg (fun i => aX m c (ix2 i j)) e))
        (congrArg (fun i => ∑ k, aY m c (ix2 i k) * aW m c (ix2 k j)) e')
  · rw [dif_neg hi]
    exact (Value.entry3 m c (ix2 i j) fun t _ => outside i j hi t).trans (v2_at m c i j)

end Cert.Kernel10Ideal.Out

namespace Cert.Reference10Ideal.Out

open Idealize.ShloMosaic Idealize.ShloMosaic.TcCoe
open Cert.Reference10Ideal Cert.Reference10Ideal.Gen Cert.Reference10Ideal.Value
open Cert.Kernel10Ideal.Out (elem)

/-- The prompt's rows and the samples', laid one after the other. -/
def cat (p : FVec Ideal S16384x1024 .f32) (q : FVec Ideal S1024x1024 .f32) : FVec Ideal S17408x1024 .f32 :=
  concatenate S17408x1024 0 [⟨S16384x1024, p⟩, ⟨S1024x1024, q⟩] concatenates_S16384x1024_S1024x1024_S17408x1024_d0

theorem cat_left (p : FVec Ideal S16384x1024 .f32) (q : FVec Ideal S1024x1024 .f32) (i : Fin 17408) (j : Fin 1024)
    (h : i.val < 16384) : cat p q (ix2 i j) = p (ix2 ⟨i.val, h⟩ j) := by
  unfold cat
  exact concatenate_pair_apply_left (t := S17408x1024) (s₁ := S16384x1024) (s₂ := S1024x1024) 0 _ _ _ (ix2 i j) rfl
    (ix2 ⟨i.val, h⟩ j) (fun b => by fin_cases b <;> rfl)

theorem cat_right (p : FVec Ideal S16384x1024 .f32) (q : FVec Ideal S1024x1024 .f32) (i : Fin 17408) (j : Fin 1024)
    (h : ¬ i.val < 16384) : cat p q (ix2 i j) = q (ix2 ⟨i.val - 16384, by omega⟩ j) := by
  unfold cat
  exact concatenate_pair_apply_right (t := S17408x1024) (s₁ := S16384x1024) (s₂ := S1024x1024) 0 _ _ _ (ix2 i j) rfl rfl
    (ix2 ⟨i.val - 16384, by omega⟩ j) (fun b hb => by
      fin_cases b
      · exact absurd rfl hb
      · rfl) (by show i.val - 16384 + 16384 = i.val; omega)

/-- The prompt's rows of the residual, and the samples'. -/
def xp (x : FVec Ideal S17408x1024 .f32) : FVec Ideal S16384x1024 .f32 :=
  extractStridedSlice S16384x1024 ![0, 0] x slices_S17408x1024_S16384x1024_0_0

def xs (x : FVec Ideal S17408x1024 .f32) : FVec Ideal S1024x1024 .f32 :=
  extractStridedSlice S1024x1024 ![16384, 0] x slices_S17408x1024_S1024x1024_16384_0

theorem xp_at (x : FVec Ideal S17408x1024 .f32) (i : Fin 17408) (j : Fin 1024) (h : i.val < 16384) :
    xp x (ix2 ⟨i.val, h⟩ j) = x (ix2 i j) :=
  congrArg x (funext fun a => Fin.ext (by
    fin_cases a
    · show 0 + i.val = i.val
      omega
    · show 0 + j.val = j.val
      omega))

theorem xs_at (x : FVec Ideal S17408x1024 .f32) (i : Fin 17408) (j : Fin 1024) (h : ¬ i.val < 16384) :
    xs x (ix2 ⟨i.val - 16384, by omega⟩ j) = x (ix2 i j) :=
  congrArg x (funext fun a => Fin.ext (by
    fin_cases a
    · show 16384 + (i.val - 16384) = i.val
      omega
    · show 0 + j.val = j.val
      omega))

/-- The projected rows. -/
def prod (y : FVec Ideal S1024x2048 .f32) (w : FVec Ideal S2048x1024 .f32) : FVec Ideal S1024x1024 .f32 :=
  Host.dotGeneral (φ₂ := .f32) dot_S1024x2048_S2048x1024_S1024x1024_1_0_0_1_n_n none y w

theorem prod_at (y : FVec Ideal S1024x2048 .f32) (w : FVec Ideal S2048x1024 .f32) (i : Fin 1024) (j : Fin 1024) :
    prod y w (ix2 i j) = ∑ k, y (ix2 i k) * w (ix2 k j) := by
  unfold prod
  pointwise

/-- The reference's result. -/
def res (x : FVec Ideal S17408x1024 .f32) (y : FVec Ideal S1024x2048 .f32) (w : FVec Ideal S2048x1024 .f32) :
    FVec Ideal S17408x1024 .f32 :=
  cat (xp x) (addf (xs x) (prod y w))

/-- The reference's rows. -/
theorem value_at (x : FVec Ideal S17408x1024 .f32) (y : FVec Ideal S1024x2048 .f32) (w : FVec Ideal S2048x1024 .f32)
    (i : Fin 17408) (j : Fin 1024) : res x y w (ix2 i j) = elem x y w i j := by
  unfold res elem
  by_cases h : i.val < 16384
  · rw [cat_left _ _ i j h, dif_neg (by omega)]
    exact xp_at x i j h
  · rw [cat_right _ _ i j h, dif_pos (by omega)]
    exact congr (congrArg HAdd.hAdd (xs_at x i j h)) (prod_at y w _ j)

end Cert.Reference10Ideal.Out

end
-- ==== Proof.lean ====
module

public import proofs.«01_k».proof.Defs
public import proofs.«01_k».proof.Proof.Gen.Kernel.Frame.Runs
public import proofs.«01_k».proof.Proof.Bits.Body
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Pre_finite_rows
public import proofs.«01_k».proof.Proof.Equal
public import proofs.«01_k».proof.Proof.Gen.Kernel2.Frame
public import proofs.«01_k».proof.Proof.Ffn2
public import proofs.«01_k».proof.Proof.Gen.Kernel3.Frame
public import proofs.«01_k».proof.Proof.Ple3
public import proofs.«01_k».proof.Proof.Gen.Kernel4.Frame
public import proofs.«01_k».proof.Proof.Ple4
public import proofs.«01_k».proof.Proof.Ffn5
public import proofs.«01_k».proof.Proof.Mamba6
public import proofs.«01_k».proof.Proof.Ffn7
public import proofs.«01_k».proof.Proof.Ffn8
public import proofs.«01_k».proof.Proof.Out9
public import proofs.«01_k».proof.Proof.Out10
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Kernel

/-- The reference's frame: its run leaves the arguments, and a host program has no semaphore. -/
theorem frame_ri : Cert.quiescent_ReferenceIdeal := fun m ρ _ =>
  (θ_run Cert.ReferenceIdeal.defs _ _).mono (fun r h => And.intro (fun c => (h c).2)
      (Idealize.ShloMosaic.sem_eq_zero_of_no_sems (by decide) r.2))
    (Cert.ReferenceIdeal.Value.run (F := Ideal) m ρ)

/-- The two named constants: the mask is `⊥`, the scale is `1/√96 · 1/log 2`. -/
theorem preserves : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E16C740#32
      (((Real.sqrt 96)⁻¹ * (Real.log 2)⁻¹ : ℝ) : EReal) rfl⟩

/-- The word of infinity. -/
theorem word_top : Ideal.ofBits .f32 2139095040#32 = ⊤ := by
  simp [Ideal.ofBits, Ideal.ieee]

/-- An element below infinity in absolute value is a real. -/
theorem real_of_abs {x : EReal} (h : Ideal.cmp .olt (max x (-x)) (Ideal.ofBits .f32 2139095040#32) = 1#1) :
    ∃ r : ℝ, x = (r : EReal) := by
  rw [word_top] at h
  induction x with
  | bot => exact absurd h (by simp [Ideal.cmp])
  | coe x => exact ⟨x, rfl⟩
  | top => exact absurd h (by simp [Ideal.cmp])

/-- Two one-bit words both one. -/
theorem and_one {a b : BitVec 1} (h : IntOp.andi a b = 1#1) : a = 1#1 ∧ b = 1#1 := by
  revert a b
  decide

/-- One element of the precondition: a query's entry and the row's entry it meets are reals. -/
theorem finite_at (x : FVec Ideal Cert.Pre_finite_rows.S17408x1024 .f32) (q : FVec Ideal Cert.Pre_finite_rows.S4x4096x16x288 .f32)
    (kv : FVec Ideal Cert.Pre_finite_rows.S4x4096x288 .f32) (w : FVec Ideal Cert.Pre_finite_rows.S256x2048 .f32)
    (wo : FVec Ideal Cert.Pre_finite_rows.S1024x1024 .f32) (b : Fin 4) (t : Fin 4096) (n : Fin 16) (j : Fin 288)
    (h : Cert.Pre_finite_rows.fn (F := Ideal) x q kv w wo (ix4 b t n j) = 1#1) :
    (∃ r : ℝ, q (ix4 b t n j) = (r : EReal)) ∧ ∃ r : ℝ, kv (ix3 b t j) = (r : EReal) := by
  unfold Cert.Pre_finite_rows.fn at h
  pointwise at h
  exact (and_one h).imp real_of_abs real_of_abs

/-- The precondition: the queries and the rows are reals. -/
theorem finite_of_pre (x : FVec Ideal Cert.Pre_finite_rows.S17408x1024 .f32) (q : FVec Ideal Cert.Pre_finite_rows.S4x4096x16x288 .f32)
    (kv : FVec Ideal Cert.Pre_finite_rows.S4x4096x288 .f32) (w : FVec Ideal Cert.Pre_finite_rows.S256x2048 .f32)
    (wo : FVec Ideal Cert.Pre_finite_rows.S1024x1024 .f32)
    (h : Cert.Pre_finite_rows.fn (F := Ideal) x q kv w wo = fun _ => 1#1) :
    (∀ i, ∃ r : ℝ, q i = (r : EReal)) ∧ ∀ i, ∃ r : ℝ, kv i = (r : EReal) :=
  ⟨fun i => by rw [eq_ix4 i]; exact (finite_at x q kv w wo _ _ _ _ (congrFun h _)).1,
    fun i => by rw [eq_ix3 i]; exact (finite_at x q kv w wo _ _ 0 _ (congrFun h _)).2⟩

/-- The kernel's result is the reference's. -/
theorem algebraic : Cert.algebraic_KernelIdeal_ReferenceIdeal_pre_finite_rows := by
  intro m g m' g' pre harg
  refine ⟨fun c => (Cert.KernelIdeal.Attn.dats m 0 c).arrAt 5 Cert.KernelIdeal.cfg0.N,
    (θ_run _ _ _).mono (fun r h c => ⟨h.2 c, h.1.1 c⟩)
      (θ_run_and (Cert.KernelIdeal.Attn.frame m g) (Cert.KernelIdeal.Attn.run_result m g)), ?_⟩
  refine (θ_run _ _ _).mono (fun r h c => ⟨(h c).1.trans ?_, (h c).2⟩) (Cert.ReferenceIdeal.Value.run (F := Ideal) m' g')
  obtain ⟨e0, e1, e2, e3, e4⟩ := harg c
  obtain ⟨hq, hkv⟩ := finite_of_pre _ _ _ _ _ (pre c)
  rw [Cert.ReferenceIdeal.Attn.res_eq, e0, e1, e2, e3, e4]
  funext i
  have hi : i = ix2 (i 0) (i 1) := eq_ix2 i
  rw [hi]
  exact (Cert.KernelIdeal.Attn.value_at m c hq hkv _ _).symm

/-- The frame of the reference of the last feed-forward network. -/
theorem frame_ri2 : Cert.quiescent_Reference2Ideal := fun m ρ _ =>
  (θ_run Cert.Reference2Ideal.defs _ _).mono (fun r h => And.intro (fun c => (h c).2)
      (Idealize.ShloMosaic.sem_eq_zero_of_no_sems (by decide) r.2))
    (Cert.Reference2Ideal.Value.run (F := Ideal) m ρ)

/-- The kernel's result is the reference's: the last feed-forward network. -/
theorem algebraic2 : Cert.algebraic_Kernel2Ideal_Reference2Ideal := by
  intro m g m' g' _ harg
  refine ⟨fun c => (Cert.Kernel2Ideal.Gen.dats m 0 c).arrAt 4 Cert.Kernel2Ideal.cfg0.N,
    Cert.Kernel2Ideal.Value.run_blocks m g, ?_⟩
  refine (θ_run _ _ _).mono (fun r h c => ⟨(h c).1.trans ?_, (h c).2⟩) (Cert.Reference2Ideal.Value.run (F := Ideal) m' g')
  obtain ⟨e0, e1, e2, e3⟩ := harg c
  funext i
  rw [eq_ix2 i]
  refine (Cert.Reference2Ideal.Ffn.value_at m' c (i 0) (i 1)).trans ?_
  rw [e0, e1, e2, e3]
  exact (Cert.Kernel2Ideal.Ffn.value_at m c (i 0) (i 1)).symm

/-- The frame of the reference of the last per-layer update on the prompt's rows. -/
theorem frame_ri3 : Cert.quiescent_Reference3Ideal := fun m ρ _ =>
  (θ_run Cert.Reference3Ideal.defs _ _).mono (fun r h => And.intro (fun c => (h c).2)
      (Idealize.ShloMosaic.sem_eq_zero_of_no_sems (by decide) r.2))
    (Cert.Reference3Ideal.Value.run (F := Ideal) m ρ)

/-- The kernel's result is the reference's: the last per-layer update on the prompt's rows. -/
theorem algebraic3 : Cert.algebraic_Kernel3Ideal_Reference3Ideal := by
  intro m g m' g' _ harg
  refine ⟨fun c => (Cert.Kernel3Ideal.Gen.dats m 0 c).arrAt 6 Cert.Kernel3Ideal.cfg0.N,
    Cert.Kernel3Ideal.Value.run_blocks m g, ?_⟩
  refine (θ_run _ _ _).mono (fun r h c => ⟨(h c).1.trans ?_, (h c).2⟩) (Cert.Reference3Ideal.Value.run (F := Ideal) m' g')
  obtain ⟨e0, e1, e2, e3, e4, e5⟩ := harg c
  funext i
  rw [eq_ix2 i]
  refine (Cert.Reference3Ideal.Ple.value_at m' c (i 0) (i 1)).trans ?_
  rw [e0, e1, e2, e3, e4, e5]
  exact (Cert.Kernel3Ideal.Ple.value_at m c (i 0) (i 1)).symm

/-- The frame of the reference of the last per-layer update on the samples' rows. -/
theorem frame_ri4 : Cert.quiescent_Reference4Ideal := fun m ρ _ =>
  (θ_run Cert.Reference4Ideal.defs _ _).mono (fun r h => And.intro (fun c => (h c).2)
      (Idealize.ShloMosaic.sem_eq_zero_of_no_sems (by decide) r.2))
    (Cert.Reference4Ideal.Value.run (F := Ideal) m ρ)

/-- The kernel's result is the reference's: the last per-layer update on the samples' rows. -/
theorem algebraic4 : Cert.algebraic_Kernel4Ideal_Reference4Ideal := by
  intro m g m' g' _ harg
  refine ⟨fun c => (Cert.Kernel4Ideal.Gen.dats m 0 c).arrAt 6 Cert.Kernel4Ideal.cfg0.N,
    Cert.Kernel4Ideal.Value.run_blocks m g, ?_⟩
  refine (θ_run _ _ _).mono (fun r h c => ⟨(h c).1.trans ?_, (h c).2⟩) (Cert.Reference4Ideal.Value.run (F := Ideal) m' g')
  obtain ⟨e0, e1, e2, e3, e4, e5⟩ := harg c
  funext i
  rw [eq_ix2 i]
  refine (Cert.Reference4Ideal.Ple.value_at m' c (i 0) (i 1)).trans ?_
  rw [e0, e1, e2, e3, e4, e5]
  exact (Cert.Kernel4Ideal.Ple.value_at m c (i 0) (i 1)).symm

/-- The frame of the reference: the joined step ahead of the last layer. -/
theorem frame_ri5 : Cert.quiescent_Reference5Ideal := fun m ρ _ =>
  (θ_run Cert.Reference5Ideal.defs _ _).mono (fun r h => And.intro (fun c => (h c).2.2)
      (Idealize.ShloMosaic.sem_eq_zero_of_no_sems (by decide) r.2))
    (Cert.Reference5Ideal.Value.run (F := Ideal) m ρ)

/-- The kernel's results are the reference's: the per-layer update, the first feed-forward network and the projection. -/
theorem algebraic5 : Cert.algebraic_Kernel5Ideal_Reference5Ideal := by
  intro m g m' g' _ harg
  refine ⟨fun c => (Cert.Kernel5Ideal.Gen.dats m 0 c).arrAt 11 Cert.Kernel5Ideal.cfg0.N,
    fun c => (Cert.Kernel5Ideal.Gen.dats m 0 c).arrAt 12 Cert.Kernel5Ideal.cfg0.N,
    Cert.Kernel5Ideal.Value.run_blocks m g, ?_⟩
  refine (θ_run _ _ _).mono (fun r h c => ⟨(h c).1.trans ?_, (h c).2.1.trans ?_, (h c).2.2⟩)
    (Cert.Reference5Ideal.Value.run (F := Ideal) m' g')
  · obtain ⟨e0, e1, e2, e3, e4, e5, e6, e7, e8, e9, e10⟩ := harg c
    funext i
    rw [eq_ix2 i]
    refine (Cert.Reference5Ideal.Ffn.value0_at m' c (i 0) (i 1)).trans ?_
    rw [e0, e1, e2, e3, e4, e5, e6, e7, e8]
    exact (Cert.Kernel5Ideal.Ffn.value11_at m c (i 0) (i 1)).symm
  · obtain ⟨e0, e1, e2, e3, e4, e5, e6, e7, e8, e9, e10⟩ := harg c
    funext i
    rw [eq_ix2 i]
    refine (Cert.Reference5Ideal.Ffn.value1_at m' c (i 0) (i 1)).trans ?_
    rw [e0, e1, e2, e3, e4, e5, e6, e7, e8, e9, e10]
    exact (Cert.Kernel5Ideal.Ffn.value12_at m c (i 0) (i 1)).symm

/-- The frame of the reference: the state-space layer's input projection. -/
theorem frame_ri6 : Cert.quiescent_Reference6Ideal := fun m ρ _ =>
  (θ_run Cert.Reference6Ideal.defs _ _).mono (fun r h => And.intro (fun c => (h c).2.2.2.2.2)
      (Idealize.ShloMosaic.sem_eq_zero_of_no_sems (by decide) r.2))
    (Cert.Reference6Ideal.Value.run (F := Ideal) m ρ)

/-- The kernel's results are the reference's: the state-space layer's input projection and the convolution's new states. -/
theorem algebraic6 : Cert.algebraic_Kernel6Ideal_Reference6Ideal := by
  intro m g m' g' _ harg
  refine ⟨_, _, _, _, _, Cert.Kernel6Ideal.Mamba.run_at m g, ?_⟩
  refine (θ_run _ _ _).mono (fun r h c => ⟨(h c).1.trans ?_, (h c).2.1.trans ?_, (h c).2.2.1.trans ?_,
      (h c).2.2.2.1.trans ?_, (h c).2.2.2.2.1.trans ?_, (h c).2.2.2.2.2⟩)
    (Cert.Reference6Ideal.Value.run (F := Ideal) m' g')
  all_goals
    obtain ⟨e0, e1, e2, e3⟩ := harg c
    funext i
  · rw [eq_ix2 i]
    refine (Cert.Reference6Ideal.Mamba.value0_at m' c (i 0) (i 1)).trans ?_
    rw [e0, e2, e3]
    exact (Cert.Kernel6Ideal.Mamba.value3_at m c (i 0) (i 1)).symm
  · rw [eq_ix2 i]
    refine (Cert.Reference6Ideal.Mamba.value1_at m' c (i 0) (i 1)).trans ?_
    rw [e0, e2, e3]
    exact (Cert.Kernel6Ideal.Mamba.value4_at m c (i 0) (i 1)).symm
  · rw [eq_ix2 i]
    refine (Cert.Reference6Ideal.Mamba.value2_at m' c (i 0) (i 1)).trans ?_
    rw [e0, e2, e3]
    exact (Cert.Kernel6Ideal.Mamba.value5_at m c (i 0) (i 1)).symm
  · have hi : i = ix4 0 (i 1) (i 2) (i 3) := (eq_ix4 i).trans (congrArg (ix4 · (i 1) (i 2) (i 3)) (Subsingleton.elim (α := Fin 1) _ _))
    rw [hi]
    refine (Cert.Reference6Ideal.Mamba.value3_at m' c (i 1) (i 2) (i 3)).trans ?_
    rw [e0, e2, e3]
    exact (Cert.Kernel6Ideal.Mamba.tail19_at m c (i 1) (i 2) (i 3)).symm
  · have hi : i = ix4 0 (i 1) (i 2) (i 3) := (eq_ix4 i).trans (congrArg (ix4 · (i 1) (i 2) (i 3)) (Subsingleton.elim (α := Fin 1) _ _))
    rw [hi]
    refine (Cert.Reference6Ideal.Mamba.value4_at m' c (i 1) (i 2) (i 3)).trans ?_
    rw [e0, e2, e3]
    exact (Cert.Kernel6Ideal.Mamba.tail20_at m c (i 1) (i 2) (i 3)).symm

/-- The frame of the reference: the per-layer update and the first feed-forward network ahead of the latent attention. -/
theorem frame_ri7 : Cert.quiescent_Reference7Ideal := fun m ρ _ =>
  (θ_run Cert.Reference7Ideal.defs _ _).mono (fun r h => And.intro (fun c => (h c).2)
      (Idealize.ShloMosaic.sem_eq_zero_of_no_sems (by decide) r.2))
    (Cert.Reference7Ideal.Value.run (F := Ideal) m ρ)

/-- The kernel's result is the reference's: the per-layer update and the first feed-forward network ahead of the latent attention. -/
theorem algebraic7 : Cert.algebraic_Kernel7Ideal_Reference7Ideal := by
  intro m g m' g' _ harg
  refine ⟨fun c => (Cert.Kernel7Ideal.Gen.dats m 0 c).arrAt 9 Cert.Kernel7Ideal.cfg0.N,
    Cert.Kernel7Ideal.Value.run_blocks m g, ?_⟩
  refine (θ_run _ _ _).mono (fun r h c => ⟨(h c).1.trans ?_, (h c).2⟩) (Cert.Reference7Ideal.Value.run (F := Ideal) m' g')
  obtain ⟨e0, e1, e2, e3, e4, e5, e6, e7, e8⟩ := harg c
  funext i
  rw [eq_ix2 i]
  refine (Cert.Reference7Ideal.Ffn.value_at m' c (i 0) (i 1)).trans ?_
  rw [e0, e1, e2, e3, e4, e5, e6, e7, e8]
  exact (Cert.Kernel7Ideal.Ffn.value9_at m c (i 0) (i 1)).symm

/-- The frame of the reference: the first layer's feed-forward network and projection. -/
theorem frame_ri8 : Cert.quiescent_Reference8Ideal := fun m ρ _ =>
  (θ_run Cert.Reference8Ideal.defs _ _).mono (fun r h => And.intro (fun c => (h c).2.2)
      (Idealize.ShloMosaic.sem_eq_zero_of_no_sems (by decide) r.2))
    (Cert.Reference8Ideal.Value.run (F := Ideal) m ρ)

/-- The kernel's results are the reference's: the first layer's feed-forward network and projection. -/
theorem algebraic8 : Cert.algebraic_Kernel8Ideal_Reference8Ideal := by
  intro m g m' g' _ harg
  refine ⟨fun c => (Cert.Kernel8Ideal.Gen.dats m 0 c).arrAt 7 Cert.Kernel8Ideal.cfg0.N,
    fun c => (Cert.Kernel8Ideal.Gen.dats m 0 c).arrAt 8 Cert.Kernel8Ideal.cfg0.N,
    Cert.Kernel8Ideal.Value.run_blocks m g, ?_⟩
  refine (θ_run _ _ _).mono (fun r h c => ⟨(h c).1.trans ?_, (h c).2.1.trans ?_, (h c).2.2⟩)
    (Cert.Reference8Ideal.Value.run (F := Ideal) m' g')
  all_goals
    obtain ⟨e0, e1, e2, e3, e4, e5, e6⟩ := harg c
    funext i
    rw [eq_ix2 i]
  · refine (Cert.Reference8Ideal.Ffn.value0_at m' c (i 0) (i 1)).trans ?_
    rw [e0, e1, e2, e3, e4]
    exact (Cert.Kernel8Ideal.Ffn.value7_at m c (i 0) (i 1)).symm
  · refine (Cert.Reference8Ideal.Ffn.value1_at m' c (i 0) (i 1)).trans ?_
    rw [e0, e1, e2, e3, e4, e5, e6]
    exact (Cert.Kernel8Ideal.Ffn.value8_at m c (i 0) (i 1)).symm

/-- The frame of the reference: the state-space layer's output on the prompt's rows. -/
theorem frame_ri9 : Cert.quiescent_Reference9Ideal := fun m ρ _ =>
  (θ_run Cert.Reference9Ideal.defs _ _).mono (fun r h => And.intro (fun c => (h c).2)
      (Idealize.ShloMosaic.sem_eq_zero_of_no_sems (by decide) r.2))
    (Cert.Reference9Ideal.Value.run (F := Ideal) m ρ)

/-- The kernel's result is the reference's: the state-space layer's output on the prompt's rows. -/
theorem algebraic9 : Cert.algebraic_Kernel9Ideal_Reference9Ideal := by
  intro m g m' g' _ harg
  refine ⟨fun c => (Cert.Kernel9Ideal.Gen.dats m 0 c).arrAt 3 Cert.Kernel9Ideal.cfg0.N,
    Cert.Kernel9Ideal.Value.run_blocks m g, ?_⟩
  refine (θ_run _ _ _).mono (fun r h c => ⟨(h c).1.trans ?_, (h c).2⟩) (Cert.Reference9Ideal.Value.run (F := Ideal) m' g')
  obtain ⟨e0, e1, e2⟩ := harg c
  funext i
  rw [eq_ix2 i]
  refine (Cert.Reference9Ideal.Out.value_at (m' ((c : Thread Cert.Reference9Ideal.nD Cert.Reference9Ideal.τ).loc Cert.Reference9Ideal.main_arg0))
    (m' ((c : Thread Cert.Reference9Ideal.nD Cert.Reference9Ideal.τ).loc Cert.Reference9Ideal.main_arg1))
    (m' ((c : Thread Cert.Reference9Ideal.nD Cert.Reference9Ideal.τ).loc Cert.Reference9Ideal.main_arg2)) (i 0) (i 1)).trans ?_
  rw [e0, e1, e2]
  exact (Cert.Kernel9Ideal.Out.value_at m c (i 0) (i 1)).symm

/-- The frame of the reference: the state-space layer's output on the samples' rows. -/
theorem frame_ri10 : Cert.quiescent_Reference10Ideal := fun m ρ _ =>
  (θ_run Cert.Reference10Ideal.defs _ _).mono (fun r h => And.intro (fun c => (h c).2)
      (Idealize.ShloMosaic.sem_eq_zero_of_no_sems (by decide) r.2))
    (Cert.Reference10Ideal.Value.run (F := Ideal) m ρ)

/-- The kernel's result is the reference's: the state-space layer's output on the samples' rows. -/
theorem algebraic10 : Cert.algebraic_Kernel10Ideal_Reference10Ideal := by
  intro m g m' g' _ harg
  refine ⟨fun c => (Cert.Kernel10Ideal.Gen.dats m 0 c).arrAt 3 Cert.Kernel10Ideal.cfg0.N,
    Cert.Kernel10Ideal.Value.run_blocks m g, ?_⟩
  refine (θ_run _ _ _).mono (fun r h c => ⟨(h c).1.trans ?_, (h c).2⟩) (Cert.Reference10Ideal.Value.run (F := Ideal) m' g')
  obtain ⟨e0, e1, e2⟩ := harg c
  funext i
  rw [eq_ix2 i]
  refine (Cert.Reference10Ideal.Out.value_at (m' ((c : Thread Cert.Reference10Ideal.nD Cert.Reference10Ideal.τ).loc Cert.Reference10Ideal.main_arg0))
    (m' ((c : Thread Cert.Reference10Ideal.nD Cert.Reference10Ideal.τ).loc Cert.Reference10Ideal.main_arg1))
    (m' ((c : Thread Cert.Reference10Ideal.nD Cert.Reference10Ideal.τ).loc Cert.Reference10Ideal.main_arg2)) (i 0) (i 1)).trans ?_
  rw [e0, e1, e2]
  exact (Cert.Kernel10Ideal.Out.value_at m c (i 0) (i 1)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite_rows.Gen.facts,
  fun m ρ _ => Cert.Kernel.Attn.frame m ρ, fun m ρ _ => Cert.KernelIdeal.Attn.frame m ρ,
  fun m ρ _ => Cert.KernelIdeal.Attn.frame m ρ, frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  fun m ρ _ => Cert.Kernel7.Gen.frame m ρ, fun m ρ _ => Cert.Kernel7Ideal.Gen.frame m ρ, frame_ri7,
  fun m ρ _ => Cert.Kernel8.Gen.frame m ρ, fun m ρ _ => Cert.Kernel8Ideal.Gen.frame m ρ, frame_ri8,
  fun m ρ _ => Cert.Kernel9.Gen.frame m ρ, fun m ρ _ => Cert.Kernel9Ideal.Gen.frame m ρ, frame_ri9,
  fun m ρ _ => Cert.Kernel10.Gen.frame m ρ, fun m ρ _ => Cert.Kernel10Ideal.Gen.frame m ρ, frame_ri10,
  preserves, algebraic, trivial, algebraic2, trivial, algebraic3, trivial, algebraic4,
  trivial, algebraic5, trivial, algebraic6,
  trivial, algebraic7, trivial, algebraic8, trivial, algebraic9, trivial, algebraic10⟩

end Cert.Proof

end
